-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Mining (m : (ℓ : Loc Cert.Mining.nD Cert.Mining.τ Cert.Mining.sig) → Buf (Elt Bits) ℓ) : Prop :=
  True

def Pre_Mining_mineable [hPre_mineable : Cert.Pre_mineable.Facts] (m : (ℓ : Loc Cert.Mining.nD Cert.Mining.τ Cert.Mining.sig) → Buf (Elt Bits) ℓ) : Prop :=
  ∀ c : Dev Cert.Mining.nD,
    (Cert.Pre_mineable.fn (F := Bits) (m ((c.tc : Thread Cert.Mining.nD Cert.Mining.τ).loc Cert.Mining.main_arg0)) (m ((c.tc : Thread Cert.Mining.nD Cert.Mining.τ).loc Cert.Mining.main_arg1))) = (fun _ => 1#1)

def Pre_MiningReference [hPre_mineable : Cert.Pre_mineable.Facts] (m : (ℓ : Loc Cert.MiningReference.nD Cert.MiningReference.τ Cert.MiningReference.sig) → Buf (Elt Bits) ℓ) : Prop :=
  ∀ c : Dev Cert.MiningReference.nD,
    (Cert.Pre_mineable.fn (F := Bits) (m ((c.tc : Thread Cert.MiningReference.nD Cert.MiningReference.τ).loc Cert.MiningReference.main_arg0)) (m ((c.tc : Thread Cert.MiningReference.nD Cert.MiningReference.τ).loc Cert.MiningReference.main_arg1))) = (fun _ => 1#1)

def Pre_AlikeIdeal (m : (ℓ : Loc Cert.AlikeIdeal.nD Cert.AlikeIdeal.τ Cert.AlikeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mining [hMining : Cert.Mining.Facts] : Prop :=
  ∀ (m : (ℓ : Loc Cert.Mining.nD Cert.Mining.τ Cert.Mining.sig) → Buf (Elt Bits) ℓ) (g : Dev Cert.Mining.nD → PrngReg), Pre_Mining m →
    θ_run (Cert.Mining.defs (F := Bits)) (onTc (τ := Cert.Mining.τ) (Cert.Mining.main (F := Bits))) ⟨m, fun _ => 0, g⟩ (fun r => (∀ c : Dev Cert.Mining.nD,
      r.2.mem ((c.tc : Thread Cert.Mining.nD Cert.Mining.τ).loc Cert.Mining.main_arg0) = m ((c.tc : Thread Cert.Mining.nD Cert.Mining.τ).loc Cert.Mining.main_arg0)
      ∧ r.2.mem ((c.tc : Thread Cert.Mining.nD Cert.Mining.τ).loc Cert.Mining.main_arg1) = m ((c.tc : Thread Cert.Mining.nD Cert.Mining.τ).loc Cert.Mining.main_arg1))
      ∧ r.2.sem = fun _ => 0)

def quiescent_Mining_pre_mineable [hMining : Cert.Mining.Facts] [hPre_mineable : Cert.Pre_mineable.Facts] : Prop :=
  ∀ (m : (ℓ : Loc Cert.Mining.nD Cert.Mining.τ Cert.Mining.sig) → Buf (Elt Bits) ℓ) (g : Dev Cert.Mining.nD → PrngReg), Pre_Mining_mineable m →
    θ_run (Cert.Mining.defs (F := Bits)) (onTc (τ := Cert.Mining.τ) (Cert.Mining.main (F := Bits))) ⟨m, fun _ => 0, g⟩ (fun r => (∀ c : Dev Cert.Mining.nD,
      r.2.mem ((c.tc : Thread Cert.Mining.nD Cert.Mining.τ).loc Cert.Mining.main_arg0) = m ((c.tc : Thread Cert.Mining.nD Cert.Mining.τ).loc Cert.Mining.main_arg0)
      ∧ r.2.mem ((c.tc : Thread Cert.Mining.nD Cert.Mining.τ).loc Cert.Mining.main_arg1) = m ((c.tc : Thread Cert.Mining.nD Cert.Mining.τ).loc Cert.Mining.main_arg1))
      ∧ r.2.sem = fun _ => 0)

def quiescent_MiningReference [hMiningReference : Cert.MiningReference.Facts] [hPre_mineable : Cert.Pre_mineable.Facts] : Prop :=
  ∀ (m : (ℓ : Loc Cert.MiningReference.nD Cert.MiningReference.τ Cert.MiningReference.sig) → Buf (Elt Bits) ℓ) (g : Dev Cert.MiningReference.nD → PrngReg), Pre_MiningReference m →
    θ_run (Cert.MiningReference.defs (F := Bits)) (onTc (τ := Cert.MiningReference.τ) (Cert.MiningReference.main (F := Bits))) ⟨m, fun _ => 0, g⟩ (fun r => (∀ c : Dev Cert.MiningReference.nD,
      r.2.mem ((c.tc : Thread Cert.MiningReference.nD Cert.MiningReference.τ).loc Cert.MiningReference.main_arg0) = m ((c.tc : Thread Cert.MiningReference.nD Cert.MiningReference.τ).loc Cert.MiningReference.main_arg0)
      ∧ r.2.mem ((c.tc : Thread Cert.MiningReference.nD Cert.MiningReference.τ).loc Cert.MiningReference.main_arg1) = m ((c.tc : Thread Cert.MiningReference.nD Cert.MiningReference.τ).loc Cert.MiningReference.main_arg1))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Mining_MiningReference_pre_mineable [hMining : Cert.Mining.Facts] [hMiningReference : Cert.MiningReference.Facts] [hPre_mineable : Cert.Pre_mineable.Facts] : Prop :=
  ∀ (m : (ℓ : Loc Cert.Mining.nD Cert.Mining.τ Cert.Mining.sig) → Buf (Elt Bits) ℓ) (g : Dev Cert.Mining.nD → PrngReg)
    (m' : (ℓ : Loc Cert.MiningReference.nD Cert.MiningReference.τ Cert.MiningReference.sig) → Buf (Elt Bits) ℓ) (g' : Dev Cert.MiningReference.nD → PrngReg), Pre_Mining_mineable m →
    (∀ c : Dev Cert.Mining.nD,
      m' ((c.tc : Thread Cert.MiningReference.nD Cert.MiningReference.τ).loc Cert.MiningReference.main_arg0) = m ((c.tc : Thread Cert.Mining.nD Cert.Mining.τ).loc Cert.Mining.main_arg0)
      ∧ m' ((c.tc : Thread Cert.MiningReference.nD Cert.MiningReference.τ).loc Cert.MiningReference.main_arg1) = m ((c.tc : Thread Cert.Mining.nD Cert.Mining.τ).loc Cert.Mining.main_arg1)) →
    ∃ (v0 : (c : Dev Cert.Mining.nD) → Buf (Elt Bits) ((c.tc : Thread Cert.Mining.nD Cert.Mining.τ).loc Cert.Mining.main_v12)),
      θ_run (Cert.Mining.defs (F := Bits)) (onTc (τ := Cert.Mining.τ) (Cert.Mining.main (F := Bits))) ⟨m, fun _ => 0, g⟩ (fun r => ∀ c : Dev Cert.Mining.nD,
          r.2.mem ((c.tc : Thread Cert.Mining.nD Cert.Mining.τ).loc Cert.Mining.main_v12) = v0 c
          ∧ r.2.mem ((c.tc : Thread Cert.Mining.nD Cert.Mining.τ).loc Cert.Mining.main_arg0) = m ((c.tc : Thread Cert.Mining.nD Cert.Mining.τ).loc Cert.Mining.main_arg0)
          ∧ r.2.mem ((c.tc : Thread Cert.Mining.nD Cert.Mining.τ).loc Cert.Mining.main_arg1) = m ((c.tc : Thread Cert.Mining.nD Cert.Mining.τ).loc Cert.Mining.main_arg1))
      ∧ θ_run (Cert.MiningReference.defs (F := Bits)) (onTc (τ := Cert.MiningReference.τ) (Cert.MiningReference.main (F := Bits))) ⟨m', fun _ => 0, g'⟩ (fun r => ∀ c : Dev Cert.MiningReference.nD,
          r.2.mem ((c.tc : Thread Cert.MiningReference.nD Cert.MiningReference.τ).loc Cert.MiningReference.main_v27) = v0 c
          ∧ r.2.mem ((c.tc : Thread Cert.MiningReference.nD Cert.MiningReference.τ).loc Cert.MiningReference.main_arg0) = m' ((c.tc : Thread Cert.MiningReference.nD Cert.MiningReference.τ).loc Cert.MiningReference.main_arg0)
          ∧ r.2.mem ((c.tc : Thread Cert.MiningReference.nD Cert.MiningReference.τ).loc Cert.MiningReference.main_arg1) = m' ((c.tc : Thread Cert.MiningReference.nD Cert.MiningReference.τ).loc Cert.MiningReference.main_arg1))

def disproves_holds_AlikeIdeal_localizes [hAlikeIdeal : Cert.AlikeIdeal.Facts] [hPost_localizes : Cert.Post_localizes.Facts] : Prop :=
  ∀ (m : (ℓ : Loc Cert.AlikeIdeal.nD Cert.AlikeIdeal.τ Cert.AlikeIdeal.sig) → Buf (Elt Ideal) ℓ) (g : Dev Cert.AlikeIdeal.nD → PrngReg),
    (∀ c : Dev Cert.AlikeIdeal.nD,
      m ((c.tc : Thread Cert.AlikeIdeal.nD Cert.AlikeIdeal.τ).loc Cert.AlikeIdeal.main_arg0) = Cert.Cx_AlikeIdeal.arg0 (F := Ideal)
      ∧ m ((c.tc : Thread Cert.AlikeIdeal.nD Cert.AlikeIdeal.τ).loc Cert.AlikeIdeal.main_arg1) = Cert.Cx_AlikeIdeal.arg1 (F := Ideal)
      ∧ m ((c.tc : Thread Cert.AlikeIdeal.nD Cert.AlikeIdeal.τ).loc Cert.AlikeIdeal.main_arg2) = Cert.Cx_AlikeIdeal.arg2 (F := Ideal)
      ∧ m ((c.tc : Thread Cert.AlikeIdeal.nD Cert.AlikeIdeal.τ).loc Cert.AlikeIdeal.main_arg3) = Cert.Cx_AlikeIdeal.arg3 (F := Ideal)) →
    Pre_AlikeIdeal m
    ∧ θ_run (Cert.AlikeIdeal.defs (F := Ideal)) (onTc (τ := Cert.AlikeIdeal.τ) (Cert.AlikeIdeal.main (F := Ideal))) ⟨m, fun _ => 0, g⟩ (fun r => ¬ (∀ c : Dev Cert.AlikeIdeal.nD,
      (Cert.Post_localizes.fn (F := Ideal) (m ((c.tc : Thread Cert.AlikeIdeal.nD Cert.AlikeIdeal.τ).loc Cert.AlikeIdeal.main_arg0)) (m ((c.tc : Thread Cert.AlikeIdeal.nD Cert.AlikeIdeal.τ).loc Cert.AlikeIdeal.main_arg1)) (m ((c.tc : Thread Cert.AlikeIdeal.nD Cert.AlikeIdeal.τ).loc Cert.AlikeIdeal.main_arg2)) (m ((c.tc : Thread Cert.AlikeIdeal.nD Cert.AlikeIdeal.τ).loc Cert.AlikeIdeal.main_arg3)) (r.2.mem ((c.tc : Thread Cert.AlikeIdeal.nD Cert.AlikeIdeal.τ).loc Cert.AlikeIdeal.main_v6_0)) (r.2.mem ((c.tc : Thread Cert.AlikeIdeal.nD Cert.AlikeIdeal.τ).loc Cert.AlikeIdeal.main_v6_1))) = (fun _ => 1#1)))

def Claim : Prop :=
  ∃ (hKernel : Cert.Kernel.Facts) (hKernelIdeal : Cert.KernelIdeal.Facts) (hReferenceIdeal : Cert.ReferenceIdeal.Facts) (hMining : Cert.Mining.Facts) (hMiningReference : Cert.MiningReference.Facts) (hAlikeIdeal : Cert.AlikeIdeal.Facts) (hPre_drawn : Cert.Pre_drawn.Facts) (hPre_mineable : Cert.Pre_mineable.Facts) (hPost_localizes : Cert.Post_localizes.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ quiescent_Mining (hMining := hMining)
    ∧ quiescent_Mining_pre_mineable (hMining := hMining) (hPre_mineable := hPre_mineable)
    ∧ quiescent_MiningReference (hMiningReference := hMiningReference) (hPre_mineable := hPre_mineable)
    ∧ preserves_Kernel_KernelIdeal
    ∧ algebraic_KernelIdeal_ReferenceIdeal_pre_drawn (hKernelIdeal := hKernelIdeal) (hReferenceIdeal := hReferenceIdeal) (hPre_drawn := hPre_drawn)
    ∧ bitexact_Mining_MiningReference_pre_mineable (hMining := hMining) (hMiningReference := hMiningReference) (hPre_mineable := hPre_mineable)
    ∧ disproves_holds_AlikeIdeal_localizes (hAlikeIdeal := hAlikeIdeal) (hPost_localizes := hPost_localizes)
-- ==== Cx_AlikeIdeal.lean ====
noncomputable def arg0_words : Fin 4 → BitVec 32 :=
  ![0x3F800000#32, 0x3F800000#32, 0x3F800000#32, 0x3F800000#32]
noncomputable def arg0 {F : FTy → Type} [FloatOps F] : FVec F (⟨1, ![4]⟩ : Shape) .f32 := fun i => FloatOps.ofBits .f32 (arg0_words (i 0))

noncomputable def arg1_words : Fin 81 → BitVec 32 :=
  ![0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32]
noncomputable def arg1 {F : FTy → Type} [FloatOps F] : FVec F (⟨1, ![81]⟩ : Shape) .f32 := fun i => FloatOps.ofBits .f32 (arg1_words (i 0))

noncomputable def arg2_words : Fin 4 → BitVec 32 :=
  ![0x3F000000#32, 0x3F000000#32, 0x3F800000#32, 0x3F800000#32]
noncomputable def arg2 {F : FTy → Type} [FloatOps F] : FVec F (⟨1, ![4]⟩ : Shape) .f32 := fun i => FloatOps.ofBits .f32 (arg2_words (i 0))

noncomputable def arg3_words : Fin 5 → BitVec 32 :=
  ![0x00000000#32, 0x00000000#32, 0x3F800000#32, 0x3F800000#32, 0x00000000#32]
noncomputable def arg3 {F : FTy → Type} [FloatOps F] : FVec F (⟨1, ![5]⟩ : Shape) .f32 := fun i => FloatOps.ofBits .f32 (arg3_words (i 0))
-- ==== Post_localizes.lean ====
abbrev S4 : Shape := ⟨1, ![4]⟩
abbrev S81 : Shape := ⟨1, ![81]⟩
abbrev S5 : Shape := ⟨1, ![5]⟩
abbrev S32x1x8732 : Shape := ⟨3, ![32, 1, 8732]⟩
abbrev S32x1x128 : Shape := ⟨3, ![32, 1, 128]⟩
abbrev S32x8732x4 : Shape := ⟨3, ![32, 8732, 4]⟩
abbrev S32x8732x81 : Shape := ⟨3, ![32, 8732, 81]⟩
abbrev S8732x4 : Shape := ⟨2, ![8732, 4]⟩
abbrev S32x20x5 : Shape := ⟨3, ![32, 20, 5]⟩
abbrev S32x20x4 : Shape := ⟨3, ![32, 20, 4]⟩
abbrev S32x20x1 : Shape := ⟨3, ![32, 20, 1]⟩
abbrev S32x20 : Shape := ⟨2, ![32, 20]⟩
abbrev S32 : Shape := ⟨1, ![32]⟩
abbrev S32x1 : Shape := ⟨2, ![32, 1]⟩
abbrev S8732x2 : Shape := ⟨2, ![8732, 2]⟩
abbrev S_ : Shape := ⟨0, ![]⟩
abbrev S32x20x2 : Shape := ⟨3, ![32, 20, 2]⟩
abbrev S32x20x1x2 : Shape := ⟨4, ![32, 20, 1, 2]⟩
abbrev S1x8732x2 : Shape := ⟨3, ![1, 8732, 2]⟩
abbrev S1x1x8732x2 : Shape := ⟨4, ![1, 1, 8732, 2]⟩
abbrev S32x20x8732x2 : Shape := ⟨4, ![32, 20, 8732, 2]⟩
abbrev S32x20x8732x1 : Shape := ⟨4, ![32, 20, 8732, 1]⟩
abbrev S32x20x8732 : Shape := ⟨3, ![32, 20, 8732]⟩
abbrev S8732x1 : Shape := ⟨2, ![8732, 1]⟩
abbrev S8732 : Shape := ⟨1, ![8732]⟩
abbrev S1x8732 : Shape := ⟨2, ![1, 8732]⟩
abbrev S1x1x8732 : Shape := ⟨3, ![1, 1, 8732]⟩
abbrev S32x8732 : Shape := ⟨2, ![32, 8732]⟩
abbrev S20 : Shape := ⟨1, ![20]⟩
abbrev S32x8732x1 : Shape := ⟨3, ![32, 8732, 1]⟩
abbrev S32x8732x2 : Shape := ⟨3, ![32, 8732, 2]⟩
abbrev S32x1x1 : Shape := ⟨3, ![32, 1, 1]⟩

class Facts : Prop where
  bcast_S4_S32x8732x4_2 : S4.BroadcastsInDim S32x8732x4 (![2] : Fin 1 → Fin S32x8732x4.rank)
  bcast_S81_S32x8732x81_2 : S81.BroadcastsInDim S32x8732x81 (![2] : Fin 1 → Fin S32x8732x81.rank)
  bcast_S4_S8732x4_1 : S4.BroadcastsInDim S8732x4 (![1] : Fin 1 → Fin S8732x4.rank)
  bcast_S5_S32x20x5_2 : S5.BroadcastsInDim S32x20x5 (![2] : Fin 1 → Fin S32x20x5.rank)
  slices_S32x20x5_S32x20x4_0_0_0 : S32x20x5.Slices ![0, 0, 0] S32x20x4
  slices_S32x20x5_S32x20x1_0_0_4 : S32x20x5.Slices ![0, 0, 4] S32x20x1
  shapeCasts_S32x20x1_S32x20 : S32x20x1.ShapeCasts S32x20
  bcast_S32_S32x1_0 : S32.BroadcastsInDim S32x1 (![0] : Fin 1 → Fin S32x1.rank)
  slices_S8732x4_S8732x2_0_0 : S8732x4.Slices ![0, 0] S8732x2
  slices_S8732x4_S8732x2_0_2 : S8732x4.Slices ![0, 2] S8732x2
  bcast_S_S8732x2 : S_.BroadcastsInDim S8732x2 (![] : Fin 0 → Fin S8732x2.rank)
  concatenates_S8732x2_S8732x2_S8732x4_d1 : Shape.Concatenates [S8732x2, S8732x2] S8732x4 1
  slices_S32x20x4_S32x20x2_0_0_2 : S32x20x4.Slices ![0, 0, 2] S32x20x2
  bcast_S32x20x2_S32x20x1x2_0_1_3 : S32x20x2.BroadcastsInDim S32x20x1x2 (![0, 1, 3] : Fin 3 → Fin S32x20x1x2.rank)
  bcast_S8732x2_S1x8732x2_1_2 : S8732x2.BroadcastsInDim S1x8732x2 (![1, 2] : Fin 2 → Fin S1x8732x2.rank)
  bcast_S1x8732x2_S1x1x8732x2_1_2_3 : S1x8732x2.BroadcastsInDim S1x1x8732x2 (![1, 2, 3] : Fin 3 → Fin S1x1x8732x2.rank)
  bcast_S32x20x1x2_S32x20x8732x2_0_1_2_3 : S32x20x1x2.BroadcastsInDim S32x20x8732x2 (![0, 1, 2, 3] : Fin 4 → Fin S32x20x8732x2.rank)
  bcast_S1x1x8732x2_S32x20x8732x2_0_1_2_3 : S1x1x8732x2.BroadcastsInDim S32x20x8732x2 (![0, 1, 2, 3] : Fin 4 → Fin S32x20x8732x2.rank)
  slices_S32x20x4_S32x20x2_0_0_0 : S32x20x4.Slices ![0, 0, 0] S32x20x2
  bcast_S_S32x20x8732x2 : S_.BroadcastsInDim S32x20x8732x2 (![] : Fin 0 → Fin S32x20x8732x2.rank)
  slices_S32x20x8732x2_S32x20x8732x1_0_0_0_0 : S32x20x8732x2.Slices ![0, 0, 0, 0] S32x20x8732x1
  shapeCasts_S32x20x8732x1_S32x20x8732 : S32x20x8732x1.ShapeCasts S32x20x8732
  slices_S32x20x8732x2_S32x20x8732x1_0_0_0_1 : S32x20x8732x2.Slices ![0, 0, 0, 1] S32x20x8732x1
  slices_S32x20x4_S32x20x1_0_0_2 : S32x20x4.Slices ![0, 0, 2] S32x20x1
  slices_S32x20x4_S32x20x1_0_0_0 : S32x20x4.Slices ![0, 0, 0] S32x20x1
  slices_S32x20x4_S32x20x1_0_0_3 : S32x20x4.Slices ![0, 0, 3] S32x20x1
  slices_S32x20x4_S32x20x1_0_0_1 : S32x20x4.Slices ![0, 0, 1] S32x20x1
  bcast_S32x20_S32x20x1_0_1 : S32x20.BroadcastsInDim S32x20x1 (![0, 1] : Fin 2 → Fin S32x20x1.rank)
  slices_S8732x4_S8732x1_0_2 : S8732x4.Slices ![0, 2] S8732x1
  shapeCasts_S8732x1_S8732 : S8732x1.ShapeCasts S8732
  slices_S8732x4_S8732x1_0_0 : S8732x4.Slices ![0, 0] S8732x1
  slices_S8732x4_S8732x1_0_3 : S8732x4.Slices ![0, 3] S8732x1
  slices_S8732x4_S8732x1_0_1 : S8732x4.Slices ![0, 1] S8732x1
  bcast_S8732_S1x8732_1 : S8732.BroadcastsInDim S1x8732 (![1] : Fin 1 → Fin S1x8732.rank)
  bcast_S1x8732_S1x1x8732_1_2 : S1x8732.BroadcastsInDim S1x1x8732 (![1, 2] : Fin 2 → Fin S1x1x8732.rank)
  bcast_S32x20x1_S32x20x8732_0_1_2 : S32x20x1.BroadcastsInDim S32x20x8732 (![0, 1, 2] : Fin 3 → Fin S32x20x8732.rank)
  bcast_S1x1x8732_S32x20x8732_0_1_2 : S1x1x8732.BroadcastsInDim S32x20x8732 (![0, 1, 2] : Fin 3 → Fin S32x20x8732.rank)
  reducesTo_S32x20x8732_S32x20_d2 : S32x20x8732.ReducesTo [2] S32x20
  h_S_ : 0 < S_.numel
  reducesTo_S32x20x8732_S32x8732_d1 : S32x20x8732.ReducesTo [1] S32x8732
  bcast_S_S32x1 : S_.BroadcastsInDim S32x1 (![] : Fin 0 → Fin S32x1.rank)
  bcast_S_S32x20 : S_.BroadcastsInDim S32x20 (![] : Fin 0 → Fin S32x20.rank)
  bcast_S32x1_S32x20_0_1 : S32x1.BroadcastsInDim S32x20 (![0, 1] : Fin 2 → Fin S32x20.rank)
  concatenates_S32x20x1_S32x20x1_S32x20x2_d2 : Shape.Concatenates [S32x20x1, S32x20x1] S32x20x2 2
  bcast_S20_S32x20_1 : S20.BroadcastsInDim S32x20 (![1] : Fin 1 → Fin S32x20.rank)
  bcast_S_S32x8732 : S_.BroadcastsInDim S32x8732 (![] : Fin 0 → Fin S32x8732.rank)
  bcast_S32x1_S32x8732_0_1 : S32x1.BroadcastsInDim S32x8732 (![0, 1] : Fin 2 → Fin S32x8732.rank)
  bcast_S32x8732_S32x8732x1_0_1 : S32x8732.BroadcastsInDim S32x8732x1 (![0, 1] : Fin 2 → Fin S32x8732x1.rank)
  concatenates_S32x8732x1_S32x8732x1_S32x8732x2_d2 : Shape.Concatenates [S32x8732x1, S32x8732x1] S32x8732x2 2
  slices_S32x8732x4_S32x8732x2_0_0_0 : S32x8732x4.Slices ![0, 0, 0] S32x8732x2
  slices_S32x8732x4_S32x8732x2_0_0_2 : S32x8732x4.Slices ![0, 0, 2] S32x8732x2
  bcast_S_S32x8732x2 : S_.BroadcastsInDim S32x8732x2 (![] : Fin 0 → Fin S32x8732x2.rank)
  bcast_S1x8732x2_S32x8732x2_0_1_2 : S1x8732x2.BroadcastsInDim S32x8732x2 (![0, 1, 2] : Fin 3 → Fin S32x8732x2.rank)
  concatenates_S32x8732x2_S32x8732x2_S32x8732x4_d2 : Shape.Concatenates [S32x8732x2, S32x8732x2] S32x8732x4 2
  bcast_S_S32x8732x4 : S_.BroadcastsInDim S32x8732x4 (![] : Fin 0 → Fin S32x8732x4.rank)
  bcast_S32x8732x1_S32x8732x4_0_1_2 : S32x8732x1.BroadcastsInDim S32x8732x4 (![0, 1, 2] : Fin 3 → Fin S32x8732x4.rank)
  reducesTo_S32x8732x4_S32_d1_2 : S32x8732x4.ReducesTo [1, 2] S32
  slices_S32x1x128_S32x1x1_0_0_0 : S32x1x128.Slices ![0, 0, 0] S32x1x1
  shapeCasts_S32x1x1_S32 : S32x1x1.ShapeCasts S32
  scatter_S32x8732_S32x20x2_S32x20_n_01_01_2_wf : ScatterDims.WF S32x8732 S32x20x2 S32x20 [] [0, 1] [0, 1] 2
  gather_S32x20x4_S32x8732x2_S32x8732x4_2_01_n_n_01_2_114_wf : GatherDims.WF S32x20x4 S32x8732x2 S32x8732x4 [2] [0, 1] [] [0, 1] [] 2 ![1, 1, 4]
  gather_S32x20_S32x8732x2_S32x8732_n_01_n_n_01_2_11_wf : GatherDims.WF S32x20 S32x8732x2 S32x8732 [] [0, 1] [] [0, 1] [] 2 ![1, 1]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S32x8732_S32x20x2_S32x20_n_01_01_2 : ScatterDims S32x8732 S32x20x2 S32x20 where
  updateWindowDims := []
  insertedWindowDims := [0, 1]
  scatterDimsToOperandDims := [0, 1]
  indexVectorDim := 2
  wf := scatter_S32x8732_S32x20x2_S32x20_n_01_01_2_wf
def gather_S32x20x4_S32x8732x2_S32x8732x4_2_01_n_n_01_2_114 : GatherDims S32x20x4 S32x8732x2 S32x8732x4 where
  offsetDims := [2]
  collapsedSliceDims := [0, 1]
  operandBatchingDims := []
  startIndicesBatchingDims := []
  startIndexMap := [0, 1]
  indexVectorDim := 2
  sliceSizes := ![1, 1, 4]
  wf := gather_S32x20x4_S32x8732x2_S32x8732x4_2_01_n_n_01_2_114_wf
def gather_S32x20_S32x8732x2_S32x8732_n_01_n_n_01_2_11 : GatherDims S32x20 S32x8732x2 S32x8732 where
  offsetDims := []
  collapsedSliceDims := [0, 1]
  operandBatchingDims := []
  startIndicesBatchingDims := []
  startIndexMap := [0, 1]
  indexVectorDim := 2
  sliceSizes := ![1, 1]
  wf := gather_S32x20_S32x8732x2_S32x8732_n_01_n_n_01_2_11_wf

def fn_clip {F : FTy → Type} [FloatOps F] (arg0 : FVec F S32x20x8732x2 .f32) (arg1 : FVec F S_ .f32) : FVec F S32x20x8732x2 .f32 :=
  let v0 : FVec F S_ .f32 := id arg1
  let v1 : FVec F S32x20x8732x2 .f32 := broadcastInDim S32x20x8732x2 ![] bcast_S_S32x20x8732x2 v0
  let v2 : FVec F S32x20x8732x2 .f32 := maximumf v1 arg0
  v2

def fn_argmax {F : FTy → Type} [FloatOps F] (arg0 : FVec F S32x20x8732 .f32) : IVec S32x20 32 :=
  let v0 : IVec S32x20x8732 32 := iotaInDim S32x20x8732 32 2
  let cst : FVec F S_ .f32 := constant S_ .f32 0xFF800000#32
  let c : IVec S_ 32 := constantI S_ 32 0#32
  let v1_0 : FVec F S32x20 .f32 := (fun x y u v j => (Host.argReduce reducer_argmax_f32_i32 x y u v reducesTo_S32x20x8732_S32x20_d2 h_S_ j).1) arg0 v0 cst c
  let v1_1 : IVec S32x20 32 := (fun x y u v j => (Host.argReduce reducer_argmax_f32_i32 x y u v reducesTo_S32x20x8732_S32x20_d2 h_S_ j).2) arg0 v0 cst c
  v1_1

def fn_argmax_0 {F : FTy → Type} [FloatOps F] (arg0 : FVec F S32x20x8732 .f32) : IVec S32x8732 32 :=
  let v0 : IVec S32x20x8732 32 := iotaInDim S32x20x8732 32 1
  let cst : FVec F S_ .f32 := constant S_ .f32 0xFF800000#32
  let c : IVec S_ 32 := constantI S_ 32 0#32
  let v1_0 : FVec F S32x8732 .f32 := (fun x y u v j => (Host.argReduce reducer_argmax_f32_i32 x y u v reducesTo_S32x20x8732_S32x8732_d1 h_S_ j).1) arg0 v0 cst c
  let v1_1 : IVec S32x8732 32 := (fun x y u v j => (Host.argReduce reducer_argmax_f32_i32 x y u v reducesTo_S32x20x8732_S32x8732_d1 h_S_ j).2) arg0 v0 cst c
  v1_1

def fn_where {F : FTy → Type} [FloatOps F] (arg0 : IVec S32x8732 1) (arg1 : IVec S_ 32) (arg2 : IVec S32x8732 32) : IVec S32x8732 32 :=
  let v0 : IVec S_ 32 := id arg1
  let v1 : IVec S32x8732 32 := broadcastInDim S32x8732 ![] bcast_S_S32x8732 v0
  let v2 : IVec S32x8732 32 := select arg0 v1 arg2
  v2

def fn_where_1 {F : FTy → Type} [FloatOps F] (arg0 : IVec S32x8732x4 1) (arg1 : FVec F S32x8732x4 .f32) (arg2 : FVec F S32x8732x4 .f32) : FVec F S32x8732x4 .f32 :=
  let v0 : FVec F S32x8732x4 .f32 := select arg0 arg1 arg2
  v0

def fn_part9 {F : FTy → Type} [FloatOps F] (main_arg5 : FVec F S32x1x128 .f32) (main_v144 : IVec S32x8732 32) (main_v182 : FVec F S32x8732x4 .f32) (main_v183 : IVec S32x8732 32) : IVec S32 1 :=
  let main_v184 : IVec S32x8732 1 := cmpi .sgt main_v144 main_v183
  let main_v185 : IVec S32x8732x1 1 := broadcastInDim S32x8732x1 ![0, 1] bcast_S32x8732_S32x8732x1_0_1 main_v184
  let main_v186 : FVec F S32x8732x1 .f32 := uitofp .f32 main_v185
  let main_v187 : FVec F S32x8732x4 .f32 := broadcastInDim S32x8732x4 ![0, 1, 2] bcast_S32x8732x1_S32x8732x4_0_1_2 main_v186
  let main_v188 : FVec F S32x8732x4 .f32 := mulf main_v182 main_v187
  let main_cst_30 : FVec F S_ .f32 := constant S_ .f32 0x00000000#32
  let main_v189 : FVec F S32 .f32 := (fun x v => Host.reduceAdd x v reducesTo_S32x8732x4_S32_d1_2 h_S_) main_v188 main_cst_30
  let main_v190 : FVec F S32x1x1 .f32 := (extractStridedSlice S32x1x1 ![0, 0, 0] · slices_S32x1x128_S32x1x1_0_0_0) main_arg5
  let main_v191 : FVec F S32 .f32 := shapeCast S32 main_v190 shapeCasts_S32x1x1_S32
  let main_v192 : IVec S32 1 := cmpf .oeq main_v191 main_v189
  main_v192

def fn_part8 {F : FTy → Type} [FloatOps F] (main_arg5 : FVec F S32x1x128 .f32) (main_v0 : FVec F S32x8732x4 .f32) (main_v144 : IVec S32x8732 32) (main_v159 : FVec F S32x8732x2 .f32) (main_v162 : FVec F S32x8732x2 .f32) (main_v165 : FVec F S32x8732x2 .f32) : IVec S32 1 :=
  let main_v166 : FVec F S32x8732x2 .f32 := Host.divf main_v162 main_v165
  let main_cst_24 : FVec F S_ .f32 := constant S_ .f32 0x322BCC77#32
  let main_v167 : FVec F S32x8732x2 .f32 := broadcastInDim S32x8732x2 ![] bcast_S_S32x8732x2 main_cst_24
  let main_v168 : FVec F S32x8732x2 .f32 := maximumf main_v166 main_v167
  let main_v169 : FVec F S32x8732x2 .f32 := Host.log main_v168
  let main_cst_25 : FVec F S_ .f32 := constant S_ .f32 0x3E4CCCCD#32
  let main_v170 : FVec F S32x8732x2 .f32 := broadcastInDim S32x8732x2 ![] bcast_S_S32x8732x2 main_cst_25
  let main_v171 : FVec F S32x8732x2 .f32 := Host.divf main_v169 main_v170
  let main_v172 : FVec F S32x8732x4 .f32 := (fun a b => concatenate S32x8732x4 2 [⟨S32x8732x2, a⟩, ⟨S32x8732x2, b⟩] concatenates_S32x8732x2_S32x8732x2_S32x8732x4_d2) main_v159 main_v171
  let main_v173 : FVec F S32x8732x4 .f32 := subf main_v0 main_v172
  let main_v174 : FVec F S32x8732x4 .f32 := Host.absf main_v173
  let main_cst_26 : FVec F S_ .f32 := constant S_ .f32 0x3F800000#32
  let main_v175 : FVec F S32x8732x4 .f32 := broadcastInDim S32x8732x4 ![] bcast_S_S32x8732x4 main_cst_26
  let main_v176 : IVec S32x8732x4 1 := cmpf .olt main_v174 main_v175
  let main_cst_27 : FVec F S_ .f32 := constant S_ .f32 0x3F000000#32
  let main_v177 : FVec F S32x8732x4 .f32 := broadcastInDim S32x8732x4 ![] bcast_S_S32x8732x4 main_cst_27
  let main_v178 : FVec F S32x8732x4 .f32 := mulf main_v177 main_v173
  let main_v179 : FVec F S32x8732x4 .f32 := mulf main_v178 main_v173
  let main_cst_28 : FVec F S_ .f32 := constant S_ .f32 0x3F000000#32
  let main_v180 : FVec F S32x8732x4 .f32 := broadcastInDim S32x8732x4 ![] bcast_S_S32x8732x4 main_cst_28
  let main_v181 : FVec F S32x8732x4 .f32 := subf main_v174 main_v180
  let main_v182 : FVec F S32x8732x4 .f32 := fn_where_1 (F := F) main_v176 main_v179 main_v181
  let main_c_29 : IVec S_ 32 := constantI S_ 32 0#32
  let main_v183 : IVec S32x8732 32 := broadcastInDim S32x8732 ![] bcast_S_S32x8732 main_c_29
  fn_part9 (F := F) main_arg5 main_v144 main_v182 main_v183

def fn_part7 {F : FTy → Type} [FloatOps F] (main_arg5 : FVec F S32x1x128 .f32) (main_v0 : FVec F S32x8732x4 .f32) (main_v2 : FVec F S8732x4 .f32) (main_v123 : FVec F S32x8732x4 .f32) (main_v141 : IVec S32x8732 32) (main_v143 : IVec S32x8732 1) (main_c_21 : IVec S_ 32) : IVec S32 1 :=
  let main_v144 : IVec S32x8732 32 := fn_where (F := F) main_v143 main_c_21 main_v141
  let main_v145 : FVec F S32x8732x2 .f32 := (extractStridedSlice S32x8732x2 ![0, 0, 0] · slices_S32x8732x4_S32x8732x2_0_0_0) main_v123
  let main_v146 : FVec F S32x8732x2 .f32 := (extractStridedSlice S32x8732x2 ![0, 0, 2] · slices_S32x8732x4_S32x8732x2_0_0_2) main_v123
  let main_v147 : FVec F S32x8732x2 .f32 := addf main_v145 main_v146
  let main_cst_22 : FVec F S_ .f32 := constant S_ .f32 0x40000000#32
  let main_v148 : FVec F S32x8732x2 .f32 := broadcastInDim S32x8732x2 ![] bcast_S_S32x8732x2 main_cst_22
  let main_v149 : FVec F S32x8732x2 .f32 := Host.divf main_v147 main_v148
  let main_v150 : FVec F S8732x2 .f32 := (extractStridedSlice S8732x2 ![0, 0] · slices_S8732x4_S8732x2_0_0) main_v2
  let main_v151 : FVec F S1x8732x2 .f32 := broadcastInDim S1x8732x2 ![1, 2] bcast_S8732x2_S1x8732x2_1_2 main_v150
  let main_v152 : FVec F S32x8732x2 .f32 := broadcastInDim S32x8732x2 ![0, 1, 2] bcast_S1x8732x2_S32x8732x2_0_1_2 main_v151
  let main_v153 : FVec F S32x8732x2 .f32 := subf main_v149 main_v152
  let main_v154 : FVec F S8732x2 .f32 := (extractStridedSlice S8732x2 ![0, 2] · slices_S8732x4_S8732x2_0_2) main_v2
  let main_cst_23 : FVec F S_ .f32 := constant S_ .f32 0x3DCCCCCD#32
  let main_v155 : FVec F S8732x2 .f32 := broadcastInDim S8732x2 ![] bcast_S_S8732x2 main_cst_23
  let main_v156 : FVec F S8732x2 .f32 := mulf main_v155 main_v154
  let main_v157 : FVec F S1x8732x2 .f32 := broadcastInDim S1x8732x2 ![1, 2] bcast_S8732x2_S1x8732x2_1_2 main_v156
  let main_v158 : FVec F S32x8732x2 .f32 := broadcastInDim S32x8732x2 ![0, 1, 2] bcast_S1x8732x2_S32x8732x2_0_1_2 main_v157
  let main_v159 : FVec F S32x8732x2 .f32 := Host.divf main_v153 main_v158
  let main_v160 : FVec F S32x8732x2 .f32 := (extractStridedSlice S32x8732x2 ![0, 0, 2] · slices_S32x8732x4_S32x8732x2_0_0_2) main_v123
  let main_v161 : FVec F S32x8732x2 .f32 := (extractStridedSlice S32x8732x2 ![0, 0, 0] · slices_S32x8732x4_S32x8732x2_0_0_0) main_v123
  let main_v162 : FVec F S32x8732x2 .f32 := subf main_v160 main_v161
  let main_v163 : FVec F S8732x2 .f32 := (extractStridedSlice S8732x2 ![0, 2] · slices_S8732x4_S8732x2_0_2) main_v2
  let main_v164 : FVec F S1x8732x2 .f32 := broadcastInDim S1x8732x2 ![1, 2] bcast_S8732x2_S1x8732x2_1_2 main_v163
  let main_v165 : FVec F S32x8732x2 .f32 := broadcastInDim S32x8732x2 ![0, 1, 2] bcast_S1x8732x2_S32x8732x2_0_1_2 main_v164
  fn_part8 (F := F) main_arg5 main_v0 main_v144 main_v159 main_v162 main_v165

def fn_part6 {F : FTy → Type} [FloatOps F] (main_arg5 : FVec F S32x1x128 .f32) (main_v0 : FVec F S32x8732x4 .f32) (main_v2 : FVec F S8732x4 .f32) (main_v6 : FVec F S32x20 .f32) (main_v8 : IVec S32x1 32) (main_v91 : FVec F S32x8732 .f32) (main_v108 : IVec S32x8732 32) (main_v123 : FVec F S32x8732x4 .f32) (main_v125 : IVec S32x1 1) : IVec S32 1 :=
  let main_c_16 : IVec S_ 32 := constantI S_ 32 32#32
  let main_v126 : IVec S32x1 32 := broadcastInDim S32x1 ![] bcast_S_S32x1 main_c_16
  let main_v127 : IVec S32x1 32 := addi main_v8 main_v126
  let main_v128 : IVec S32x1 32 := select main_v125 main_v127 main_v8
  let main_c_17 : IVec S_ 32 := constantI S_ 32 0#32
  let main_v129 : IVec S32x8732 32 := broadcastInDim S32x8732 ![] bcast_S_S32x8732 main_c_17
  let main_v130 : IVec S32x8732 1 := cmpi .slt main_v108 main_v129
  let main_c_18 : IVec S_ 32 := constantI S_ 32 20#32
  let main_v131 : IVec S32x8732 32 := broadcastInDim S32x8732 ![] bcast_S_S32x8732 main_c_18
  let main_v132 : IVec S32x8732 32 := addi main_v108 main_v131
  let main_v133 : IVec S32x8732 32 := select main_v130 main_v132 main_v108
  let main_v134 : IVec S32x8732 32 := broadcastInDim S32x8732 ![0, 1] bcast_S32x1_S32x8732_0_1 main_v128
  let main_v135 : IVec S32x8732x1 32 := broadcastInDim S32x8732x1 ![0, 1] bcast_S32x8732_S32x8732x1_0_1 main_v134
  let main_v136 : IVec S32x8732x1 32 := broadcastInDim S32x8732x1 ![0, 1] bcast_S32x8732_S32x8732x1_0_1 main_v133
  let main_v137 : IVec S32x8732x2 32 := (fun a b => concatenate S32x8732x2 2 [⟨S32x8732x1, a⟩, ⟨S32x8732x1, b⟩] concatenates_S32x8732x1_S32x8732x1_S32x8732x2_d2) main_v135 main_v136
  let main_v138 : FVec F S32x8732 .f32 := (fun x i => Host.gather gather_S32x20_S32x8732x2_S32x8732_n_01_n_n_01_2_11 x i) main_v6 main_v137
  let main_v139 : IVec S32x8732 32 := fptosi 32 main_v138
  let main_c_19 : IVec S_ 32 := constantI S_ 32 1#32
  let main_v140 : IVec S32x8732 32 := broadcastInDim S32x8732 ![] bcast_S_S32x8732 main_c_19
  let main_v141 : IVec S32x8732 32 := addi main_v139 main_v140
  let main_cst_20 : FVec F S_ .f32 := constant S_ .f32 0x3F000000#32
  let main_v142 : FVec F S32x8732 .f32 := broadcastInDim S32x8732 ![] bcast_S_S32x8732 main_cst_20
  let main_v143 : IVec S32x8732 1 := cmpf .olt main_v91 main_v142
  let main_c_21 : IVec S_ 32 := constantI S_ 32 0#32
  fn_part7 (F := F) main_arg5 main_v0 main_v2 main_v123 main_v141 main_v143 main_c_21

def fn_part5 {F : FTy → Type} [FloatOps F] (main_arg5 : FVec F S32x1x128 .f32) (main_v0 : FVec F S32x8732x4 .f32) (main_v2 : FVec F S8732x4 .f32) (main_v4 : FVec F S32x20x4 .f32) (main_v6 : FVec F S32x20 .f32) (main_v8 : IVec S32x1 32) (main_v75 : IVec S32x8732 32) (main_v91 : FVec F S32x8732 .f32) (main_v93 : IVec S32x20 32) (main_v105 : IVec S32x20x1 32) (main_v106 : IVec S32x20x1 32) : IVec S32 1 :=
  let main_v107 : IVec S32x20x2 32 := (fun a b => concatenate S32x20x2 2 [⟨S32x20x1, a⟩, ⟨S32x20x1, b⟩] concatenates_S32x20x1_S32x20x1_S32x20x2_d2) main_v105 main_v106
  let main_v108 : IVec S32x8732 32 := (fun x i u => Host.scatter scatter_S32x8732_S32x20x2_S32x20_n_01_01_2 (fun _ b => b) x i u) main_v75 main_v107 main_v93
  let main_c_11 : IVec S_ 32 := constantI S_ 32 0#32
  let main_v109 : IVec S32x1 32 := broadcastInDim S32x1 ![] bcast_S_S32x1 main_c_11
  let main_v110 : IVec S32x1 1 := cmpi .slt main_v8 main_v109
  let main_c_12 : IVec S_ 32 := constantI S_ 32 32#32
  let main_v111 : IVec S32x1 32 := broadcastInDim S32x1 ![] bcast_S_S32x1 main_c_12
  let main_v112 : IVec S32x1 32 := addi main_v8 main_v111
  let main_v113 : IVec S32x1 32 := select main_v110 main_v112 main_v8
  let main_c_13 : IVec S_ 32 := constantI S_ 32 0#32
  let main_v114 : IVec S32x8732 32 := broadcastInDim S32x8732 ![] bcast_S_S32x8732 main_c_13
  let main_v115 : IVec S32x8732 1 := cmpi .slt main_v108 main_v114
  let main_c_14 : IVec S_ 32 := constantI S_ 32 20#32
  let main_v116 : IVec S32x8732 32 := broadcastInDim S32x8732 ![] bcast_S_S32x8732 main_c_14
  let main_v117 : IVec S32x8732 32 := addi main_v108 main_v116
  let main_v118 : IVec S32x8732 32 := select main_v115 main_v117 main_v108
  let main_v119 : IVec S32x8732 32 := broadcastInDim S32x8732 ![0, 1] bcast_S32x1_S32x8732_0_1 main_v113
  let main_v120 : IVec S32x8732x1 32 := broadcastInDim S32x8732x1 ![0, 1] bcast_S32x8732_S32x8732x1_0_1 main_v119
  let main_v121 : IVec S32x8732x1 32 := broadcastInDim S32x8732x1 ![0, 1] bcast_S32x8732_S32x8732x1_0_1 main_v118
  let main_v122 : IVec S32x8732x2 32 := (fun a b => concatenate S32x8732x2 2 [⟨S32x8732x1, a⟩, ⟨S32x8732x1, b⟩] concatenates_S32x8732x1_S32x8732x1_S32x8732x2_d2) main_v120 main_v121
  let main_v123 : FVec F S32x8732x4 .f32 := (fun x i => Host.gather gather_S32x20x4_S32x8732x2_S32x8732x4_2_01_n_n_01_2_114 x i) main_v4 main_v122
  let main_c_15 : IVec S_ 32 := constantI S_ 32 0#32
  let main_v124 : IVec S32x1 32 := broadcastInDim S32x1 ![] bcast_S_S32x1 main_c_15
  let main_v125 : IVec S32x1 1 := cmpi .slt main_v8 main_v124
  fn_part6 (F := F) main_arg5 main_v0 main_v2 main_v6 main_v8 main_v91 main_v108 main_v123 main_v125

def fn_part4 {F : FTy → Type} [FloatOps F] (main_arg5 : FVec F S32x1x128 .f32) (main_v0 : FVec F S32x8732x4 .f32) (main_v2 : FVec F S8732x4 .f32) (main_v4 : FVec F S32x20x4 .f32) (main_v6 : FVec F S32x20 .f32) (main_v8 : IVec S32x1 32) (main_v73 : IVec S32x20 32) (main_v74 : FVec F S32x8732 .f32) (main_v75 : IVec S32x8732 32) (main_v85 : IVec S32x20 32) (main_v87 : IVec S32x20x1 32) : IVec S32 1 :=
  let main_v88 : IVec S32x20x1 32 := broadcastInDim S32x20x1 ![0, 1] bcast_S32x20_S32x20x1_0_1 main_v85
  let main_v89 : IVec S32x20x2 32 := (fun a b => concatenate S32x20x2 2 [⟨S32x20x1, a⟩, ⟨S32x20x1, b⟩] concatenates_S32x20x1_S32x20x1_S32x20x2_d2) main_v87 main_v88
  let main_cst_6 : FVec F S_ .f32 := constant S_ .f32 0x40000000#32
  let main_v90 : FVec F S32x20 .f32 := broadcastInDim S32x20 ![] bcast_S_S32x20 main_cst_6
  let main_v91 : FVec F S32x8732 .f32 := (fun x i u => Host.scatter scatter_S32x8732_S32x20x2_S32x20_n_01_01_2 (fun _ b => b) x i u) main_v74 main_v89 main_v90
  let main_v92 : IVec S20 32 := iotaInDim S20 32 0
  let main_v93 : IVec S32x20 32 := broadcastInDim S32x20 ![1] bcast_S20_S32x20_1 main_v92
  let main_c_7 : IVec S_ 32 := constantI S_ 32 0#32
  let main_v94 : IVec S32x1 32 := broadcastInDim S32x1 ![] bcast_S_S32x1 main_c_7
  let main_v95 : IVec S32x1 1 := cmpi .slt main_v8 main_v94
  let main_c_8 : IVec S_ 32 := constantI S_ 32 32#32
  let main_v96 : IVec S32x1 32 := broadcastInDim S32x1 ![] bcast_S_S32x1 main_c_8
  let main_v97 : IVec S32x1 32 := addi main_v8 main_v96
  let main_v98 : IVec S32x1 32 := select main_v95 main_v97 main_v8
  let main_c_9 : IVec S_ 32 := constantI S_ 32 0#32
  let main_v99 : IVec S32x20 32 := broadcastInDim S32x20 ![] bcast_S_S32x20 main_c_9
  let main_v100 : IVec S32x20 1 := cmpi .slt main_v73 main_v99
  let main_c_10 : IVec S_ 32 := constantI S_ 32 8732#32
  let main_v101 : IVec S32x20 32 := broadcastInDim S32x20 ![] bcast_S_S32x20 main_c_10
  let main_v102 : IVec S32x20 32 := addi main_v73 main_v101
  let main_v103 : IVec S32x20 32 := select main_v100 main_v102 main_v73
  let main_v104 : IVec S32x20 32 := broadcastInDim S32x20 ![0, 1] bcast_S32x1_S32x20_0_1 main_v98
  let main_v105 : IVec S32x20x1 32 := broadcastInDim S32x20x1 ![0, 1] bcast_S32x20_S32x20x1_0_1 main_v104
  let main_v106 : IVec S32x20x1 32 := broadcastInDim S32x20x1 ![0, 1] bcast_S32x20_S32x20x1_0_1 main_v103
  fn_part5 (F := F) main_arg5 main_v0 main_v2 main_v4 main_v6 main_v8 main_v75 main_v91 main_v93 main_v105 main_v106

def fn_part3 {F : FTy → Type} [FloatOps F] (main_arg5 : FVec F S32x1x128 .f32) (main_v0 : FVec F S32x8732x4 .f32) (main_v2 : FVec F S8732x4 .f32) (main_v4 : FVec F S32x20x4 .f32) (main_v6 : FVec F S32x20 .f32) (main_v8 : IVec S32x1 32) (main_v42 : FVec F S32x20x8732 .f32) (main_v67 : FVec F S1x1x8732 .f32) (main_v68 : FVec F S32x20x8732 .f32) : IVec S32 1 :=
  let main_v69 : FVec F S32x20x8732 .f32 := broadcastInDim S32x20x8732 ![0, 1, 2] bcast_S1x1x8732_S32x20x8732_0_1_2 main_v67
  let main_v70 : FVec F S32x20x8732 .f32 := addf main_v68 main_v69
  let main_v71 : FVec F S32x20x8732 .f32 := subf main_v70 main_v42
  let main_v72 : FVec F S32x20x8732 .f32 := Host.divf main_v42 main_v71
  let main_v73 : IVec S32x20 32 := fn_argmax (F := F) main_v72
  let main_cst_2 : FVec F S_ .f32 := constant S_ .f32 0xFF800000#32
  let main_v74 : FVec F S32x8732 .f32 := (fun x v => Host.reduce FloatOps.maximumf x v reducesTo_S32x20x8732_S32x8732_d1 h_S_) main_v72 main_cst_2
  let main_v75 : IVec S32x8732 32 := fn_argmax_0 (F := F) main_v72
  let main_c : IVec S_ 32 := constantI S_ 32 0#32
  let main_v76 : IVec S32x1 32 := broadcastInDim S32x1 ![] bcast_S_S32x1 main_c
  let main_v77 : IVec S32x1 1 := cmpi .slt main_v8 main_v76
  let main_c_3 : IVec S_ 32 := constantI S_ 32 32#32
  let main_v78 : IVec S32x1 32 := broadcastInDim S32x1 ![] bcast_S_S32x1 main_c_3
  let main_v79 : IVec S32x1 32 := addi main_v8 main_v78
  let main_v80 : IVec S32x1 32 := select main_v77 main_v79 main_v8
  let main_c_4 : IVec S_ 32 := constantI S_ 32 0#32
  let main_v81 : IVec S32x20 32 := broadcastInDim S32x20 ![] bcast_S_S32x20 main_c_4
  let main_v82 : IVec S32x20 1 := cmpi .slt main_v73 main_v81
  let main_c_5 : IVec S_ 32 := constantI S_ 32 8732#32
  let main_v83 : IVec S32x20 32 := broadcastInDim S32x20 ![] bcast_S_S32x20 main_c_5
  let main_v84 : IVec S32x20 32 := addi main_v73 main_v83
  let main_v85 : IVec S32x20 32 := select main_v82 main_v84 main_v73
  let main_v86 : IVec S32x20 32 := broadcastInDim S32x20 ![0, 1] bcast_S32x1_S32x20_0_1 main_v80
  let main_v87 : IVec S32x20x1 32 := broadcastInDim S32x20x1 ![0, 1] bcast_S32x20_S32x20x1_0_1 main_v86
  fn_part4 (F := F) main_arg5 main_v0 main_v2 main_v4 main_v6 main_v8 main_v73 main_v74 main_v75 main_v85 main_v87

def fn_part2 {F : FTy → Type} [FloatOps F] (main_arg5 : FVec F S32x1x128 .f32) (main_v0 : FVec F S32x8732x4 .f32) (main_v2 : FVec F S8732x4 .f32) (main_v4 : FVec F S32x20x4 .f32) (main_v6 : FVec F S32x20 .f32) (main_v8 : IVec S32x1 32) (main_v19 : FVec F S8732x4 .f32) (main_v42 : FVec F S32x20x8732 .f32) (main_v44 : FVec F S32x20 .f32) : IVec S32 1 :=
  let main_v45 : FVec F S32x20x1 .f32 := (extractStridedSlice S32x20x1 ![0, 0, 0] · slices_S32x20x4_S32x20x1_0_0_0) main_v4
  let main_v46 : FVec F S32x20 .f32 := shapeCast S32x20 main_v45 shapeCasts_S32x20x1_S32x20
  let main_v47 : FVec F S32x20 .f32 := subf main_v44 main_v46
  let main_v48 : FVec F S32x20x1 .f32 := (extractStridedSlice S32x20x1 ![0, 0, 3] · slices_S32x20x4_S32x20x1_0_0_3) main_v4
  let main_v49 : FVec F S32x20 .f32 := shapeCast S32x20 main_v48 shapeCasts_S32x20x1_S32x20
  let main_v50 : FVec F S32x20x1 .f32 := (extractStridedSlice S32x20x1 ![0, 0, 1] · slices_S32x20x4_S32x20x1_0_0_1) main_v4
  let main_v51 : FVec F S32x20 .f32 := shapeCast S32x20 main_v50 shapeCasts_S32x20x1_S32x20
  let main_v52 : FVec F S32x20 .f32 := subf main_v49 main_v51
  let main_v53 : FVec F S32x20 .f32 := mulf main_v47 main_v52
  let main_v54 : FVec F S32x20x1 .f32 := broadcastInDim S32x20x1 ![0, 1] bcast_S32x20_S32x20x1_0_1 main_v53
  let main_v55 : FVec F S8732x1 .f32 := (extractStridedSlice S8732x1 ![0, 2] · slices_S8732x4_S8732x1_0_2) main_v19
  let main_v56 : FVec F S8732 .f32 := shapeCast S8732 main_v55 shapeCasts_S8732x1_S8732
  let main_v57 : FVec F S8732x1 .f32 := (extractStridedSlice S8732x1 ![0, 0] · slices_S8732x4_S8732x1_0_0) main_v19
  let main_v58 : FVec F S8732 .f32 := shapeCast S8732 main_v57 shapeCasts_S8732x1_S8732
  let main_v59 : FVec F S8732 .f32 := subf main_v56 main_v58
  let main_v60 : FVec F S8732x1 .f32 := (extractStridedSlice S8732x1 ![0, 3] · slices_S8732x4_S8732x1_0_3) main_v19
  let main_v61 : FVec F S8732 .f32 := shapeCast S8732 main_v60 shapeCasts_S8732x1_S8732
  let main_v62 : FVec F S8732x1 .f32 := (extractStridedSlice S8732x1 ![0, 1] · slices_S8732x4_S8732x1_0_1) main_v19
  let main_v63 : FVec F S8732 .f32 := shapeCast S8732 main_v62 shapeCasts_S8732x1_S8732
  let main_v64 : FVec F S8732 .f32 := subf main_v61 main_v63
  let main_v65 : FVec F S8732 .f32 := mulf main_v59 main_v64
  let main_v66 : FVec F S1x8732 .f32 := broadcastInDim S1x8732 ![1] bcast_S8732_S1x8732_1 main_v65
  let main_v67 : FVec F S1x1x8732 .f32 := broadcastInDim S1x1x8732 ![1, 2] bcast_S1x8732_S1x1x8732_1_2 main_v66
  let main_v68 : FVec F S32x20x8732 .f32 := broadcastInDim S32x20x8732 ![0, 1, 2] bcast_S32x20x1_S32x20x8732_0_1_2 main_v54
  fn_part3 (F := F) main_arg5 main_v0 main_v2 main_v4 main_v6 main_v8 main_v42 main_v67 main_v68

def fn_part1 {F : FTy → Type} [FloatOps F] (main_arg5 : FVec F S32x1x128 .f32) (main_v0 : FVec F S32x8732x4 .f32) (main_v2 : FVec F S8732x4 .f32) (main_v4 : FVec F S32x20x4 .f32) (main_v6 : FVec F S32x20 .f32) (main_v8 : IVec S32x1 32) (main_v19 : FVec F S8732x4 .f32) (main_v21 : FVec F S32x20x1x2 .f32) : IVec S32 1 :=
  let main_v22 : FVec F S8732x2 .f32 := (extractStridedSlice S8732x2 ![0, 2] · slices_S8732x4_S8732x2_0_2) main_v19
  let main_v23 : FVec F S1x8732x2 .f32 := broadcastInDim S1x8732x2 ![1, 2] bcast_S8732x2_S1x8732x2_1_2 main_v22
  let main_v24 : FVec F S1x1x8732x2 .f32 := broadcastInDim S1x1x8732x2 ![1, 2, 3] bcast_S1x8732x2_S1x1x8732x2_1_2_3 main_v23
  let main_v25 : FVec F S32x20x8732x2 .f32 := broadcastInDim S32x20x8732x2 ![0, 1, 2, 3] bcast_S32x20x1x2_S32x20x8732x2_0_1_2_3 main_v21
  let main_v26 : FVec F S32x20x8732x2 .f32 := broadcastInDim S32x20x8732x2 ![0, 1, 2, 3] bcast_S1x1x8732x2_S32x20x8732x2_0_1_2_3 main_v24
  let main_v27 : FVec F S32x20x8732x2 .f32 := minimumf main_v25 main_v26
  let main_v28 : FVec F S32x20x2 .f32 := (extractStridedSlice S32x20x2 ![0, 0, 0] · slices_S32x20x4_S32x20x2_0_0_0) main_v4
  let main_v29 : FVec F S32x20x1x2 .f32 := broadcastInDim S32x20x1x2 ![0, 1, 3] bcast_S32x20x2_S32x20x1x2_0_1_3 main_v28
  let main_v30 : FVec F S8732x2 .f32 := (extractStridedSlice S8732x2 ![0, 0] · slices_S8732x4_S8732x2_0_0) main_v19
  let main_v31 : FVec F S1x8732x2 .f32 := broadcastInDim S1x8732x2 ![1, 2] bcast_S8732x2_S1x8732x2_1_2 main_v30
  let main_v32 : FVec F S1x1x8732x2 .f32 := broadcastInDim S1x1x8732x2 ![1, 2, 3] bcast_S1x8732x2_S1x1x8732x2_1_2_3 main_v31
  let main_v33 : FVec F S32x20x8732x2 .f32 := broadcastInDim S32x20x8732x2 ![0, 1, 2, 3] bcast_S32x20x1x2_S32x20x8732x2_0_1_2_3 main_v29
  let main_v34 : FVec F S32x20x8732x2 .f32 := broadcastInDim S32x20x8732x2 ![0, 1, 2, 3] bcast_S1x1x8732x2_S32x20x8732x2_0_1_2_3 main_v32
  let main_v35 : FVec F S32x20x8732x2 .f32 := maximumf main_v33 main_v34
  let main_v36 : FVec F S32x20x8732x2 .f32 := subf main_v27 main_v35
  let main_cst_1 : FVec F S_ .f32 := constant S_ .f32 0x00000000#32
  let main_v37 : FVec F S32x20x8732x2 .f32 := fn_clip (F := F) main_v36 main_cst_1
  let main_v38 : FVec F S32x20x8732x1 .f32 := (extractStridedSlice S32x20x8732x1 ![0, 0, 0, 0] · slices_S32x20x8732x2_S32x20x8732x1_0_0_0_0) main_v37
  let main_v39 : FVec F S32x20x8732 .f32 := shapeCast S32x20x8732 main_v38 shapeCasts_S32x20x8732x1_S32x20x8732
  let main_v40 : FVec F S32x20x8732x1 .f32 := (extractStridedSlice S32x20x8732x1 ![0, 0, 0, 1] · slices_S32x20x8732x2_S32x20x8732x1_0_0_0_1) main_v37
  let main_v41 : FVec F S32x20x8732 .f32 := shapeCast S32x20x8732 main_v40 shapeCasts_S32x20x8732x1_S32x20x8732
  let main_v42 : FVec F S32x20x8732 .f32 := mulf main_v39 main_v41
  let main_v43 : FVec F S32x20x1 .f32 := (extractStridedSlice S32x20x1 ![0, 0, 2] · slices_S32x20x4_S32x20x1_0_0_2) main_v4
  let main_v44 : FVec F S32x20 .f32 := shapeCast S32x20 main_v43 shapeCasts_S32x20x1_S32x20
  fn_part2 (F := F) main_arg5 main_v0 main_v2 main_v4 main_v6 main_v8 main_v19 main_v42 main_v44

def fn {F : FTy → Type} [FloatOps F] (main_arg0 : FVec F S4 .f32) (main_arg1 : FVec F S81 .f32) (main_arg2 : FVec F S4 .f32) (main_arg3 : FVec F S5 .f32) (main_arg4 : FVec F S32x1x8732 .f32) (main_arg5 : FVec F S32x1x128 .f32) : IVec S32 1 :=
  let main_v0 : FVec F S32x8732x4 .f32 := broadcastInDim S32x8732x4 ![2] bcast_S4_S32x8732x4_2 main_arg0
  let main_v1 : FVec F S32x8732x81 .f32 := broadcastInDim S32x8732x81 ![2] bcast_S81_S32x8732x81_2 main_arg1
  let main_v2 : FVec F S8732x4 .f32 := broadcastInDim S8732x4 ![1] bcast_S4_S8732x4_1 main_arg2
  let main_v3 : FVec F S32x20x5 .f32 := broadcastInDim S32x20x5 ![2] bcast_S5_S32x20x5_2 main_arg3
  let main_v4 : FVec F S32x20x4 .f32 := (extractStridedSlice S32x20x4 ![0, 0, 0] · slices_S32x20x5_S32x20x4_0_0_0) main_v3
  let main_v5 : FVec F S32x20x1 .f32 := (extractStridedSlice S32x20x1 ![0, 0, 4] · slices_S32x20x5_S32x20x1_0_0_4) main_v3
  let main_v6 : FVec F S32x20 .f32 := shapeCast S32x20 main_v5 shapeCasts_S32x20x1_S32x20
  let main_v7 : IVec S32 32 := iotaInDim S32 32 0
  let main_v8 : IVec S32x1 32 := broadcastInDim S32x1 ![0] bcast_S32_S32x1_0 main_v7
  let main_v9 : FVec F S8732x2 .f32 := (extractStridedSlice S8732x2 ![0, 0] · slices_S8732x4_S8732x2_0_0) main_v2
  let main_v10 : FVec F S8732x2 .f32 := (extractStridedSlice S8732x2 ![0, 2] · slices_S8732x4_S8732x2_0_2) main_v2
  let main_cst : FVec F S_ .f32 := constant S_ .f32 0x40000000#32
  let main_v11 : FVec F S8732x2 .f32 := broadcastInDim S8732x2 ![] bcast_S_S8732x2 main_cst
  let main_v12 : FVec F S8732x2 .f32 := Host.divf main_v10 main_v11
  let main_v13 : FVec F S8732x2 .f32 := subf main_v9 main_v12
  let main_v14 : FVec F S8732x2 .f32 := (extractStridedSlice S8732x2 ![0, 0] · slices_S8732x4_S8732x2_0_0) main_v2
  let main_v15 : FVec F S8732x2 .f32 := (extractStridedSlice S8732x2 ![0, 2] · slices_S8732x4_S8732x2_0_2) main_v2
  let main_cst_0 : FVec F S_ .f32 := constant S_ .f32 0x40000000#32
  let main_v16 : FVec F S8732x2 .f32 := broadcastInDim S8732x2 ![] bcast_S_S8732x2 main_cst_0
  let main_v17 : FVec F S8732x2 .f32 := Host.divf main_v15 main_v16
  let main_v18 : FVec F S8732x2 .f32 := addf main_v14 main_v17
  let main_v19 : FVec F S8732x4 .f32 := (fun a b => concatenate S8732x4 1 [⟨S8732x2, a⟩, ⟨S8732x2, b⟩] concatenates_S8732x2_S8732x2_S8732x4_d1) main_v13 main_v18
  let main_v20 : FVec F S32x20x2 .f32 := (extractStridedSlice S32x20x2 ![0, 0, 2] · slices_S32x20x4_S32x20x2_0_0_2) main_v4
  let main_v21 : FVec F S32x20x1x2 .f32 := broadcastInDim S32x20x1x2 ![0, 1, 3] bcast_S32x20x2_S32x20x1x2_0_1_3 main_v20
  fn_part1 (F := F) main_arg5 main_v0 main_v2 main_v4 main_v6 main_v8 main_v19 main_v21
-- ==== Pre_drawn.lean ====
abbrev S32x8732x4 : Shape := ⟨3, ![32, 8732, 4]⟩
abbrev S32x8732x81 : Shape := ⟨3, ![32, 8732, 81]⟩
abbrev S8732x4 : Shape := ⟨2, ![8732, 4]⟩
abbrev S32x20x5 : Shape := ⟨3, ![32, 20, 5]⟩
abbrev S32x20x1 : Shape := ⟨3, ![32, 20, 1]⟩
abbrev S32x20 : Shape := ⟨2, ![32, 20]⟩
abbrev S_ : Shape := ⟨0, ![]⟩

class Facts : Prop where
  slices_S32x20x5_S32x20x1_0_0_4 : S32x20x5.Slices ![0, 0, 4] S32x20x1
  shapeCasts_S32x20x1_S32x20 : S32x20x1.ShapeCasts S32x20
  bcast_S_S32x8732x81 : S_.BroadcastsInDim S32x8732x81 (![] : Fin 0 → Fin S32x8732x81.rank)
  bcast_S_S8732x4 : S_.BroadcastsInDim S8732x4 (![] : Fin 0 → Fin S8732x4.rank)
  bcast_S_S32x20 : S_.BroadcastsInDim S32x20 (![] : Fin 0 → Fin S32x20.rank)

variable [Facts]

def fn_part1 {F : FTy → Type} [FloatOps F] (main_v1 : FVec F S32x20 .f32) (main_v6 : IVec S32x8732x81 1) (main_v11 : IVec S8732x4 1) (main_v16 : IVec S32x20 1) (main_v17 : FVec F S32x20 .f32) : IVec S32x8732x81 1 × IVec S8732x4 1 × IVec S32x20 1 :=
  let main_v18 : IVec S32x20 1 := cmpf .olt main_v1 main_v17
  let main_v19 : IVec S32x20 1 := andi main_v16 main_v18
  (main_v6, main_v11, main_v19)

def fn {F : FTy → Type} [FloatOps F] (main_arg0 : FVec F S32x8732x4 .f32) (main_arg1 : FVec F S32x8732x81 .f32) (main_arg2 : FVec F S8732x4 .f32) (main_arg3 : FVec F S32x20x5 .f32) : IVec S32x8732x81 1 × IVec S8732x4 1 × IVec S32x20 1 :=
  let main_v0 : FVec F S32x20x1 .f32 := (extractStridedSlice S32x20x1 ![0, 0, 4] · slices_S32x20x5_S32x20x1_0_0_4) main_arg3
  let main_v1 : FVec F S32x20 .f32 := shapeCast S32x20 main_v0 shapeCasts_S32x20x1_S32x20
  let main_cst : FVec F S_ .f32 := constant S_ .f32 0xFF800000#32
  let main_v2 : FVec F S32x8732x81 .f32 := broadcastInDim S32x8732x81 ![] bcast_S_S32x8732x81 main_cst
  let main_v3 : IVec S32x8732x81 1 := cmpf .ogt main_arg1 main_v2
  let main_cst_0 : FVec F S_ .f32 := constant S_ .f32 0x7F800000#32
  let main_v4 : FVec F S32x8732x81 .f32 := broadcastInDim S32x8732x81 ![] bcast_S_S32x8732x81 main_cst_0
  let main_v5 : IVec S32x8732x81 1 := cmpf .olt main_arg1 main_v4
  let main_v6 : IVec S32x8732x81 1 := andi main_v3 main_v5
  let main_cst_1 : FVec F S_ .f32 := constant S_ .f32 0xFF800000#32
  let main_v7 : FVec F S8732x4 .f32 := broadcastInDim S8732x4 ![] bcast_S_S8732x4 main_cst_1
  let main_v8 : IVec S8732x4 1 := cmpf .ogt main_arg2 main_v7
  let main_cst_2 : FVec F S_ .f32 := constant S_ .f32 0x7F800000#32
  let main_v9 : FVec F S8732x4 .f32 := broadcastInDim S8732x4 ![] bcast_S_S8732x4 main_cst_2
  let main_v10 : IVec S8732x4 1 := cmpf .olt main_arg2 main_v9
  let main_v11 : IVec S8732x4 1 := andi main_v8 main_v10
  let main_v12 : FVec F S32x20 .f32 := Host.floor main_v1
  let main_v13 : IVec S32x20 1 := cmpf .oeq main_v12 main_v1
  let main_cst_3 : FVec F S_ .f32 := constant S_ .f32 0x00000000#32
  let main_v14 : FVec F S32x20 .f32 := broadcastInDim S32x20 ![] bcast_S_S32x20 main_cst_3
  let main_v15 : IVec S32x20 1 := cmpf .oge main_v1 main_v14
  let main_v16 : IVec S32x20 1 := andi main_v13 main_v15
  let main_cst_4 : FVec F S_ .f32 := constant S_ .f32 0x42A00000#32
  let main_v17 : FVec F S32x20 .f32 := broadcastInDim S32x20 ![] bcast_S_S32x20 main_cst_4
  fn_part1 (F := F) main_v1 main_v6 main_v11 main_v16 main_v17
-- ==== Pre_mineable.lean ====
abbrev S32x1x8732 : Shape := ⟨3, ![32, 1, 8732]⟩
abbrev S32x1x128 : Shape := ⟨3, ![32, 1, 128]⟩
abbrev S_ : Shape := ⟨0, ![]⟩

class Facts : Prop where
  bcast_S_S32x1x8732 : S_.BroadcastsInDim S32x1x8732 (![] : Fin 0 → Fin S32x1x8732.rank)

variable [Facts]

def fn {F : FTy → Type} [BitOps F] (main_arg0 : FVec F S32x1x8732 .f32) (main_arg1 : FVec F S32x1x128 .f32) : IVec S32x1x8732 1 :=
  let main_v0 : IVec S32x1x8732 32 := bitcastToInt main_arg0
  let main_c : IVec S_ 32 := constantI S_ 32 0#32
  let main_v1 : IVec S32x1x8732 32 := broadcastInDim S32x1x8732 ![] bcast_S_S32x1x8732 main_c
  let main_v2 : IVec S32x1x8732 1 := cmpi .sge main_v0 main_v1
  let main_c_0 : IVec S_ 32 := constantI S_ 32 2147483647#32
  let main_v3 : IVec S32x1x8732 32 := broadcastInDim S32x1x8732 ![] bcast_S_S32x1x8732 main_c_0
  let main_v4 : IVec S32x1x8732 1 := cmpi .slt main_v0 main_v3
  let main_v5 : IVec S32x1x8732 1 := andi main_v2 main_v4
  main_v5
-- ==== Kernel.lean ====
abbrev S32x8732x4 : Shape := ⟨3, ![32, 8732, 4]⟩
abbrev S32x8732x81 : Shape := ⟨3, ![32, 8732, 81]⟩
abbrev S8732x4 : Shape := ⟨2, ![8732, 4]⟩
abbrev S32x20x5 : Shape := ⟨3, ![32, 20, 5]⟩
abbrev S4x8732 : Shape := ⟨2, ![4, 8732]⟩
abbrev S32x5x20 : Shape := ⟨3, ![32, 5, 20]⟩
abbrev S32x1x8732 : Shape := ⟨3, ![32, 1, 8732]⟩
abbrev S32x1x128 : Shape := ⟨3, ![32, 1, 128]⟩
abbrev S1x20x5 : Shape := ⟨3, ![1, 20, 5]⟩
abbrev S1x5x20 : Shape := ⟨3, ![1, 5, 20]⟩
abbrev S1x8732x81 : Shape := ⟨3, ![1, 8732, 81]⟩
abbrev S1x1x8732 : Shape := ⟨3, ![1, 1, 8732]⟩
abbrev S1x1x128 : Shape := ⟨3, ![1, 1, 128]⟩
abbrev S20x5 : Shape := ⟨2, ![20, 5]⟩
abbrev S20x1 : Shape := ⟨2, ![20, 1]⟩
abbrev S1x8732 : Shape := ⟨2, ![1, 8732]⟩
abbrev S20x8732 : Shape := ⟨2, ![20, 8732]⟩
abbrev S8732 : Shape := ⟨1, ![8732]⟩
abbrev S20 : Shape := ⟨1, ![20]⟩
abbrev S5x20 : Shape := ⟨2, ![5, 20]⟩
abbrev S5x8732 : Shape := ⟨2, ![5, 8732]⟩
abbrev S1 : Shape := ⟨1, ![1]⟩
abbrev S1x1x1 : Shape := ⟨3, ![1, 1, 1]⟩
abbrev S8732x81 : Shape := ⟨2, ![8732, 81]⟩
abbrev S1x81 : Shape := ⟨2, ![1, 81]⟩
abbrev S8732x1 : Shape := ⟨2, ![8732, 1]⟩
abbrev S1x128 : Shape := ⟨2, ![1, 128]⟩

abbrev nBuf : Space → Nat
  | .hbm => 8
  | .vmem => 11
  | .smem => 0
  | _ => 0

abbrev bufTy : (tb : Table) → Fin (tcTables nBuf tb) → BufTy
  | .hbm, ⟨0, _⟩ => ⟨S32x8732x4, .f32⟩
  | .hbm, ⟨1, _⟩ => ⟨S32x8732x81, .f32⟩
  | .hbm, ⟨2, _⟩ => ⟨S8732x4, .f32⟩
  | .hbm, ⟨3, _⟩ => ⟨S32x20x5, .f32⟩
  | .hbm, ⟨4, _⟩ => ⟨S4x8732, .f32⟩
  | .hbm, ⟨5, _⟩ => ⟨S32x5x20, .f32⟩
  | .hbm, ⟨6, _⟩ => ⟨S32x1x8732, .f32⟩
  | .hbm, ⟨7, _⟩ => ⟨S32x1x128, .f32⟩
  | .local _ .vmem, ⟨0, _⟩ => ⟨S1x20x5, .f32⟩
  | .local _ .vmem, ⟨1, _⟩ => ⟨S1x20x5, .f32⟩
  | .local _ .vmem, ⟨2, _⟩ => ⟨S1x5x20, .f32⟩
  | .local _ .vmem, ⟨3, _⟩ => ⟨S1x5x20, .f32⟩
  | .local _ .vmem, ⟨4, _⟩ => ⟨S4x8732, .f32⟩
  | .local _ .vmem, ⟨5, _⟩ => ⟨S1x8732x81, .f32⟩
  | .local _ .vmem, ⟨6, _⟩ => ⟨S1x8732x81, .f32⟩
  | .local _ .vmem, ⟨7, _⟩ => ⟨S1x1x8732, .f32⟩
  | .local _ .vmem, ⟨8, _⟩ => ⟨S1x1x8732, .f32⟩
  | .local _ .vmem, ⟨9, _⟩ => ⟨S1x1x128, .f32⟩
  | .local _ .vmem, ⟨10, _⟩ => ⟨S1x1x128, .f32⟩
  | _, _ => ⟨S32x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8732 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8732x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8732 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x8732x4 : Shape := ⟨3, ![32, 8732, 4]⟩
abbrev S32x8732x81 : Shape := ⟨3, ![32, 8732, 81]⟩
abbrev S8732x4 : Shape := ⟨2, ![8732, 4]⟩
abbrev S32x20x5 : Shape := ⟨3, ![32, 20, 5]⟩
abbrev S_ : Shape := ⟨0, ![]⟩
abbrev S32x20x4 : Shape := ⟨3, ![32, 20, 4]⟩
abbrev S32x20x1 : Shape := ⟨3, ![32, 20, 1]⟩
abbrev S32x20 : Shape := ⟨2, ![32, 20]⟩
abbrev S32 : Shape := ⟨1, ![32]⟩
abbrev S32x1 : Shape := ⟨2, ![32, 1]⟩
abbrev S8732x2 : Shape := ⟨2, ![8732, 2]⟩
abbrev S32x20x2 : Shape := ⟨3, ![32, 20, 2]⟩
abbrev S32x20x1x2 : Shape := ⟨4, ![32, 20, 1, 2]⟩
abbrev S1x8732x2 : Shape := ⟨3, ![1, 8732, 2]⟩
abbrev S1x1x8732x2 : Shape := ⟨4, ![1, 1, 8732, 2]⟩
abbrev S32x20x8732x2 : Shape := ⟨4, ![32, 20, 8732, 2]⟩
abbrev S32x20x8732x1 : Shape := ⟨4, ![32, 20, 8732, 1]⟩
abbrev S32x20x8732 : Shape := ⟨3, ![32, 20, 8732]⟩
abbrev S8732x1 : Shape := ⟨2, ![8732, 1]⟩
abbrev S8732 : Shape := ⟨1, ![8732]⟩
abbrev S1x8732 : Shape := ⟨2, ![1, 8732]⟩
abbrev S1x1x8732 : Shape := ⟨3, ![1, 1, 8732]⟩
abbrev S32x8732 : Shape := ⟨2, ![32, 8732]⟩
abbrev S20 : Shape := ⟨1, ![20]⟩
abbrev S32x8732x1 : Shape := ⟨3, ![32, 8732, 1]⟩
abbrev S32x8732x2 : Shape := ⟨3, ![32, 8732, 2]⟩
abbrev S32x8732x1x1 : Shape := ⟨4, ![32, 8732, 1, 1]⟩
abbrev S1 : Shape := ⟨1, ![1]⟩
abbrev S1x1x1x1 : Shape := ⟨4, ![1, 1, 1, 1]⟩
abbrev S32x3 : Shape := ⟨2, ![32, 3]⟩
abbrev S32x128 : Shape := ⟨2, ![32, 128]⟩
abbrev S32x1x8732 : Shape := ⟨3, ![32, 1, 8732]⟩
abbrev S32x1x128 : Shape := ⟨3, ![32, 1, 128]⟩

abbrev nBuf : Space → Nat
  | .hbm => 294
  | .vmem => 0
  | .smem => 0
  | _ => 0

abbrev hbmTy0_0 (i : Nat) : BufTy := match i % 128 with
  | 0 => ⟨S32x8732x4, .f32⟩
  | 1 => ⟨S32x8732x81, .f32⟩
  | 2 => ⟨S8732x4, .f32⟩
  | 3 => ⟨S32x20x5, .f32⟩
  | 4 => ⟨S_, .f32⟩
  | 5 => ⟨S32x8732x4, .f32⟩
  | 6 => ⟨S32x20x4, .f32⟩
  | 7 => ⟨S32x20x1, .f32⟩
  | 8 => ⟨S32x20, .f32⟩
  | 9 => ⟨S32, .i32⟩
  | 10 => ⟨S32x1, .i32⟩
  | 11 => ⟨S8732x2, .f32⟩
  | 12 => ⟨S8732x2, .f32⟩
  | 13 => ⟨S_, .f32⟩
  | 14 => ⟨S8732x2, .f32⟩
  | 15 => ⟨S8732x2, .f32⟩
  | 16 => ⟨S8732x2, .f32⟩
  | 17 => ⟨S8732x2, .f32⟩
  | 18 => ⟨S8732x2, .f32⟩
  | 19 => ⟨S_, .f32⟩
  | 20 => ⟨S8732x2, .f32⟩
  | 21 => ⟨S8732x2, .f32⟩
  | 22 => ⟨S8732x2, .f32⟩
  | 23 => ⟨S8732x4, .f32⟩
  | 24 => ⟨S32x20x2, .f32⟩
  | 25 => ⟨S32x20x1x2, .f32⟩
  | 26 => ⟨S8732x2, .f32⟩
  | 27 => ⟨S1x8732x2, .f32⟩
  | 28 => ⟨S1x1x8732x2, .f32⟩
  | 29 => ⟨S32x20x8732x2, .f32⟩
  | 30 => ⟨S32x20x8732x2, .f32⟩
  | 31 => ⟨S32x20x8732x2, .f32⟩
  | 32 => ⟨S32x20x2, .f32⟩
  | 33 => ⟨S32x20x1x2, .f32⟩
  | 34 => ⟨S8732x2, .f32⟩
  | 35 => ⟨S1x8732x2, .f32⟩
  | 36 => ⟨S1x1x8732x2, .f32⟩
  | 37 => ⟨S32x20x8732x2, .f32⟩
  | 38 => ⟨S32x20x8732x2, .f32⟩
  | 39 => ⟨S32x20x8732x2, .f32⟩
  | 40 => ⟨S32x20x8732x2, .f32⟩
  | 41 => ⟨S_, .f32⟩
  | 42 => ⟨S_, .f32⟩
  | 43 => ⟨S32x20x8732x2, .f32⟩
  | 44 => ⟨S32x20x8732x2, .f32⟩
  | 45 => ⟨S32x20x8732x1, .f32⟩
  | 46 => ⟨S32x20x8732, .f32⟩
  | 47 => ⟨S32x20x8732x1, .f32⟩
  | 48 => ⟨S32x20x8732, .f32⟩
  | 49 => ⟨S32x20x8732, .f32⟩
  | 50 => ⟨S32x20x1, .f32⟩
  | 51 => ⟨S32x20, .f32⟩
  | 52 => ⟨S32x20x1, .f32⟩
  | 53 => ⟨S32x20, .f32⟩
  | 54 => ⟨S32x20, .f32⟩
  | 55 => ⟨S32x20x1, .f32⟩
  | 56 => ⟨S32x20, .f32⟩
  | 57 => ⟨S32x20x1, .f32⟩
  | 58 => ⟨S32x20, .f32⟩
  | 59 => ⟨S32x20, .f32⟩
  | 60 => ⟨S32x20, .f32⟩
  | 61 => ⟨S32x20x1, .f32⟩
  | 62 => ⟨S8732x1, .f32⟩
  | 63 => ⟨S8732, .f32⟩
  | 64 => ⟨S8732x1, .f32⟩
  | 65 => ⟨S8732, .f32⟩
  | 66 => ⟨S8732, .f32⟩
  | 67 => ⟨S8732x1, .f32⟩
  | 68 => ⟨S8732, .f32⟩
  | 69 => ⟨S8732x1, .f32⟩
  | 70 => ⟨S8732, .f32⟩
  | 71 => ⟨S8732, .f32⟩
  | 72 => ⟨S8732, .f32⟩
  | 73 => ⟨S1x8732, .f32⟩
  | 74 => ⟨S1x1x8732, .f32⟩
  | 75 => ⟨S32x20x8732, .f32⟩
  | 76 => ⟨S32x20x8732, .f32⟩
  | 77 => ⟨S32x20x8732, .f32⟩
  | 78 => ⟨S32x20x8732, .f32⟩
  | 79 => ⟨S32x20x8732, .f32⟩
  | 80 => ⟨S32x20x8732, .i32⟩
  | 81 => ⟨S_, .f32⟩
  | 82 => ⟨S_, .i32⟩
  | 83 => ⟨S32x20, .f32⟩
  | 84 => ⟨S32x20, .i32⟩
  | 85 => ⟨S_, .f32⟩
  | 86 => ⟨S32x8732, .f32⟩
  | 87 => ⟨S32x20x8732, .i32⟩
  | 88 => ⟨S_, .f32⟩
  | 89 => ⟨S_, .i32⟩
  | 90 => ⟨S32x8732, .f32⟩
  | 91 => ⟨S32x8732, .i32⟩
  | 92 => ⟨S_, .i32⟩
  | 93 => ⟨S32x1, .i32⟩
  | 94 => ⟨S32x1, .i1⟩
  | 95 => ⟨S_, .i32⟩
  | 96 => ⟨S32x1, .i32⟩
  | 97 => ⟨S32x1, .i32⟩
  | 98 => ⟨S32x1, .i32⟩
  | 99 => ⟨S_, .i32⟩
  | 100 => ⟨S32x20, .i32⟩
  | 101 => ⟨S32x20, .i1⟩
  | 102 => ⟨S_, .i32⟩
  | 103 => ⟨S32x20, .i32⟩
  | 104 => ⟨S32x20, .i32⟩
  | 105 => ⟨S32x20, .i32⟩
  | 106 => ⟨S32x20, .i32⟩
  | 107 => ⟨S32x20x1, .i32⟩
  | 108 => ⟨S32x20x1, .i32⟩
  | 109 => ⟨S32x20x2, .i32⟩
  | 110 => ⟨S_, .f32⟩
  | 111 => ⟨S32x20, .f32⟩
  | 112 => ⟨S32x8732, .f32⟩
  | 113 => ⟨S20, .i32⟩
  | 114 => ⟨S32x20, .i32⟩
  | 115 => ⟨S_, .i32⟩
  | 116 => ⟨S32x1, .i32⟩
  | 117 => ⟨S32x1, .i1⟩
  | 118 => ⟨S_, .i32⟩
  | 119 => ⟨S32x1, .i32⟩
  | 120 => ⟨S32x1, .i32⟩
  | 121 => ⟨S32x1, .i32⟩
  | 122 => ⟨S_, .i32⟩
  | 123 => ⟨S32x20, .i32⟩
  | 124 => ⟨S32x20, .i1⟩
  | 125 => ⟨S_, .i32⟩
  | 126 => ⟨S32x20, .i32⟩
  | 127 => ⟨S32x20, .i32⟩
  | _ => ⟨S32x8732x4, .f32⟩

abbrev hbmTy0_1 (i : Nat) : BufTy := match i % 128 with
  | 0 => ⟨S32x20, .i32⟩
  | 1 => ⟨S32x20, .i32⟩
  | 2 => ⟨S32x20x1, .i32⟩
  | 3 => ⟨S32x20x1, .i32⟩
  | 4 => ⟨S32x20x2, .i32⟩
  | 5 => ⟨S32x8732, .i32⟩
  | 6 => ⟨S_, .i32⟩
  | 7 => ⟨S32x1, .i32⟩
  | 8 => ⟨S32x1, .i1⟩
  | 9 => ⟨S_, .i32⟩
  | 10 => ⟨S32x1, .i32⟩
  | 11 => ⟨S32x1, .i32⟩
  | 12 => ⟨S32x1, .i32⟩
  | 13 => ⟨S_, .i32⟩
  | 14 => ⟨S32x8732, .i32⟩
  | 15 => ⟨S32x8732, .i1⟩
  | 16 => ⟨S_, .i32⟩
  | 17 => ⟨S32x8732, .i32⟩
  | 18 => ⟨S32x8732, .i32⟩
  | 19 => ⟨S32x8732, .i32⟩
  | 20 => ⟨S32x8732, .i32⟩
  | 21 => ⟨S32x8732x1, .i32⟩
  | 22 => ⟨S32x8732x1, .i32⟩
  | 23 => ⟨S32x8732x2, .i32⟩
  | 24 => ⟨S32x8732x4, .f32⟩
  | 25 => ⟨S_, .i32⟩
  | 26 => ⟨S32x1, .i32⟩
  | 27 => ⟨S32x1, .i1⟩
  | 28 => ⟨S_, .i32⟩
  | 29 => ⟨S32x1, .i32⟩
  | 30 => ⟨S32x1, .i32⟩
  | 31 => ⟨S32x1, .i32⟩
  | 32 => ⟨S_, .i32⟩
  | 33 => ⟨S32x8732, .i32⟩
  | 34 => ⟨S32x8732, .i1⟩
  | 35 => ⟨S_, .i32⟩
  | 36 => ⟨S32x8732, .i32⟩
  | 37 => ⟨S32x8732, .i32⟩
  | 38 => ⟨S32x8732, .i32⟩
  | 39 => ⟨S32x8732, .i32⟩
  | 40 => ⟨S32x8732x1, .i32⟩
  | 41 => ⟨S32x8732x1, .i32⟩
  | 42 => ⟨S32x8732x2, .i32⟩
  | 43 => ⟨S32x8732, .f32⟩
  | 44 => ⟨S32x8732, .i32⟩
  | 45 => ⟨S_, .i32⟩
  | 46 => ⟨S32x8732, .i32⟩
  | 47 => ⟨S32x8732, .i32⟩
  | 48 => ⟨S_, .f32⟩
  | 49 => ⟨S32x8732, .f32⟩
  | 50 => ⟨S32x8732, .i1⟩
  | 51 => ⟨S_, .i32⟩
  | 52 => ⟨S_, .i32⟩
  | 53 => ⟨S32x8732, .i32⟩
  | 54 => ⟨S32x8732, .i32⟩
  | 55 => ⟨S32x8732x2, .f32⟩
  | 56 => ⟨S32x8732x2, .f32⟩
  | 57 => ⟨S32x8732x2, .f32⟩
  | 58 => ⟨S_, .f32⟩
  | 59 => ⟨S32x8732x2, .f32⟩
  | 60 => ⟨S32x8732x2, .f32⟩
  | 61 => ⟨S8732x2, .f32⟩
  | 62 => ⟨S1x8732x2, .f32⟩
  | 63 => ⟨S32x8732x2, .f32⟩
  | 64 => ⟨S32x8732x2, .f32⟩
  | 65 => ⟨S8732x2, .f32⟩
  | 66 => ⟨S_, .f32⟩
  | 67 => ⟨S8732x2, .f32⟩
  | 68 => ⟨S8732x2, .f32⟩
  | 69 => ⟨S1x8732x2, .f32⟩
  | 70 => ⟨S32x8732x2, .f32⟩
  | 71 => ⟨S32x8732x2, .f32⟩
  | 72 => ⟨S32x8732x2, .f32⟩
  | 73 => ⟨S32x8732x2, .f32⟩
  | 74 => ⟨S32x8732x2, .f32⟩
  | 75 => ⟨S8732x2, .f32⟩
  | 76 => ⟨S1x8732x2, .f32⟩
  | 77 => ⟨S32x8732x2, .f32⟩
  | 78 => ⟨S32x8732x2, .f32⟩
  | 79 => ⟨S_, .f32⟩
  | 80 => ⟨S32x8732x2, .f32⟩
  | 81 => ⟨S32x8732x2, .f32⟩
  | 82 => ⟨S32x8732x2, .f32⟩
  | 83 => ⟨S_, .f32⟩
  | 84 => ⟨S32x8732x2, .f32⟩
  | 85 => ⟨S32x8732x2, .f32⟩
  | 86 => ⟨S32x8732x4, .f32⟩
  | 87 => ⟨S_, .i32⟩
  | 88 => ⟨S32x8732, .i32⟩
  | 89 => ⟨S32x8732, .i1⟩
  | 90 => ⟨S32x8732x4, .f32⟩
  | 91 => ⟨S32x8732x4, .f32⟩
  | 92 => ⟨S_, .f32⟩
  | 93 => ⟨S32x8732x4, .f32⟩
  | 94 => ⟨S32x8732x4, .i1⟩
  | 95 => ⟨S_, .f32⟩
  | 96 => ⟨S32x8732x4, .f32⟩
  | 97 => ⟨S32x8732x4, .f32⟩
  | 98 => ⟨S32x8732x4, .f32⟩
  | 99 => ⟨S_, .f32⟩
  | 100 => ⟨S32x8732x4, .f32⟩
  | 101 => ⟨S32x8732x4, .f32⟩
  | 102 => ⟨S32x8732x4, .f32⟩
  | 103 => ⟨S32x8732x1, .i1⟩
  | 104 => ⟨S32x8732x1, .f32⟩
  | 105 => ⟨S32x8732x4, .f32⟩
  | 106 => ⟨S32x8732x4, .f32⟩
  | 107 => ⟨S_, .f32⟩
  | 108 => ⟨S32, .f32⟩
  | 109 => ⟨S_, .f32⟩
  | 110 => ⟨S32x8732, .f32⟩
  | 111 => ⟨S32x8732x1, .f32⟩
  | 112 => ⟨S32x8732x81, .f32⟩
  | 113 => ⟨S32x8732x81, .f32⟩
  | 114 => ⟨S32x8732x81, .f32⟩
  | 115 => ⟨S_, .f32⟩
  | 116 => ⟨S32x8732, .f32⟩
  | 117 => ⟨S32x8732, .f32⟩
  | 118 => ⟨S32x8732, .f32⟩
  | 119 => ⟨S32x8732x1, .i32⟩
  | 120 => ⟨S_, .i32⟩
  | 121 => ⟨S32x8732x1, .i32⟩
  | 122 => ⟨S32x8732x1, .i1⟩
  | 123 => ⟨S_, .i32⟩
  | 124 => ⟨S32x8732x1, .i32⟩
  | 125 => ⟨S32x8732x1, .i32⟩
  | 126 => ⟨S32x8732x1, .i32⟩
  | 127 => ⟨S32x8732x1x1, .i32⟩
  | _ => ⟨S32x8732x4, .f32⟩

abbrev hbmTy0_2 (i : Nat) : BufTy := match i % 128 with
  | 0 => ⟨S1, .i32⟩
  | 1 => ⟨S_, .i32⟩
  | 2 => ⟨S32x8732x1x1, .i32⟩
  | 3 => ⟨S32x8732x1x1, .i1⟩
  | 4 => ⟨S1x1x1x1, .i32⟩
  | 5 => ⟨S32x8732x1x1, .i32⟩
  | 6 => ⟨S32x8732x1x1, .i1⟩
  | 7 => ⟨S32x8732x1x1, .i1⟩
  | 8 => ⟨S_, .i1⟩
  | 9 => ⟨S32x8732x1, .i1⟩
  | 10 => ⟨S32x8732x1, .f32⟩
  | 11 => ⟨S_, .f32⟩
  | 12 => ⟨S32x8732x1, .f32⟩
  | 13 => ⟨S32x8732x1, .f32⟩
  | 14 => ⟨S32x8732, .f32⟩
  | 15 => ⟨S32x8732, .f32⟩
  | 16 => ⟨S_, .f32⟩
  | 17 => ⟨S_, .f32⟩
  | 18 => ⟨S32x8732, .f32⟩
  | 19 => ⟨S32x8732, .f32⟩
  | 20 => ⟨S_, .f32⟩
  | 21 => ⟨S_, .f32⟩
  | 22 => ⟨S32x8732, .f32⟩
  | 23 => ⟨S32x8732, .f32⟩
  | 24 => ⟨S_, .f32⟩
  | 25 => ⟨S32, .f32⟩
  | 26 => ⟨S32x8732, .f32⟩
  | 27 => ⟨S_, .f32⟩
  | 28 => ⟨S32, .f32⟩
  | 29 => ⟨S32x1, .f32⟩
  | 30 => ⟨S32x1, .f32⟩
  | 31 => ⟨S32x1, .f32⟩
  | 32 => ⟨S32x3, .f32⟩
  | 33 => ⟨S_, .i32⟩
  | 34 => ⟨S_, .f32⟩
  | 35 => ⟨S32x128, .f32⟩
  | 36 => ⟨S32x1x8732, .f32⟩
  | 37 => ⟨S32x1x128, .f32⟩
  | _ => ⟨S32x8732x4, .f32⟩

abbrev hbmTy (i : Nat) : BufTy := match i / 128 with
  | 0 => hbmTy0_0 i
  | 1 => hbmTy0_1 i
  | 2 => hbmTy0_2 i
  | _ => ⟨S32x8732x4, .f32⟩

abbrev bufTy : (tb : Table) → Fin (tcTables nBuf tb) → BufTy
  | .hbm, ⟨i, _⟩ => hbmTy i
  | _, _ => ⟨S32x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_call1_v0 : Ref sig .tc := ⟨.hbm, 80, rfl⟩
abbrev main_call1_cst : Ref sig .tc := ⟨.hbm, 81, rfl⟩
abbrev main_call1_c : Ref sig .tc := ⟨.hbm, 82, rfl⟩
abbrev main_call1_v1_0 : Ref sig .tc := ⟨.hbm, 83, rfl⟩
abbrev main_v70 : Ref sig .tc := ⟨.hbm, 84, rfl⟩
abbrev main_cst_3 : Ref sig .tc := ⟨.hbm, 85, rfl⟩
abbrev main_v71 : Ref sig .tc := ⟨.hbm, 86, rfl⟩
abbrev main_call2_v0 : Ref sig .tc := ⟨.hbm, 87, rfl⟩
abbrev main_call2_cst : Ref sig .tc := ⟨.hbm, 88, rfl⟩
abbrev main_call2_c : Ref sig .tc := ⟨.hbm, 89, rfl⟩
abbrev main_call2_v1_0 : Ref sig .tc := ⟨.hbm, 90, rfl⟩
abbrev main_v72 : Ref sig .tc := ⟨.hbm, 91, rfl⟩
abbrev main_c : Ref sig .tc := ⟨.hbm, 92, rfl⟩
abbrev main_v73 : Ref sig .tc := ⟨.hbm, 93, rfl⟩
abbrev main_v74 : Ref sig .tc := ⟨.hbm, 94, rfl⟩
abbrev main_c_4 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_5 : Ref sig .tc := ⟨.hbm, 99, rfl⟩
abbrev main_v78 : Ref sig .tc := ⟨.hbm, 100, rfl⟩
abbrev main_v79 : Ref sig .tc := ⟨.hbm, 101, rfl⟩
abbrev main_c_6 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_7 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_8 : Ref sig .tc := ⟨.hbm, 115, rfl⟩
abbrev main_v91 : Ref sig .tc := ⟨.hbm, 116, rfl⟩
abbrev main_v92 : Ref sig .tc := ⟨.hbm, 117, rfl⟩
abbrev main_c_9 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_10 : Ref sig .tc := ⟨.hbm, 122, rfl⟩
abbrev main_v96 : Ref sig .tc := ⟨.hbm, 123, rfl⟩
abbrev main_v97 : Ref sig .tc := ⟨.hbm, 124, rfl⟩
abbrev main_c_11 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_12 : Ref sig .tc := ⟨.hbm, 134, rfl⟩
abbrev main_v106 : Ref sig .tc := ⟨.hbm, 135, rfl⟩
abbrev main_v107 : Ref sig .tc := ⟨.hbm, 136, rfl⟩
abbrev main_c_13 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_c_14 : Ref sig .tc := ⟨.hbm, 141, rfl⟩
abbrev main_v111 : Ref sig .tc := ⟨.hbm, 142, rfl⟩
abbrev main_v112 : Ref sig .tc := ⟨.hbm, 143, rfl⟩
abbrev main_c_15 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_c_16 : Ref sig .tc := ⟨.hbm, 153, rfl⟩
abbrev main_v121 : Ref sig .tc := ⟨.hbm, 154, rfl⟩
abbrev main_v122 : Ref sig .tc := ⟨.hbm, 155, rfl⟩
abbrev main_c_17 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_c_18 : Ref sig .tc := ⟨.hbm, 160, rfl⟩
abbrev main_v126 : Ref sig .tc := ⟨.hbm, 161, rfl⟩
abbrev main_v127 : Ref sig .tc := ⟨.hbm, 162, rfl⟩
abbrev main_c_19 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_c_20 : Ref sig .tc := ⟨.hbm, 173, rfl⟩
abbrev main_v137 : Ref sig .tc := ⟨.hbm, 174, rfl⟩
abbrev main_v138 : Ref sig .tc := ⟨.hbm, 175, rfl⟩
abbrev main_cst_21 : Ref sig .tc := ⟨.hbm, 176, rfl⟩
abbrev main_v139 : Ref sig .tc := ⟨.hbm, 177, rfl⟩
abbrev main_v140 : Ref sig .tc := ⟨.hbm, 178, rfl⟩
abbrev main_c_22 : Ref sig .tc := ⟨.hbm, 179, rfl⟩
abbrev main_call3_v0 : Ref sig .tc := ⟨.hbm, 180, rfl⟩
abbrev main_call3_v1 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_23 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_24 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_cst_25 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_26 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_c_27 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_28 : Ref sig .tc := ⟨.hbm, 220, rfl⟩
abbrev main_v174 : Ref sig .tc := ⟨.hbm, 221, rfl⟩
abbrev main_v175 : Ref sig .tc := ⟨.hbm, 222, rfl⟩
abbrev main_cst_29 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_30 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_cst_31 : Ref sig .tc := ⟨.hbm, 235, rfl⟩
abbrev main_v186 : Ref sig .tc := ⟨.hbm, 236, rfl⟩
abbrev main_cst_32 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_cst_33 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_call5_c : Ref sig .tc := ⟨.hbm, 248, rfl⟩
abbrev main_call5_v0 : Ref sig .tc := ⟨.hbm, 249, rfl⟩
abbrev main_call5_v1 : Ref sig .tc := ⟨.hbm, 250, rfl⟩
abbrev main_call5_c_0 : Ref sig .tc := ⟨.hbm, 251, rfl⟩
abbrev main_call5_v2 : Ref sig .tc := ⟨.hbm, 252, rfl⟩
abbrev main_call5_v3 : Ref sig .tc := ⟨.hbm, 253, rfl⟩
abbrev main_call5_v4 : Ref sig .tc := ⟨.hbm, 254, rfl⟩
abbrev main_call5_v5 : Ref sig .tc := ⟨.hbm, 255, rfl⟩
abbrev main_call5_c_1 : Ref sig .tc := ⟨.hbm, 256, rfl⟩
abbrev main_call5_c_2 : Ref sig .tc := ⟨.hbm, 257, rfl⟩
abbrev main_call5_v6 : Ref sig .tc := ⟨.hbm, 258, rfl⟩
abbrev main_call5_v7 : Ref sig .tc := ⟨.hbm, 259, rfl⟩
abbrev main_call5_v8 : Ref sig .tc := ⟨.hbm, 260, rfl⟩
abbrev main_call5_v9 : Ref sig .tc := ⟨.hbm, 261, rfl⟩
abbrev main_call5_v10 : Ref sig .tc := ⟨.hbm, 262, rfl⟩
abbrev main_call5_v11 : Ref sig .tc := ⟨.hbm, 263, rfl⟩
abbrev main_call5_c_3 : Ref sig .tc := ⟨.hbm, 264, rfl⟩
abbrev main_call5_v12 : Ref sig .tc := ⟨.hbm, 265, rfl⟩
abbrev main_call5_v13 : Ref sig .tc := ⟨.hbm, 266, rfl⟩
abbrev main_call5_cst : Ref sig .tc := ⟨.hbm, 267, rfl⟩
abbrev main_call5_v14 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_cst_34 : Ref sig .tc := ⟨.hbm, 272, rfl⟩
abbrev main_call6_v0 : Ref sig .tc := ⟨.hbm, 273, rfl⟩
abbrev main_call6_v1 : Ref sig .tc := ⟨.hbm, 274, rfl⟩
abbrev main_v199 : Ref sig .tc := ⟨.hbm, 275, rfl⟩
abbrev main_cst_35 : Ref sig .tc := ⟨.hbm, 276, rfl⟩
abbrev main_call7_v0 : Ref sig .tc := ⟨.hbm, 277, rfl⟩
abbrev main_call7_v1 : Ref sig .tc := ⟨.hbm, 278, rfl⟩
abbrev main_v200 : Ref sig .tc := ⟨.hbm, 279, rfl⟩
abbrev main_cst_36 : Ref sig .tc := ⟨.hbm, 280, rfl⟩
abbrev main_v201 : Ref sig .tc := ⟨.hbm, 281, rfl⟩
abbrev main_v202 : Ref sig .tc := ⟨.hbm, 282, rfl⟩
abbrev main_cst_37 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_c_38 : Ref sig .tc := ⟨.hbm, 289, rfl⟩
abbrev main_call8_v0 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩

abbrev nD : Nat := 1
abbrev τ : Topo := Topo.v7x

variable {F : FTy → Type} [FloatOps F]
-- ==== Mining.lean ====
abbrev S32x1x8732 : Shape := ⟨3, ![32, 1, 8732]⟩
abbrev S32x1x128 : Shape := ⟨3, ![32, 1, 128]⟩
abbrev S1x128 : Shape := ⟨2, ![1, 128]⟩
abbrev S32x8732 : Shape := ⟨2, ![32, 8732]⟩
abbrev S32x128 : Shape := ⟨2, ![32, 128]⟩
abbrev S32x1 : Shape := ⟨2, ![32, 1]⟩
abbrev S32 : Shape := ⟨1, ![32]⟩
abbrev S1x32x1 : Shape := ⟨3, ![1, 32, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S2 : Shape := ⟨1, ![2]⟩

abbrev nBuf : Space → Nat
  | .hbm => 16
  | .vmem => 3
  | .smem => 0
  | _ => 0

abbrev bufTy : (tb : Table) → Fin (tcTables nBuf tb) → BufTy
  | .hbm, ⟨0, _⟩ => ⟨S32x1x8732, .f32⟩
  | .hbm, ⟨1, _⟩ => ⟨S32x1x128, .f32⟩
  | .hbm, ⟨2, _⟩ => ⟨S1x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S2, .f32⟩
  | .local _ .vmem, ⟨0, _⟩ => ⟨S32x1x8732, .f32⟩
  | .local _ .vmem, ⟨1, _⟩ => ⟨S32x1x128, .f32⟩
  | .local _ .vmem, ⟨2, _⟩ => ⟨S1x128, .f32⟩
  | _, _ => ⟨S32x1x8732, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

@[reducible] def k0_t1_loop : Scf.Loop 32 :=
  let c0_i32_5 : BitVec 32 := 0#32
  let c31_i32 : BitVec 32 := 31#32
  let v13 : BitVec 32 := Scalar.addi c0_i32_5 c31_i32
  let c1_i32 : BitVec 32 := 1#32
  ⟨c0_i32_5, v13, c1_i32⟩
abbrev stage0_0 : Fin 1 → Memref sig .tc .vmem S32x1x8732 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== MiningReference.lean ====
abbrev S32x1x8732 : Shape := ⟨3, ![32, 1, 8732]⟩
abbrev S32x1x128 : Shape := ⟨3, ![32, 1, 128]⟩
abbrev S32x8732 : Shape := ⟨2, ![32, 8732]⟩
abbrev S32x128 : Shape := ⟨2, ![32, 128]⟩
abbrev S32x1 : Shape := ⟨2, ![32, 1]⟩
abbrev S_ : Shape := ⟨0, ![]⟩
abbrev S32x1x1 : Shape := ⟨3, ![32, 1, 1]⟩
abbrev S1 : Shape := ⟨1, ![1]⟩
abbrev S1x1x1 : Shape := ⟨3, ![1, 1, 1]⟩
abbrev S1x128 : Shape := ⟨2, ![1, 128]⟩
abbrev S32 : Shape := ⟨1, ![32]⟩
abbrev S1x32x1 : Shape := ⟨3, ![1, 32, 1]⟩
abbrev S1x1 : Shape := ⟨2, ![1, 1]⟩
abbrev S2 : Shape := ⟨1, ![2]⟩

abbrev nBuf : Space → Nat
  | .hbm => 56
  | .vmem => 6
  | .smem => 0
  | _ => 0

abbrev bufTy : (tb : Table) → Fin (tcTables nBuf tb) → BufTy
  | .hbm, ⟨0, _⟩ => ⟨S32x1x8732, .f32⟩
  | .hbm, ⟨1, _⟩ => ⟨S32x1x128, .f32⟩
  | .hbm, ⟨2, _⟩ => ⟨S32x8732, .f32⟩
  | .hbm, ⟨3, _⟩ => ⟨S32x128, .f32⟩
  | .hbm, ⟨4, _⟩ => ⟨S32x1, .f32⟩
  | .hbm, ⟨5, _⟩ => ⟨S32x1, .i32⟩
  | .hbm, ⟨6, _⟩ => ⟨S_, .i32⟩
  | .hbm, ⟨7, _⟩ => ⟨S32x1, .i32⟩
  | .hbm, ⟨8, _⟩ => ⟨S32x1, .i32⟩
  | .hbm, ⟨9, _⟩ => ⟨S_, .i32⟩
  | .hbm, ⟨10, _⟩ => ⟨S32x1, .i32⟩
  | .hbm, ⟨11, _⟩ => ⟨S32x1, .i32⟩
  | .hbm, ⟨12, _⟩ => ⟨S32x8732, .i32⟩
  | .hbm, ⟨13, _⟩ => ⟨S32x8732, .i32⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S_, .i32⟩
  | .hbm, ⟨18, _⟩ => ⟨S32x1, .i32⟩
  | .hbm, ⟨19, _⟩ => ⟨S32x1, .i32⟩
  | .hbm, ⟨20, _⟩ => ⟨S_, .i32⟩
  | .hbm, ⟨21, _⟩ => ⟨S32x1, .i32⟩
  | .hbm, ⟨22, _⟩ => ⟨S32x1, .i1⟩
  | .hbm, ⟨23, _⟩ => ⟨S_, .i32⟩
  | .hbm, ⟨24, _⟩ => ⟨S32x1, .i32⟩
  | .hbm, ⟨25, _⟩ => ⟨S32x1, .i32⟩
  | .hbm, ⟨26, _⟩ => ⟨S32x1, .i32⟩
  | .hbm, ⟨27, _⟩ => ⟨S32x1x1, .i32⟩
  | .hbm, ⟨28, _⟩ => ⟨S1, .i32⟩
  | .hbm, ⟨29, _⟩ => ⟨S_, .i32⟩
  | .hbm, ⟨30, _⟩ => ⟨S32x1x1, .i32⟩
  | .hbm, ⟨31, _⟩ => ⟨S32x1x1, .i1⟩
  | .hbm, ⟨32, _⟩ => ⟨S1x1x1, .i32⟩
  | .hbm, ⟨33, _⟩ => ⟨S32x1x1, .i32⟩
  | .hbm, ⟨34, _⟩ => ⟨S32x1x1, .i1⟩
  | .hbm, ⟨35, _⟩ => ⟨S32x1x1, .i1⟩
  | .hbm, ⟨36, _⟩ => ⟨S_, .i1⟩
  | .hbm, ⟨37, _⟩ => ⟨S32x1, .i1⟩
  | .hbm, ⟨38, _⟩ => ⟨S32x1, .i32⟩
  | .hbm, ⟨39, _⟩ => ⟨S_, .i32⟩
  | .hbm, ⟨40, _⟩ => ⟨S32x1, .i32⟩
  | .hbm, ⟨41, _⟩ => ⟨S32x1, .i32⟩
  | .hbm, ⟨42, _⟩ => ⟨S1x128, .f32⟩
  | .hbm, ⟨43, _⟩ => ⟨S1x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x1, .f32⟩
  | .hbm, ⟨48, _⟩ => ⟨S_, .f32⟩
  | .hbm, ⟨49, _⟩ => ⟨S_, .f32⟩
  | .hbm, ⟨50, _⟩ => ⟨S1x1, .f32⟩
  | .hbm, ⟨51, _⟩ => ⟨S_, .f32⟩
  | .hbm, ⟨52, _⟩ => ⟨S_, .f32⟩
  | .hbm, ⟨53, _⟩ => ⟨S1, .f32⟩
  | .hbm, ⟨54, _⟩ => ⟨S1, .f32⟩
  | .hbm, ⟨55, _⟩ => ⟨S2, .f32⟩
  | .local _ .vmem, ⟨0, _⟩ => ⟨S32x128, .f32⟩
  | .local _ .vmem, ⟨1, _⟩ => ⟨S32x8732, .f32⟩
  | .local _ .vmem, ⟨2, _⟩ => ⟨S32x8732, .i32⟩
  | .local _ .vmem, ⟨3, _⟩ => ⟨S32x1, .i32⟩
  | .local _ .vmem, ⟨4, _⟩ => ⟨S32x1, .i32⟩
  | .local _ .vmem, ⟨5, _⟩ => ⟨S1x128, .f32⟩
  | _, _ => ⟨S32x1x8732, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_c_4 : Ref sig .tc := ⟨.hbm, 39, rfl⟩
abbrev main_call1_v14 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8732 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8732 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== AlikeIdeal.lean ====
abbrev S4 : Shape := ⟨1, ![4]⟩
abbrev S81 : Shape := ⟨1, ![81]⟩
abbrev S5 : Shape := ⟨1, ![5]⟩
abbrev S32x8732x4 : Shape := ⟨3, ![32, 8732, 4]⟩
abbrev S32x8732x81 : Shape := ⟨3, ![32, 8732, 81]⟩
abbrev S8732x4 : Shape := ⟨2, ![8732, 4]⟩
abbrev S32x20x5 : Shape := ⟨3, ![32, 20, 5]⟩
abbrev S4x8732 : Shape := ⟨2, ![4, 8732]⟩
abbrev S32x5x20 : Shape := ⟨3, ![32, 5, 20]⟩
abbrev S32x1x8732 : Shape := ⟨3, ![32, 1, 8732]⟩
abbrev S32x1x128 : Shape := ⟨3, ![32, 1, 128]⟩
abbrev S1x20x5 : Shape := ⟨3, ![1, 20, 5]⟩
abbrev S1x5x20 : Shape := ⟨3, ![1, 5, 20]⟩
abbrev S1x8732x81 : Shape := ⟨3, ![1, 8732, 81]⟩
abbrev S1x1x8732 : Shape := ⟨3, ![1, 1, 8732]⟩
abbrev S1x1x128 : Shape := ⟨3, ![1, 1, 128]⟩
abbrev S20x5 : Shape := ⟨2, ![20, 5]⟩
abbrev S20x1 : Shape := ⟨2, ![20, 1]⟩
abbrev S1x8732 : Shape := ⟨2, ![1, 8732]⟩
abbrev S20x8732 : Shape := ⟨2, ![20, 8732]⟩
abbrev S8732 : Shape := ⟨1, ![8732]⟩
abbrev S20 : Shape := ⟨1, ![20]⟩
abbrev S5x20 : Shape := ⟨2, ![5, 20]⟩
abbrev S5x8732 : Shape := ⟨2, ![5, 8732]⟩
abbrev S1 : Shape := ⟨1, ![1]⟩
abbrev S1x1x1 : Shape := ⟨3, ![1, 1, 1]⟩
abbrev S8732x81 : Shape := ⟨2, ![8732, 81]⟩
abbrev S1x81 : Shape := ⟨2, ![1, 81]⟩
abbrev S8732x1 : Shape := ⟨2, ![8732, 1]⟩
abbrev S1x128 : Shape := ⟨2, ![1, 128]⟩

abbrev nBuf : Space → Nat
  | .hbm => 12
  | .vmem => 11
  | .smem => 0
  | _ => 0

abbrev bufTy : (tb : Table) → Fin (tcTables nBuf tb) → BufTy
  | .hbm, ⟨0, _⟩ => ⟨S4, .f32⟩
  | .hbm, ⟨1, _⟩ => ⟨S81, .f32⟩
  | .hbm, ⟨2, _⟩ => ⟨S4, .f32⟩
  | .hbm, ⟨3, _⟩ => ⟨S5, .f32⟩
  | .hbm, ⟨4, _⟩ => ⟨S32x8732x4, .f32⟩
  | .hbm, ⟨5, _⟩ => ⟨S32x8732x81, .f32⟩
  | .hbm, ⟨6, _⟩ => ⟨S8732x4, .f32⟩
  | .hbm, ⟨7, _⟩ => ⟨S32x20x5, .f32⟩
  | .hbm, ⟨8, _⟩ => ⟨S4x8732, .f32⟩
  | .hbm, ⟨9, _⟩ => ⟨S32x5x20, .f32⟩
  | .hbm, ⟨10, _⟩ => ⟨S32x1x8732, .f32⟩
  | .hbm, ⟨11, _⟩ => ⟨S32x1x128, .f32⟩
  | .local _ .vmem, ⟨0, _⟩ => ⟨S1x20x5, .f32⟩
  | .local _ .vmem, ⟨1, _⟩ => ⟨S1x20x5, .f32⟩
  | .local _ .vmem, ⟨2, _⟩ => ⟨S1x5x20, .f32⟩
  | .local _ .vmem, ⟨3, _⟩ => ⟨S1x5x20, .f32⟩
  | .local _ .vmem, ⟨4, _⟩ => ⟨S4x8732, .f32⟩
  | .local _ .vmem, ⟨5, _⟩ => ⟨S1x8732x81, .f32⟩
  | .local _ .vmem, ⟨6, _⟩ => ⟨S1x8732x81, .f32⟩
  | .local _ .vmem, ⟨7, _⟩ => ⟨S1x1x8732, .f32⟩
  | .local _ .vmem, ⟨8, _⟩ => ⟨S1x1x8732, .f32⟩
  | .local _ .vmem, ⟨9, _⟩ => ⟨S1x1x128, .f32⟩
  | .local _ .vmem, ⟨10, _⟩ => ⟨S1x1x128, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8732 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8732x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8732 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Proof.RefRun.Ops.lean ====
/- The reference program as a list of its host operations, in windows, and the small facts about each window
   that a run by lists asks for. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v16`, named. It packs its operands into a list of dependent pairs
    whose shapes a later argument's type mentions, so `simp` cannot rewrite an operand where it stands; applied by
    name, the operands are plain arguments, which the window lemmas below rewrite before the name unfolds. -/
def fn_main_v16 : (⟨S8732x2, .f32⟩ : BufTy).Contents (Elt F) → (⟨S8732x2, .f32⟩ : BufTy).Contents (Elt F) → (⟨S8732x4, .f32⟩ : BufTy).Contents (Elt F) :=
  (fun a b => concatenate S8732x4 1 [⟨S8732x2, a⟩, ⟨S8732x2, b⟩] concatenates_S8732x2_S8732x2_S8732x4_d1)

/-- The function of the operation that writes `main_v86`, named. It packs its operands into a list of dependent pairs
    whose shapes a later argument's type mentions, so `simp` cannot rewrite an operand where it stands; applied by
    name, the operands are plain arguments, which the window lemmas below rewrite before the name unfolds. -/
def fn_main_v86 : (⟨S32x20x1, .i32⟩ : BufTy).Contents (Elt F) → (⟨S32x20x1, .i32⟩ : BufTy).Contents (Elt F) → (⟨S32x20x2, .i32⟩ : BufTy).Contents (Elt F) :=
  (fun a b => concatenate S32x20x2 2 [⟨S32x20x1, a⟩, ⟨S32x20x1, b⟩] concatenates_S32x20x1_S32x20x1_S32x20x2_d2)

/-- The function of the operation that writes `main_v104`, named. It packs its operands into a list of dependent pairs
    whose shapes a later argument's type mentions, so `simp` cannot rewrite an operand where it stands; applied by
    name, the operands are plain arguments, which the window lemmas below rewrite before the name unfolds. -/
def fn_main_v104 : (⟨S32x20x1, .i32⟩ : BufTy).Contents (Elt F) → (⟨S32x20x1, .i32⟩ : BufTy).Contents (Elt F) → (⟨S32x20x2, .i32⟩ : BufTy).Contents (Elt F) :=
  (fun a b => concatenate S32x20x2 2 [⟨S32x20x1, a⟩, ⟨S32x20x1, b⟩] concatenates_S32x20x1_S32x20x1_S32x20x2_d2)

/-- The function of the operation that writes `main_v119`, named. It packs its operands into a list of dependent pairs
    whose shapes a later argument's type mentions, so `simp` cannot rewrite an operand where it stands; applied by
    name, the operands are plain arguments, which the window lemmas below rewrite before the name unfolds. -/
def fn_main_v119 : (⟨S32x8732x1, .i32⟩ : BufTy).Contents (Elt F) → (⟨S32x8732x1, .i32⟩ : BufTy).Contents (Elt F) → (⟨S32x8732x2, .i32⟩ : BufTy).Contents (Elt F) :=
  (fun a b => concatenate S32x8732x2 2 [⟨S32x8732x1, a⟩, ⟨S32x8732x1, b⟩] concatenates_S32x8732x1_S32x8732x1_S32x8732x2_d2)

/-- The function of the operation that writes `main_v134`, named. It packs its operands into a list of dependent pairs
    whose shapes a later argument's type mentions, so `simp` cannot rewrite an operand where it stands; applied by
    name, the operands are plain arguments, which the window lemmas below rewrite before the name unfolds. -/
def fn_main_v134 : (⟨S32x8732x1, .i32⟩ : BufTy).Contents (Elt F) → (⟨S32x8732x1, .i32⟩ : BufTy).Contents (Elt F) → (⟨S32x8732x2, .i32⟩ : BufTy).Contents (Elt F) :=
  (fun a b => concatenate S32x8732x2 2 [⟨S32x8732x1, a⟩, ⟨S32x8732x1, b⟩] concatenates_S32x8732x1_S32x8732x1_S32x8732x2_d2)

/-- The function of the operation that writes `main_v169`, named. It packs its operands into a list of dependent pairs
    whose shapes a later argument's type mentions, so `simp` cannot rewrite an operand where it stands; applied by
    name, the operands are plain arguments, which the window lemmas below rewrite before the name unfolds. -/
def fn_main_v169 : (⟨S32x8732x2, .f32⟩ : BufTy).Contents (Elt F) → (⟨S32x8732x2, .f32⟩ : BufTy).Contents (Elt F) → (⟨S32x8732x4, .f32⟩ : BufTy).Contents (Elt F) :=
  (fun a b => concatenate S32x8732x4 2 [⟨S32x8732x2, a⟩, ⟨S32x8732x2, b⟩] concatenates_S32x8732x2_S32x8732x2_S32x8732x4_d2)

/-- The function of the operation that writes `main_v207`, named. It packs its operands into a list of dependent pairs
    whose shapes a later argument's type mentions, so `simp` cannot rewrite an operand where it stands; applied by
    name, the operands are plain arguments, which the window lemmas below rewrite before the name unfolds. -/
def fn_main_v207 : (main_v204 : Ref sig .tc).ty.Contents (Elt F) → (main_v205 : Ref sig .tc).ty.Contents (Elt F) → (main_v206 : Ref sig .tc).ty.Contents (Elt F) → (main_v207 : Ref sig .tc).ty.Contents (Elt F) :=
  (fun u0 u1 u2 => (concatenate S32x3 1 [⟨S32x1, (u0 : (⟨S32x1, .f32⟩ : BufTy).Contents (Elt F))⟩, ⟨S32x1, (u1 : (⟨S32x1, .f32⟩ : BufTy).Contents (Elt F))⟩, ⟨S32x1, (u2 : (⟨S32x1, .f32⟩ : BufTy).Contents (Elt F))⟩] concatenates_S32x1_S32x1_S32x1_S32x3_d1 : (⟨S32x3, .f32⟩ : BufTy).Contents (Elt F)))

/-- @main's operations 1 … 30 of 290 (window `main_part0`). -/
abbrev ops_part0_0 : List (HloOp τ sig (Elt F)) :=
  [ nullary main_cst (constant S_ .f32 0x00000000#32),
    unary main_cst main_v0 (broadcastInDim S32x8732x4 ![] bcast_S_S32x8732x4 : (⟨S_, .f32⟩ : BufTy).Contents (Elt F) → (⟨S32x8732x4, .f32⟩ : BufTy).Contents (Elt F)),
    unary main_arg3 main_v1 ((extractStridedSlice S32x20x4 ![0, 0, 0] · slices_S32x20x5_S32x20x4_0_0_0) : (⟨S32x20x5, .f32⟩ : BufTy).Contents (Elt F) → (⟨S32x20x4, .f32⟩ : BufTy).Contents (Elt F)),
    unary main_arg3 main_v2 ((extractStridedSlice S32x20x1 ![0, 0, 4] · slices_S32x20x5_S32x20x1_0_0_4) : (⟨S32x20x5, .f32⟩ : BufTy).Contents (Elt F) → (⟨S32x20x1, .f32⟩ : BufTy).Contents (Elt F)),
    reshape main_v2 main_v3 (rfl : (.f32 : EltTy) = .f32) shapeCasts_S32x20x1_S32x20,
    nullary main_v4 (iotaInDim S32 32 0),
    unary main_v4 main_v5 (broadcastInDim S32x1 ![0] bcast_S32_S32x1_0 : (⟨S32, .i32⟩ : BufTy).Contents (Elt F) → (⟨S32x1, .i32⟩ : BufTy).Contents (Elt F)),
    unary main_arg2 main_v6 ((extractStridedSlice S8732x2 ![0, 0] · slices_S8732x4_S8732x2_0_0) : (⟨S8732x4, .f32⟩ : BufTy).Contents (Elt F) → (⟨S8732x2, .f32⟩ : BufTy).Contents (Elt F)),
    unary main_arg2 main_v7 ((extractStridedSlice S8732x2 ![0, 2] · slices_S8732x4_S8732x2_0_2) : (⟨S8732x4, .f32⟩ : BufTy).Contents (Elt F) → (⟨S8732x2, .f32⟩ : BufTy).Contents (Elt F)),
    nullary main_cst_0 (constant S_ .f32 0x40000000#32),
    unary main_cst_0 main_v8 (broadcastInDim S8732x2 ![] bcast_S_S8732x2 : (⟨S_, .f32⟩ : BufTy).Contents (Elt F) → (⟨S8732x2, .f32⟩ : BufTy).Contents (Elt F)),
    binary main_v7 main_v8 main_v9 (Host.divf : (⟨S8732x2, .f32⟩ : BufTy).Contents (Elt F) → (⟨S8732x2, .f32⟩ : BufTy).Contents (Elt F) → (⟨S8732x2, .f32⟩ : BufTy).Contents (Elt F)),
    binary main_v6 main_v9 main_v10 (subf : (⟨S8732x2, .f32⟩ : BufTy).Contents (Elt F) → (⟨S8732x2, .f32⟩ : BufTy).Contents (Elt F) → (⟨S8732x2, .f32⟩ : BufTy).Contents (Elt F)),
    unary main_arg2 main_v11 ((extractStridedSlice S8732x2 ![0, 0] · slices_S8732x4_S8732x2_0_0) : (⟨S8732x4, .f32⟩ : BufTy).Contents (Elt F) → (⟨S8732x2, .f32⟩ : BufTy).Contents (Elt F)),
    unary main_arg2 main_v12 ((extractStridedSlice S8732x2 ![0, 2] · slices_S8732x4_S8732x2_0_2) : (⟨S8732x4, .f32⟩ : BufTy).Contents (Elt F) → (⟨S8732x2, .f32⟩ : BufTy).Contents (Elt F)),
    nullary main_cst_1 (constant S_ .f32 0x40000000#32),
    unary main_cst_1 main_v13 (broadcastInDim S8732x2 ![] bcast_S_S8732x2 : (⟨S_, .f32⟩ : BufTy).Contents (Elt F) → (⟨S8732x2, .f32⟩ : BufTy).Contents (Elt F)),
    binary main_v12 main_v13 main_v14 (Host.divf : (⟨S8732x2, .f32⟩ : BufTy).Contents (Elt F) → (⟨S8732x2, .f32⟩ : BufTy).Contents (Elt F) → (⟨S8732x2, .f32⟩ : BufTy).Contents (Elt F)),
    binary main_v11 main_v14 main_v15 (addf : (⟨S8732x2, .f32⟩ : BufTy).Contents (Elt F) → (⟨S8732x2, .f32⟩ : BufTy).Contents (Elt F) → (⟨S8732x2, .f32⟩ : BufTy).Contents (Elt F)),
    binary main_v10 main_v15 main_v16 (fn_main_v16 (F := F)),
    unary main_v1 main_v17 ((extractStridedSlice S32x20x2 ![0, 0, 2] · slices_S32x20x4_S32x20x2_0_0_2) : (⟨S32x20x4, .f32⟩ : BufTy).Contents (Elt F) → (⟨S32x20x2, .f32⟩ : BufTy).Contents (Elt F)),
    unary main_v17 main_v18 (broadcastInDim S32x20x1x2 ![0, 1, 3] bcast_S32x20x2_S32x20x1x2_0_1_3 : (⟨S32x20x2, .f32⟩ : BufTy).Contents (Elt F) → (⟨S32x20x1x2, .f32⟩ : BufTy).Contents (Elt F)),
    unary main_v16 main_v19 ((extractStridedSlice S8732x2 ![0, 2] · slices_S8732x4_S8732x2_0_2) : (⟨S8732x4, .f32⟩ : BufTy).Contents (Elt F) → (⟨S8732x2, .f32⟩ : BufTy).Contents (Elt F)),
    unary main_v19 main_v20 (broadcastInDim S1x8732x2 ![1, 2] bcast_S8732x2_S1x8732x2_1_2 : (⟨S8732x2, .f32⟩ : BufTy).Contents (Elt F) → (⟨S1x8732x2, .f32⟩ : BufTy).Contents (Elt F)),
    unary main_v20 main_v21 (broadcastInDim S1x1x8732x2 ![1, 2, 3] bcast_S1x8732x2_S1x1x8732x2_1_2_3 : (⟨S1x8732x2, .f32⟩ : BufTy).Contents (Elt F) → (⟨S1x1x8732x2, .f32⟩ : BufTy).Contents (Elt F)),
    unary main_v18 main_v22 (broadcastInDim S32x20x8732x2 ![0, 1, 2, 3] bcast_S32x20x1x2_S32x20x8732x2_0_1_2_3 : (⟨S32x20x1x2, .f32⟩ : BufTy).Contents (Elt F) → (⟨S32x20x8732x2, .f32⟩ : BufTy).Contents (Elt F)),
    unary main_v21 main_v23 (broadcastInDim S32x20x8732x2 ![0, 1, 2, 3] bcast_S1x1x8732x2_S32x20x8732x2_0_1_2_3 : (⟨S1x1x8732x2, .f32⟩ : BufTy).Contents (Elt F) → (⟨S32x20x8732x2, .f32⟩ : BufTy).Contents (Elt F)),
    binary main_v22 main_v23 main_v24 (minimumf : (⟨S32x20x8732x2, .f32⟩ : BufTy).Contents (Elt F) → (⟨S32x20x8732x2, .f32⟩ : BufTy).Contents (Elt F) → (⟨S32x20x8732x2, .f32⟩ : BufTy).Contents (Elt F)),
    unary main_v1 main_v25 ((extractStridedSlice S32x20x2 ![0, 0, 0] · slices_S32x20x4_S32x20x2_0_0_0) : (⟨S32x20x4, .f32⟩ : BufTy).Contents (Elt F) → (⟨S32x20x2, .f32⟩ : BufTy).Contents (Elt F)),
    unary main_v25 main_v26 (broadcastInDim S32x20x1x2 ![0, 1, 3] bcast_S32x20x2_S32x20x1x2_0_1_3 : (⟨S32x20x2, .f32⟩ : BufTy).Contents (Elt F) → (⟨S32x20x1x2, .f32⟩ : BufTy).Contents (Elt F)) ]

/-- @main's operations 31 … 60 of 290 (window `main_part0`). -/
abbrev ops_part0_1 : List (HloOp τ sig (Elt F)) :=
  [ unary main_v16 main_v27 ((extractStridedSlice S8732x2 ![0, 0] · slices_S8732x4_S8732x2_0_0) : (⟨S8732x4, .f32⟩ : BufTy).Contents (Elt F) → (⟨S8732x2, .f32⟩ : BufTy).Contents (Elt F)),
    unary main_v27 main_v28 (broadcastInDim S1x8732x2 ![1, 2] bcast_S8732x2_S1x8732x2_1_2 : (⟨S8732x2, .f32⟩ : BufTy).Contents (Elt F) → (⟨S1x8732x2, .f32⟩ : BufTy).Contents (Elt F)),
    unary main_v28 main_v29 (broadcastInDim S1x1x8732x2 ![1, 2, 3] bcast_S1x8732x2_S1x1x8732x2_1_2_3 : (⟨S1x8732x2, .f32⟩ : BufTy).Contents (Elt F) → (⟨S1x1x8732x2, .f32⟩ : BufTy).Contents (Elt F)),
    unary main_v26 main_v30 (broadcastInDim S32x20x8732x2 ![0, 1, 2, 3] bcast_S32x20x1x2_S32x20x8732x2_0_1_2_3 : (⟨S32x20x1x2, .f32⟩ : BufTy).Contents (Elt F) → (⟨S32x20x8732x2, .f32⟩ : BufTy).Contents (Elt F)),
    unary main_v29 main_v31 (broadcastInDim S32x20x8732x2 ![0, 1, 2, 3] bcast_S1x1x8732x2_S32x20x8732x2_0_1_2_3 : (⟨S1x1x8732x2, .f32⟩ : BufTy).Contents (Elt F) → (⟨S32x20x8732x2, .f32⟩ : BufTy).Contents (Elt F)),
    binary main_v30 main_v31 main_v32 (maximumf : (⟨S32x20x8732x2, .f32⟩ : BufTy).Contents (Elt F) → (⟨S32x20x8732x2, .f32⟩ : BufTy).Contents (Elt F) → (⟨S32x20x8732x2, .f32⟩ : BufTy).Contents (Elt F)),
    binary main_v24 main_v32 main_v33 (subf : (⟨S32x20x8732x2, .f32⟩ : BufTy).Contents (Elt F) → (⟨S32x20x8732x2, .f32⟩ : BufTy).Contents (Elt F) → (⟨S32x20x8732x2, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S32x20x8732x2, .f32⟩) main_call0_v1) (broadcastInDim S32x20x8732x2 ![] bcast_S_S32x20x8732x2),
    TRef.binary (TRef.of (T := ⟨S32x20x8732x2, .f32⟩) main_call0_v1) (TRef.of (T := ⟨S32x20x8732x2, .f32⟩) main_v33) (TRef.of (T := ⟨S32x20x8732x2, .f32⟩) main_v34) maximumf,
    unary main_v34 main_v35 ((extractStridedSlice S32x20x8732x1 ![0, 0, 0, 0] · slices_S32x20x8732x2_S32x20x8732x1_0_0_0_0) : (⟨S32x20x8732x2, .f32⟩ : BufTy).Contents (Elt F) → (⟨S32x20x8732x1, .f32⟩ : BufTy).Contents (Elt F)),
    reshape main_v35 main_v36 (rfl : (.f32 : EltTy) = .f32) shapeCasts_S32x20x8732x1_S32x20x8732,
    unary main_v34 main_v37 ((extractStridedSlice S32x20x8732x1 ![0, 0, 0, 1] · slices_S32x20x8732x2_S32x20x8732x1_0_0_0_1) : (⟨S32x20x8732x2, .f32⟩ : BufTy).Contents (Elt F) → (⟨S32x20x8732x1, .f32⟩ : BufTy).Contents (Elt F)),
    reshape main_v37 main_v38 (rfl : (.f32 : EltTy) = .f32) shapeCasts_S32x20x8732x1_S32x20x8732,
    binary main_v36 main_v38 main_v39 (mulf : (⟨S32x20x8732, .f32⟩ : BufTy).Contents (Elt F) → (⟨S32x20x8732, .f32⟩ : BufTy).Contents (Elt F) → (⟨S32x20x8732, .f32⟩ : BufTy).Contents (Elt F)),
    unary main_v1 main_v40 ((extractStridedSlice S32x20x1 ![0, 0, 2] · slices_S32x20x4_S32x20x1_0_0_2) : (⟨S32x20x4, .f32⟩ : BufTy).Contents (Elt F) → (⟨S32x20x1, .f32⟩ : BufTy).Contents (Elt F)),
    reshape main_v40 main_v41 (rfl : (.f32 : EltTy) = .f32) shapeCasts_S32x20x1_S32x20,
    unary main_v1 main_v42 ((extractStridedSlice S32x20x1 ![0, 0, 0] · slices_S32x20x4_S32x20x1_0_0_0) : (⟨S32x20x4, .f32⟩ : BufTy).Contents (Elt F) → (⟨S32x20x1, .f32⟩ : BufTy).Contents (Elt F)),
    reshape main_v42 main_v43 (rfl : (.f32 : EltTy) = .f32) shapeCasts_S32x20x1_S32x20,
    binary main_v41 main_v43 main_v44 (subf : (⟨S32x20, .f32⟩ : BufTy).Contents (Elt F) → (⟨S32x20, .f32⟩ : BufTy).Contents (Elt F) → (⟨S32x20, .f32⟩ : BufTy).Contents (Elt F)),
    unary main_v1 main_v45 ((extractStridedSlice S32x20x1 ![0, 0, 3] · slices_S32x20x4_S32x20x1_0_0_3) : (⟨S32x20x4, .f32⟩ : BufTy).Contents (Elt F) → (⟨S32x20x1, .f32⟩ : BufTy).Contents (Elt F)),
    reshape main_v45 main_v46 (rfl : (.f32 : EltTy) = .f32) shapeCasts_S32x20x1_S32x20,
    unary main_v1 main_v47 ((extractStridedSlice S32x20x1 ![0, 0, 1] · slices_S32x20x4_S32x20x1_0_0_1) : (⟨S32x20x4, .f32⟩ : BufTy).Contents (Elt F) → (⟨S32x20x1, .f32⟩ : BufTy).Contents (Elt F)),
    reshape main_v47 main_v48 (rfl : (.f32 : EltTy) = .f32) shapeCasts_S32x20x1_S32x20,
    binary main_v46 main_v48 main_v49 (subf : (⟨S32x20, .f32⟩ : BufTy).Contents (Elt F) → (⟨S32x20, .f32⟩ : BufTy).Contents (Elt F) → (⟨S32x20, .f32⟩ : BufTy).Contents (Elt F)),
    binary main_v44 main_v49 main_v50 (mulf : (⟨S32x20, .f32⟩ : BufTy).Contents (Elt F) → (⟨S32x20, .f32⟩ : BufTy).Contents (Elt F) → (⟨S32x20, .f32⟩ : BufTy).Contents (Elt F)),
    unary main_v50 main_v51 (broadcastInDim S32x20x1 ![0, 1] bcast_S32x20_S32x20x1_0_1 : (⟨S32x20, .f32⟩ : BufTy).Contents (Elt F) → (⟨S32x20x1, .f32⟩ : BufTy).Contents (Elt F)),
    unary main_v16 main_v52 ((extractStridedSlice S8732x1 ![0, 2] · slices_S8732x4_S8732x1_0_2) : (⟨S8732x4, .f32⟩ : BufTy).Contents (Elt F) → (⟨S8732x1, .f32⟩ : BufTy).Contents (Elt F)),
    reshape main_v52 main_v53 (rfl : (.f32 : EltTy) = .f32) shapeCasts_S8732x1_S8732 ]

/-- @main's operations 61 … 62 of 290 (window `main_part0`). -/
abbrev ops_part0_2 : List (HloOp τ sig (Elt F)) :=
  [ unary main_v16 main_v54 ((extractStridedSlice S8732x1 ![0, 0] · slices_S8732x4_S8732x1_0_0) : (⟨S8732x4, .f32⟩ : BufTy).Contents (Elt F) → (⟨S8732x1, .f32⟩ : BufTy).Contents (Elt F)),
    reshape main_v54 main_v55 (rfl : (.f32 : EltTy) = .f32) shapeCasts_S8732x1_S8732 ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 92 of 290 (window `main_part1`). -/
abbrev ops_part1_0 : List (HloOp τ sig (Elt F)) :=
  [ binary main_v53 main_v55 main_v56 (subf : (⟨S8732, .f32⟩ : BufTy).Contents (Elt F) → (⟨S8732, .f32⟩ : BufTy).Contents (Elt F) → (⟨S8732, .f32⟩ : BufTy).Contents (Elt F)),
    unary main_v16 main_v57 ((extractStridedSlice S8732x1 ![0, 3] · slices_S8732x4_S8732x1_0_3) : (⟨S8732x4, .f32⟩ : BufTy).Contents (Elt F) → (⟨S8732x1, .f32⟩ : BufTy).Contents (Elt F)),
    reshape main_v57 main_v58 (rfl : (.f32 : EltTy) = .f32) shapeCasts_S8732x1_S8732,
    unary main_v16 main_v59 ((extractStridedSlice S8732x1 ![0, 1] · slices_S8732x4_S8732x1_0_1) : (⟨S8732x4, .f32⟩ : BufTy).Contents (Elt F) → (⟨S8732x1, .f32⟩ : BufTy).Contents (Elt F)),
    reshape main_v59 main_v60 (rfl : (.f32 : EltTy) = .f32) shapeCasts_S8732x1_S8732,
    binary main_v58 main_v60 main_v61 (subf : (⟨S8732, .f32⟩ : BufTy).Contents (Elt F) → (⟨S8732, .f32⟩ : BufTy).Contents (Elt F) → (⟨S8732, .f32⟩ : BufTy).Contents (Elt F)),
    binary main_v56 main_v61 main_v62 (mulf : (⟨S8732, .f32⟩ : BufTy).Contents (Elt F) → (⟨S8732, .f32⟩ : BufTy).Contents (Elt F) → (⟨S8732, .f32⟩ : BufTy).Contents (Elt F)),
    unary main_v62 main_v63 (broadcastInDim S1x8732 ![1] bcast_S8732_S1x8732_1 : (⟨S8732, .f32⟩ : BufTy).Contents (Elt F) → (⟨S1x8732, .f32⟩ : BufTy).Contents (Elt F)),
    unary main_v63 main_v64 (broadcastInDim S1x1x8732 ![1, 2] bcast_S1x8732_S1x1x8732_1_2 : (⟨S1x8732, .f32⟩ : BufTy).Contents (Elt F) → (⟨S1x1x8732, .f32⟩ : BufTy).Contents (Elt F)),
    unary main_v51 main_v65 (broadcastInDim S32x20x8732 ![0, 1, 2] bcast_S32x20x1_S32x20x8732_0_1_2 : (⟨S32x20x1, .f32⟩ : BufTy).Contents (Elt F) → (⟨S32x20x8732, .f32⟩ : BufTy).Contents (Elt F)),
    unary main_v64 main_v66 (broadcastInDim S32x20x8732 ![0, 1, 2] bcast_S1x1x8732_S32x20x8732_0_1_2 : (⟨S1x1x8732, .f32⟩ : BufTy).Contents (Elt F) → (⟨S32x20x8732, .f32⟩ : BufTy).Contents (Elt F)),
    binary main_v65 main_v66 main_v67 (addf : (⟨S32x20x8732, .f32⟩ : BufTy).Contents (Elt F) → (⟨S32x20x8732, .f32⟩ : BufTy).Contents (Elt F) → (⟨S32x20x8732, .f32⟩ : BufTy).Contents (Elt F)),
    binary main_v67 main_v39 main_v68 (subf : (⟨S32x20x8732, .f32⟩ : BufTy).Contents (Elt F) → (⟨S32x20x8732, .f32⟩ : BufTy).Contents (Elt F) → (⟨S32x20x8732, .f32⟩ : BufTy).Contents (Elt F)),
    binary main_v39 main_v68 main_v69 (Host.divf : (⟨S32x20x8732, .f32⟩ : BufTy).Contents (Elt F) → (⟨S32x20x8732, .f32⟩ : BufTy).Contents (Elt F) → (⟨S32x20x8732, .f32⟩ : BufTy).Contents (Elt F)),
    TRef.nullary (TRef.of (T := ⟨S32x20x8732, .i32⟩) main_call1_v0) (iotaInDim S32x20x8732 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S32x20x8732, .f32⟩) main_v69) (TRef.of (T := ⟨S32x20x8732, .i32⟩) main_call1_v0) (TRef.of (T := ⟨S_, .f32⟩) main_call1_cst) (TRef.of (T := ⟨S_, .i32⟩) main_call1_c) (TRef.of (T := ⟨S32x20, .f32⟩) main_call1_v1_0) (fun x y u v j => (Host.argReduce reducer_argmax_f32_i32 x y u v reducesTo_S32x20x8732_S32x20_d2 h_S_ j).1),
    TRef.quaternary (TRef.of (T := ⟨S32x20x8732, .f32⟩) main_v69) (TRef.of (T := ⟨S32x20x8732, .i32⟩) main_call1_v0) (TRef.of (T := ⟨S_, .f32⟩) main_call1_cst) (TRef.of (T := ⟨S_, .i32⟩) main_call1_c) (TRef.of (T := ⟨S32x20, .i32⟩) main_v70) (fun x y u v j => (Host.argReduce reducer_argmax_f32_i32 x y u v reducesTo_S32x20x8732_S32x20_d2 h_S_ j).2),
    nullary main_cst_3 (constant S_ .f32 0xFF800000#32),
    binary main_v69 main_cst_3 main_v71 ((fun x v => Host.reduce FloatOps.maximumf x v reducesTo_S32x20x8732_S32x8732_d1 h_S_) : (⟨S32x20x8732, .f32⟩ : BufTy).Contents (Elt F) → (⟨S_, .f32⟩ : BufTy).Contents (Elt F) → (⟨S32x8732, .f32⟩ : BufTy).Contents (Elt F)),
    TRef.nullary (TRef.of (T := ⟨S32x20x8732, .i32⟩) main_call2_v0) (iotaInDim S32x20x8732 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S32x20x8732, .f32⟩) main_v69) (TRef.of (T := ⟨S32x20x8732, .i32⟩) main_call2_v0) (TRef.of (T := ⟨S_, .f32⟩) main_call2_cst) (TRef.of (T := ⟨S_, .i32⟩) main_call2_c) (TRef.of (T := ⟨S32x8732, .f32⟩) main_call2_v1_0) (fun x y u v j => (Host.argReduce reducer_argmax_f32_i32 x y u v reducesTo_S32x20x8732_S32x8732_d1 h_S_ j).1),
    TRef.quaternary (TRef.of (T := ⟨S32x20x8732, .f32⟩) main_v69) (TRef.of (T := ⟨S32x20x8732, .i32⟩) main_call2_v0) (TRef.of (T := ⟨S_, .f32⟩) main_call2_cst) (TRef.of (T := ⟨S_, .i32⟩) main_call2_c) (TRef.of (T := ⟨S32x8732, .i32⟩) main_v72) (fun x y u v j => (Host.argReduce reducer_argmax_f32_i32 x y u v reducesTo_S32x20x8732_S32x8732_d1 h_S_ j).2),
    nullary main_c (constantI S_ 32 0#32),
    unary main_c main_v73 (broadcastInDim S32x1 ![] bcast_S_S32x1 : (⟨S_, .i32⟩ : BufTy).Contents (Elt F) → (⟨S32x1, .i32⟩ : BufTy).Contents (Elt F)),
    binary main_v5 main_v73 main_v74 (cmpi .slt : (⟨S32x1, .i32⟩ : BufTy).Contents (Elt F) → (⟨S32x1, .i32⟩ : BufTy).Contents (Elt F) → (⟨S32x1, .i1⟩ : BufTy).Contents (Elt F)),
    nullary main_c_4 (constantI S_ 32 32#32) ]

/-- @main's operations 93 … 122 of 290 (window `main_part1`). -/
abbrev ops_part1_1 : List (HloOp τ sig (Elt F)) :=
  [ unary main_c_4 main_v75 (broadcastInDim S32x1 ![] bcast_S_S32x1 : (⟨S_, .i32⟩ : BufTy).Contents (Elt F) → (⟨S32x1, .i32⟩ : BufTy).Contents (Elt F)),
    binary main_v5 main_v75 main_v76 (addi : (⟨S32x1, .i32⟩ : BufTy).Contents (Elt F) → (⟨S32x1, .i32⟩ : BufTy).Contents (Elt F) → (⟨S32x1, .i32⟩ : BufTy).Contents (Elt F)),
    ternary main_v74 main_v76 main_v5 main_v77 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_5 (constantI S_ 32 0#32),
    unary main_c_5 main_v78 (broadcastInDim S32x20 ![] bcast_S_S32x20 : (⟨S_, .i32⟩ : BufTy).Contents (Elt F) → (⟨S32x20, .i32⟩ : BufTy).Contents (Elt F)),
    binary main_v70 main_v78 main_v79 (cmpi .slt : (⟨S32x20, .i32⟩ : BufTy).Contents (Elt F) → (⟨S32x20, .i32⟩ : BufTy).Contents (Elt F) → (⟨S32x20, .i1⟩ : BufTy).Contents (Elt F)),
    nullary main_c_6 (constantI S_ 32 8732#32),
    unary main_c_6 main_v80 (broadcastInDim S32x20 ![] bcast_S_S32x20 : (⟨S_, .i32⟩ : BufTy).Contents (Elt F) → (⟨S32x20, .i32⟩ : BufTy).Contents (Elt F)),
    binary main_v70 main_v80 main_v81 (addi : (⟨S32x20, .i32⟩ : BufTy).Contents (Elt F) → (⟨S32x20, .i32⟩ : BufTy).Contents (Elt F) → (⟨S32x20, .i32⟩ : BufTy).Contents (Elt F)),
    ternary main_v79 main_v81 main_v70 main_v82 (select : (⟨S32x20, .i1⟩ : BufTy).Contents (Elt F) → (⟨S32x20, .i32⟩ : BufTy).Contents (Elt F) → (⟨S32x20, .i32⟩ : BufTy).Contents (Elt F) → (⟨S32x20, .i32⟩ : BufTy).Contents (Elt F)),
    unary main_v77 main_v83 (broadcastInDim S32x20 ![0, 1] bcast_S32x1_S32x20_0_1 : (⟨S32x1, .i32⟩ : BufTy).Contents (Elt F) → (⟨S32x20, .i32⟩ : BufTy).Contents (Elt F)),
    unary main_v83 main_v84 (broadcastInDim S32x20x1 ![0, 1] bcast_S32x20_S32x20x1_0_1 : (⟨S32x20, .i32⟩ : BufTy).Contents (Elt F) → (⟨S32x20x1, .i32⟩ : BufTy).Contents (Elt F)),
    unary main_v82 main_v85 (broadcastInDim S32x20x1 ![0, 1] bcast_S32x20_S32x20x1_0_1 : (⟨S32x20, .i32⟩ : BufTy).Contents (Elt F) → (⟨S32x20x1, .i32⟩ : BufTy).Contents (Elt F)),
    binary main_v84 main_v85 main_v86 (fn_main_v86 (F := F)),
    nullary main_cst_7 (constant S_ .f32 0x40000000#32),
    unary main_cst_7 main_v87 (broadcastInDim S32x20 ![] bcast_S_S32x20 : (⟨S_, .f32⟩ : BufTy).Contents (Elt F) → (⟨S32x20, .f32⟩ : BufTy).Contents (Elt F)),
    ternary main_v71 main_v86 main_v87 main_v88 ((fun x i u => Host.scatter scatter_S32x8732_S32x20x2_S32x20_n_01_01_2 (fun _ b => b) x i u) : (⟨S32x8732, .f32⟩ : BufTy).Contents (Elt F) → (⟨S32x20x2, .i32⟩ : BufTy).Contents (Elt F) → (⟨S32x20, .f32⟩ : BufTy).Contents (Elt F) → (⟨S32x8732, .f32⟩ : BufTy).Contents (Elt F)),
    nullary main_v89 (iotaInDim S20 32 0),
    unary main_v89 main_v90 (broadcastInDim S32x20 ![1] bcast_S20_S32x20_1 : (⟨S20, .i32⟩ : BufTy).Contents (Elt F) → (⟨S32x20, .i32⟩ : BufTy).Contents (Elt F)),
    nullary main_c_8 (constantI S_ 32 0#32),
    unary main_c_8 main_v91 (broadcastInDim S32x1 ![] bcast_S_S32x1 : (⟨S_, .i32⟩ : BufTy).Contents (Elt F) → (⟨S32x1, .i32⟩ : BufTy).Contents (Elt F)),
    binary main_v5 main_v91 main_v92 (cmpi .slt : (⟨S32x1, .i32⟩ : BufTy).Contents (Elt F) → (⟨S32x1, .i32⟩ : BufTy).Contents (Elt F) → (⟨S32x1, .i1⟩ : BufTy).Contents (Elt F)),
    nullary main_c_9 (constantI S_ 32 32#32),
    unary main_c_9 main_v93 (broadcastInDim S32x1 ![] bcast_S_S32x1 : (⟨S_, .i32⟩ : BufTy).Contents (Elt F) → (⟨S32x1, .i32⟩ : BufTy).Contents (Elt F)),
    binary main_v5 main_v93 main_v94 (addi : (⟨S32x1, .i32⟩ : BufTy).Contents (Elt F) → (⟨S32x1, .i32⟩ : BufTy).Contents (Elt F) → (⟨S32x1, .i32⟩ : BufTy).Contents (Elt F)),
    ternary main_v92 main_v94 main_v5 main_v95 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_10 (constantI S_ 32 0#32),
    unary main_c_10 main_v96 (broadcastInDim S32x20 ![] bcast_S_S32x20 : (⟨S_, .i32⟩ : BufTy).Contents (Elt F) → (⟨S32x20, .i32⟩ : BufTy).Contents (Elt F)),
    binary main_v70 main_v96 main_v97 (cmpi .slt : (⟨S32x20, .i32⟩ : BufTy).Contents (Elt F) → (⟨S32x20, .i32⟩ : BufTy).Contents (Elt F) → (⟨S32x20, .i1⟩ : BufTy).Contents (Elt F)),
    nullary main_c_11 (constantI S_ 32 8732#32) ]

/-- @main's operations 123 … 130 of 290 (window `main_part1`). -/
abbrev ops_part1_2 : List (HloOp τ sig (Elt F)) :=
  [ unary main_c_11 main_v98 (broadcastInDim S32x20 ![] bcast_S_S32x20 : (⟨S_, .i32⟩ : BufTy).Contents (Elt F) → (⟨S32x20, .i32⟩ : BufTy).Contents (Elt F)),
    binary main_v70 main_v98 main_v99 (addi : (⟨S32x20, .i32⟩ : BufTy).Contents (Elt F) → (⟨S32x20, .i32⟩ : BufTy).Contents (Elt F) → (⟨S32x20, .i32⟩ : BufTy).Contents (Elt F)),
    ternary main_v97 main_v99 main_v70 main_v100 (select : (⟨S32x20, .i1⟩ : BufTy).Contents (Elt F) → (⟨S32x20, .i32⟩ : BufTy).Contents (Elt F) → (⟨S32x20, .i32⟩ : BufTy).Contents (Elt F) → (⟨S32x20, .i32⟩ : BufTy).Contents (Elt F)),
    unary main_v95 main_v101 (broadcastInDim S32x20 ![0, 1] bcast_S32x1_S32x20_0_1 : (⟨S32x1, .i32⟩ : BufTy).Contents (Elt F) → (⟨S32x20, .i32⟩ : BufTy).Contents (Elt F)),
    unary main_v101 main_v102 (broadcastInDim S32x20x1 ![0, 1] bcast_S32x20_S32x20x1_0_1 : (⟨S32x20, .i32⟩ : BufTy).Contents (Elt F) → (⟨S32x20x1, .i32⟩ : BufTy).Contents (Elt F)),
    unary main_v100 main_v103 (broadcastInDim S32x20x1 ![0, 1] bcast_S32x20_S32x20x1_0_1 : (⟨S32x20, .i32⟩ : BufTy).Contents (Elt F) → (⟨S32x20x1, .i32⟩ : BufTy).Contents (Elt F)),
    binary main_v102 main_v103 main_v104 (fn_main_v104 (F := F)),
    ternary main_v72 main_v104 main_v90 main_v105 ((fun x i u => Host.scatter scatter_S32x8732_S32x20x2_S32x20_n_01_01_2 (fun _ b => b) x i u) : (⟨S32x8732, .i32⟩ : BufTy).Contents (Elt F) → (⟨S32x20x2, .i32⟩ : BufTy).Contents (Elt F) → (⟨S32x20, .i32⟩ : BufTy).Contents (Elt F) → (⟨S32x8732, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 131 … 160 of 290 (window `main_part2`). -/
abbrev ops_part2_0 : List (HloOp τ sig (Elt F)) :=
  [ nullary main_c_12 (constantI S_ 32 0#32),
    unary main_c_12 main_v106 (broadcastInDim S32x1 ![] bcast_S_S32x1 : (⟨S_, .i32⟩ : BufTy).Contents (Elt F) → (⟨S32x1, .i32⟩ : BufTy).Contents (Elt F)),
    binary main_v5 main_v106 main_v107 (cmpi .slt : (⟨S32x1, .i32⟩ : BufTy).Contents (Elt F) → (⟨S32x1, .i32⟩ : BufTy).Contents (Elt F) → (⟨S32x1, .i1⟩ : BufTy).Contents (Elt F)),
    nullary main_c_13 (constantI S_ 32 32#32),
    unary main_c_13 main_v108 (broadcastInDim S32x1 ![] bcast_S_S32x1 : (⟨S_, .i32⟩ : BufTy).Contents (Elt F) → (⟨S32x1, .i32⟩ : BufTy).Contents (Elt F)),
    binary main_v5 main_v108 main_v109 (addi : (⟨S32x1, .i32⟩ : BufTy).Contents (Elt F) → (⟨S32x1, .i32⟩ : BufTy).Contents (Elt F) → (⟨S32x1, .i32⟩ : BufTy).Contents (Elt F)),
    ternary main_v107 main_v109 main_v5 main_v110 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_14 (constantI S_ 32 0#32),
    unary main_c_14 main_v111 (broadcastInDim S32x8732 ![] bcast_S_S32x8732 : (⟨S_, .i32⟩ : BufTy).Contents (Elt F) → (⟨S32x8732, .i32⟩ : BufTy).Contents (Elt F)),
    binary main_v105 main_v111 main_v112 (cmpi .slt : (⟨S32x8732, .i32⟩ : BufTy).Contents (Elt F) → (⟨S32x8732, .i32⟩ : BufTy).Contents (Elt F) → (⟨S32x8732, .i1⟩ : BufTy).Contents (Elt F)),
    nullary main_c_15 (constantI S_ 32 20#32),
    unary main_c_15 main_v113 (broadcastInDim S32x8732 ![] bcast_S_S32x8732 : (⟨S_, .i32⟩ : BufTy).Contents (Elt F) → (⟨S32x8732, .i32⟩ : BufTy).Contents (Elt F)),
    binary main_v105 main_v113 main_v114 (addi : (⟨S32x8732, .i32⟩ : BufTy).Contents (Elt F) → (⟨S32x8732, .i32⟩ : BufTy).Contents (Elt F) → (⟨S32x8732, .i32⟩ : BufTy).Contents (Elt F)),
    ternary main_v112 main_v114 main_v105 main_v115 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F)),
    unary main_v110 main_v116 (broadcastInDim S32x8732 ![0, 1] bcast_S32x1_S32x8732_0_1 : (⟨S32x1, .i32⟩ : BufTy).Contents (Elt F) → (⟨S32x8732, .i32⟩ : BufTy).Contents (Elt F)),
    unary main_v116 main_v117 (broadcastInDim S32x8732x1 ![0, 1] bcast_S32x8732_S32x8732x1_0_1 : (⟨S32x8732, .i32⟩ : BufTy).Contents (Elt F) → (⟨S32x8732x1, .i32⟩ : BufTy).Contents (Elt F)),
    unary main_v115 main_v118 (broadcastInDim S32x8732x1 ![0, 1] bcast_S32x8732_S32x8732x1_0_1 : (⟨S32x8732, .i32⟩ : BufTy).Contents (Elt F) → (⟨S32x8732x1, .i32⟩ : BufTy).Contents (Elt F)),
    binary main_v117 main_v118 main_v119 (fn_main_v119 (F := F)),
    binary main_v1 main_v119 main_v120 ((fun x i => Host.gather gather_S32x20x4_S32x8732x2_S32x8732x4_2_01_n_n_01_2_114 x i) : (⟨S32x20x4, .f32⟩ : BufTy).Contents (Elt F) → (⟨S32x8732x2, .i32⟩ : BufTy).Contents (Elt F) → (⟨S32x8732x4, .f32⟩ : BufTy).Contents (Elt F)),
    nullary main_c_16 (constantI S_ 32 0#32),
    unary main_c_16 main_v121 (broadcastInDim S32x1 ![] bcast_S_S32x1 : (⟨S_, .i32⟩ : BufTy).Contents (Elt F) → (⟨S32x1, .i32⟩ : BufTy).Contents (Elt F)),
    binary main_v5 main_v121 main_v122 (cmpi .slt : (⟨S32x1, .i32⟩ : BufTy).Contents (Elt F) → (⟨S32x1, .i32⟩ : BufTy).Contents (Elt F) → (⟨S32x1, .i1⟩ : BufTy).Contents (Elt F)),
    nullary main_c_17 (constantI S_ 32 32#32),
    unary main_c_17 main_v123 (broadcastInDim S32x1 ![] bcast_S_S32x1 : (⟨S_, .i32⟩ : BufTy).Contents (Elt F) → (⟨S32x1, .i32⟩ : BufTy).Contents (Elt F)),
    binary main_v5 main_v123 main_v124 (addi : (⟨S32x1, .i32⟩ : BufTy).Contents (Elt F) → (⟨S32x1, .i32⟩ : BufTy).Contents (Elt F) → (⟨S32x1, .i32⟩ : BufTy).Contents (Elt F)),
    ternary main_v122 main_v124 main_v5 main_v125 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_18 (constantI S_ 32 0#32),
    unary main_c_18 main_v126 (broadcastInDim S32x8732 ![] bcast_S_S32x8732 : (⟨S_, .i32⟩ : BufTy).Contents (Elt F) → (⟨S32x8732, .i32⟩ : BufTy).Contents (Elt F)),
    binary main_v105 main_v126 main_v127 (cmpi .slt : (⟨S32x8732, .i32⟩ : BufTy).Contents (Elt F) → (⟨S32x8732, .i32⟩ : BufTy).Contents (Elt F) → (⟨S32x8732, .i1⟩ : BufTy).Contents (Elt F)),
    nullary main_c_19 (constantI S_ 32 20#32) ]

/-- @main's operations 161 … 190 of 290 (window `main_part2`). -/
abbrev ops_part2_1 : List (HloOp τ sig (Elt F)) :=
  [ unary main_c_19 main_v128 (broadcastInDim S32x8732 ![] bcast_S_S32x8732 : (⟨S_, .i32⟩ : BufTy).Contents (Elt F) → (⟨S32x8732, .i32⟩ : BufTy).Contents (Elt F)),
    binary main_v105 main_v128 main_v129 (addi : (⟨S32x8732, .i32⟩ : BufTy).Contents (Elt F) → (⟨S32x8732, .i32⟩ : BufTy).Contents (Elt F) → (⟨S32x8732, .i32⟩ : BufTy).Contents (Elt F)),
    ternary main_v127 main_v129 main_v105 main_v130 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F)),
    unary main_v125 main_v131 (broadcastInDim S32x8732 ![0, 1] bcast_S32x1_S32x8732_0_1 : (⟨S32x1, .i32⟩ : BufTy).Contents (Elt F) → (⟨S32x8732, .i32⟩ : BufTy).Contents (Elt F)),
    unary main_v131 main_v132 (broadcastInDim S32x8732x1 ![0, 1] bcast_S32x8732_S32x8732x1_0_1 : (⟨S32x8732, .i32⟩ : BufTy).Contents (Elt F) → (⟨S32x8732x1, .i32⟩ : BufTy).Contents (Elt F)),
    unary main_v130 main_v133 (broadcastInDim S32x8732x1 ![0, 1] bcast_S32x8732_S32x8732x1_0_1 : (⟨S32x8732, .i32⟩ : BufTy).Contents (Elt F) → (⟨S32x8732x1, .i32⟩ : BufTy).Contents (Elt F)),
    binary main_v132 main_v133 main_v134 (fn_main_v134 (F := F)),
    binary main_v3 main_v134 main_v135 ((fun x i => Host.gather gather_S32x20_S32x8732x2_S32x8732_n_01_n_n_01_2_11 x i) : (⟨S32x20, .f32⟩ : BufTy).Contents (Elt F) → (⟨S32x8732x2, .i32⟩ : BufTy).Contents (Elt F) → (⟨S32x8732, .f32⟩ : BufTy).Contents (Elt F)),
    unary main_v135 main_v136 (fptosi 32 : (⟨S32x8732, .f32⟩ : BufTy).Contents (Elt F) → (⟨S32x8732, .i32⟩ : BufTy).Contents (Elt F)),
    nullary main_c_20 (constantI S_ 32 1#32),
    unary main_c_20 main_v137 (broadcastInDim S32x8732 ![] bcast_S_S32x8732 : (⟨S_, .i32⟩ : BufTy).Contents (Elt F) → (⟨S32x8732, .i32⟩ : BufTy).Contents (Elt F)),
    binary main_v136 main_v137 main_v138 (addi : (⟨S32x8732, .i32⟩ : BufTy).Contents (Elt F) → (⟨S32x8732, .i32⟩ : BufTy).Contents (Elt F) → (⟨S32x8732, .i32⟩ : BufTy).Contents (Elt F)),
    nullary main_cst_21 (constant S_ .f32 0x3F000000#32),
    unary main_cst_21 main_v139 (broadcastInDim S32x8732 ![] bcast_S_S32x8732 : (⟨S_, .f32⟩ : BufTy).Contents (Elt F) → (⟨S32x8732, .f32⟩ : BufTy).Contents (Elt F)),
    binary main_v88 main_v139 main_v140 (cmpf .olt : (⟨S32x8732, .f32⟩ : BufTy).Contents (Elt F) → (⟨S32x8732, .f32⟩ : BufTy).Contents (Elt F) → (⟨S32x8732, .i1⟩ : BufTy).Contents (Elt F)),
    nullary main_c_22 (constantI S_ 32 0#32),
    TRef.unary (TRef.of (T := ⟨S_, .i32⟩) main_c_22) (TRef.of (T := ⟨S_, .i32⟩) main_call3_v0) id,
    TRef.unary (TRef.of (T := ⟨S_, .i32⟩) main_call3_v0) (TRef.of (T := ⟨S32x8732, .i32⟩) main_call3_v1) (broadcastInDim S32x8732 ![] bcast_S_S32x8732),
    TRef.ternary (TRef.of (T := ⟨S32x8732, .i1⟩) main_v140) (TRef.of (T := ⟨S32x8732, .i32⟩) main_call3_v1) (TRef.of (T := ⟨S32x8732, .i32⟩) main_v138) (TRef.of (T := ⟨S32x8732, .i32⟩) main_v141) select,
    unary main_v120 main_v142 ((extractStridedSlice S32x8732x2 ![0, 0, 0] · slices_S32x8732x4_S32x8732x2_0_0_0) : (⟨S32x8732x4, .f32⟩ : BufTy).Contents (Elt F) → (⟨S32x8732x2, .f32⟩ : BufTy).Contents (Elt F)),
    unary main_v120 main_v143 ((extractStridedSlice S32x8732x2 ![0, 0, 2] · slices_S32x8732x4_S32x8732x2_0_0_2) : (⟨S32x8732x4, .f32⟩ : BufTy).Contents (Elt F) → (⟨S32x8732x2, .f32⟩ : BufTy).Contents (Elt F)),
    binary main_v142 main_v143 main_v144 (addf : (⟨S32x8732x2, .f32⟩ : BufTy).Contents (Elt F) → (⟨S32x8732x2, .f32⟩ : BufTy).Contents (Elt F) → (⟨S32x8732x2, .f32⟩ : BufTy).Contents (Elt F)),
    nullary main_cst_23 (constant S_ .f32 0x40000000#32),
    unary main_cst_23 main_v145 (broadcastInDim S32x8732x2 ![] bcast_S_S32x8732x2 : (⟨S_, .f32⟩ : BufTy).Contents (Elt F) → (⟨S32x8732x2, .f32⟩ : BufTy).Contents (Elt F)),
    binary main_v144 main_v145 main_v146 (Host.divf : (⟨S32x8732x2, .f32⟩ : BufTy).Contents (Elt F) → (⟨S32x8732x2, .f32⟩ : BufTy).Contents (Elt F) → (⟨S32x8732x2, .f32⟩ : BufTy).Contents (Elt F)),
    unary main_arg2 main_v147 ((extractStridedSlice S8732x2 ![0, 0] · slices_S8732x4_S8732x2_0_0) : (⟨S8732x4, .f32⟩ : BufTy).Contents (Elt F) → (⟨S8732x2, .f32⟩ : BufTy).Contents (Elt F)),
    unary main_v147 main_v148 (broadcastInDim S1x8732x2 ![1, 2] bcast_S8732x2_S1x8732x2_1_2 : (⟨S8732x2, .f32⟩ : BufTy).Contents (Elt F) → (⟨S1x8732x2, .f32⟩ : BufTy).Contents (Elt F)),
    unary main_v148 main_v149 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
    binary main_v146 main_v149 main_v150 (subf : (⟨S32x8732x2, .f32⟩ : BufTy).Contents (Elt F) → (⟨S32x8732x2, .f32⟩ : BufTy).Contents (Elt F) → (⟨S32x8732x2, .f32⟩ : BufTy).Contents (Elt F)),
    unary main_arg2 main_v151 ((extractStridedSlice S8732x2 ![0, 2] · slices_S8732x4_S8732x2_0_2) : (⟨S8732x4, .f32⟩ : BufTy).Contents (Elt F) → (⟨S8732x2, .f32⟩ : BufTy).Contents (Elt F)) ]

/-- @main's operations 191 … 192 of 290 (window `main_part2`). -/
abbrev ops_part2_2 : List (HloOp τ sig (Elt F)) :=
  [ nullary main_cst_24 (constant S_ .f32 0x3DCCCCCD#32),
    unary main_cst_24 main_v152 (broadcastInDim S8732x2 ![] bcast_S_S8732x2 : (⟨S_, .f32⟩ : BufTy).Contents (Elt F) → (⟨S8732x2, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 193 … 222 of 290 (window `main_part3`). -/
abbrev ops_part3_0 : List (HloOp τ sig (Elt F)) :=
  [ binary main_v152 main_v151 main_v153 (mulf : (⟨S8732x2, .f32⟩ : BufTy).Contents (Elt F) → (⟨S8732x2, .f32⟩ : BufTy).Contents (Elt F) → (⟨S8732x2, .f32⟩ : BufTy).Contents (Elt F)),
    unary main_v153 main_v154 (broadcastInDim S1x8732x2 ![1, 2] bcast_S8732x2_S1x8732x2_1_2 : (⟨S8732x2, .f32⟩ : BufTy).Contents (Elt F) → (⟨S1x8732x2, .f32⟩ : BufTy).Contents (Elt F)),
    unary main_v154 main_v155 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
    binary main_v150 main_v155 main_v156 (Host.divf : (⟨S32x8732x2, .f32⟩ : BufTy).Contents (Elt F) → (⟨S32x8732x2, .f32⟩ : BufTy).Contents (Elt F) → (⟨S32x8732x2, .f32⟩ : BufTy).Contents (Elt F)),
    unary main_v120 main_v157 ((extractStridedSlice S32x8732x2 ![0, 0, 2] · slices_S32x8732x4_S32x8732x2_0_0_2) : (⟨S32x8732x4, .f32⟩ : BufTy).Contents (Elt F) → (⟨S32x8732x2, .f32⟩ : BufTy).Contents (Elt F)),
    unary main_v120 main_v158 ((extractStridedSlice S32x8732x2 ![0, 0, 0] · slices_S32x8732x4_S32x8732x2_0_0_0) : (⟨S32x8732x4, .f32⟩ : BufTy).Contents (Elt F) → (⟨S32x8732x2, .f32⟩ : BufTy).Contents (Elt F)),
    binary main_v157 main_v158 main_v159 (subf : (⟨S32x8732x2, .f32⟩ : BufTy).Contents (Elt F) → (⟨S32x8732x2, .f32⟩ : BufTy).Contents (Elt F) → (⟨S32x8732x2, .f32⟩ : BufTy).Contents (Elt F)),
    unary main_arg2 main_v160 ((extractStridedSlice S8732x2 ![0, 2] · slices_S8732x4_S8732x2_0_2) : (⟨S8732x4, .f32⟩ : BufTy).Contents (Elt F) → (⟨S8732x2, .f32⟩ : BufTy).Contents (Elt F)),
    unary main_v160 main_v161 (broadcastInDim S1x8732x2 ![1, 2] bcast_S8732x2_S1x8732x2_1_2 : (⟨S8732x2, .f32⟩ : BufTy).Contents (Elt F) → (⟨S1x8732x2, .f32⟩ : BufTy).Contents (Elt F)),
    unary main_v161 main_v162 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
    binary main_v159 main_v162 main_v163 (Host.divf : (⟨S32x8732x2, .f32⟩ : BufTy).Contents (Elt F) → (⟨S32x8732x2, .f32⟩ : BufTy).Contents (Elt F) → (⟨S32x8732x2, .f32⟩ : BufTy).Contents (Elt F)),
    nullary main_cst_25 (constant S_ .f32 0x322BCC77#32),
    unary main_cst_25 main_v164 (broadcastInDim S32x8732x2 ![] bcast_S_S32x8732x2 : (⟨S_, .f32⟩ : BufTy).Contents (Elt F) → (⟨S32x8732x2, .f32⟩ : BufTy).Contents (Elt F)),
    binary main_v163 main_v164 main_v165 (maximumf : (⟨S32x8732x2, .f32⟩ : BufTy).Contents (Elt F) → (⟨S32x8732x2, .f32⟩ : BufTy).Contents (Elt F) → (⟨S32x8732x2, .f32⟩ : BufTy).Contents (Elt F)),
    unary main_v165 main_v166 (Host.log : (⟨S32x8732x2, .f32⟩ : BufTy).Contents (Elt F) → (⟨S32x8732x2, .f32⟩ : BufTy).Contents (Elt F)),
    nullary main_cst_26 (constant S_ .f32 0x3E4CCCCD#32),
    unary main_cst_26 main_v167 (broadcastInDim S32x8732x2 ![] bcast_S_S32x8732x2 : (⟨S_, .f32⟩ : BufTy).Contents (Elt F) → (⟨S32x8732x2, .f32⟩ : BufTy).Contents (Elt F)),
    binary main_v166 main_v167 main_v168 (Host.divf : (⟨S32x8732x2, .f32⟩ : BufTy).Contents (Elt F) → (⟨S32x8732x2, .f32⟩ : BufTy).Contents (Elt F) → (⟨S32x8732x2, .f32⟩ : BufTy).Contents (Elt F)),
    binary main_v156 main_v168 main_v169 (fn_main_v169 (F := F)),
    nullary main_c_27 (constantI S_ 32 0#32),
    unary main_c_27 main_v170 (broadcastInDim S32x8732 ![] bcast_S_S32x8732 : (⟨S_, .i32⟩ : BufTy).Contents (Elt F) → (⟨S32x8732, .i32⟩ : BufTy).Contents (Elt F)),
    binary main_v141 main_v170 main_v171 (cmpi .sgt : (⟨S32x8732, .i32⟩ : BufTy).Contents (Elt F) → (⟨S32x8732, .i32⟩ : BufTy).Contents (Elt F) → (⟨S32x8732, .i1⟩ : BufTy).Contents (Elt F)),
    binary main_v0 main_v169 main_v172 (subf : (⟨S32x8732x4, .f32⟩ : BufTy).Contents (Elt F) → (⟨S32x8732x4, .f32⟩ : BufTy).Contents (Elt F) → (⟨S32x8732x4, .f32⟩ : BufTy).Contents (Elt F)),
    unary main_v172 main_v173 (Host.absf : (⟨S32x8732x4, .f32⟩ : BufTy).Contents (Elt F) → (⟨S32x8732x4, .f32⟩ : BufTy).Contents (Elt F)),
    nullary main_cst_28 (constant S_ .f32 0x3F800000#32),
    unary main_cst_28 main_v174 (broadcastInDim S32x8732x4 ![] bcast_S_S32x8732x4 : (⟨S_, .f32⟩ : BufTy).Contents (Elt F) → (⟨S32x8732x4, .f32⟩ : BufTy).Contents (Elt F)),
    binary main_v173 main_v174 main_v175 (cmpf .olt : (⟨S32x8732x4, .f32⟩ : BufTy).Contents (Elt F) → (⟨S32x8732x4, .f32⟩ : BufTy).Contents (Elt F) → (⟨S32x8732x4, .i1⟩ : BufTy).Contents (Elt F)),
    nullary main_cst_29 (constant S_ .f32 0x3F000000#32),
    unary main_cst_29 main_v176 (broadcastInDim S32x8732x4 ![] bcast_S_S32x8732x4 : (⟨S_, .f32⟩ : BufTy).Contents (Elt F) → (⟨S32x8732x4, .f32⟩ : BufTy).Contents (Elt F)),
    binary main_v176 main_v172 main_v177 (mulf : (⟨S32x8732x4, .f32⟩ : BufTy).Contents (Elt F) → (⟨S32x8732x4, .f32⟩ : BufTy).Contents (Elt F) → (⟨S32x8732x4, .f32⟩ : BufTy).Contents (Elt F)) ]

/-- @main's operations 223 … 252 of 290 (window `main_part3`). -/
abbrev ops_part3_1 : List (HloOp τ sig (Elt F)) :=
  [ binary main_v177 main_v172 main_v178 (mulf : (⟨S32x8732x4, .f32⟩ : BufTy).Contents (Elt F) → (⟨S32x8732x4, .f32⟩ : BufTy).Contents (Elt F) → (⟨S32x8732x4, .f32⟩ : BufTy).Contents (Elt F)),
    nullary main_cst_30 (constant S_ .f32 0x3F000000#32),
    unary main_cst_30 main_v179 (broadcastInDim S32x8732x4 ![] bcast_S_S32x8732x4 : (⟨S_, .f32⟩ : BufTy).Contents (Elt F) → (⟨S32x8732x4, .f32⟩ : BufTy).Contents (Elt F)),
    binary main_v173 main_v179 main_v180 (subf : (⟨S32x8732x4, .f32⟩ : BufTy).Contents (Elt F) → (⟨S32x8732x4, .f32⟩ : BufTy).Contents (Elt F) → (⟨S32x8732x4, .f32⟩ : BufTy).Contents (Elt F)),
    TRef.ternary (TRef.of (T := ⟨S32x8732x4, .i1⟩) main_v175) (TRef.of (T := ⟨S32x8732x4, .f32⟩) main_v178) (TRef.of (T := ⟨S32x8732x4, .f32⟩) main_v180) (TRef.of (T := ⟨S32x8732x4, .f32⟩) main_v181) select,
    unary main_v171 main_v182 (broadcastInDim S32x8732x1 ![0, 1] bcast_S32x8732_S32x8732x1_0_1 : (⟨S32x8732, .i1⟩ : BufTy).Contents (Elt F) → (⟨S32x8732x1, .i1⟩ : BufTy).Contents (Elt F)),
    unary main_v182 main_v183 (uitofp .f32 : (⟨S32x8732x1, .i1⟩ : BufTy).Contents (Elt F) → (⟨S32x8732x1, .f32⟩ : BufTy).Contents (Elt F)),
    unary main_v183 main_v184 (broadcastInDim S32x8732x4 ![0, 1, 2] bcast_S32x8732x1_S32x8732x4_0_1_2 : (⟨S32x8732x1, .f32⟩ : BufTy).Contents (Elt F) → (⟨S32x8732x4, .f32⟩ : BufTy).Contents (Elt F)),
    binary main_v181 main_v184 main_v185 (mulf : (⟨S32x8732x4, .f32⟩ : BufTy).Contents (Elt F) → (⟨S32x8732x4, .f32⟩ : BufTy).Contents (Elt F) → (⟨S32x8732x4, .f32⟩ : BufTy).Contents (Elt F)),
    nullary main_cst_31 (constant S_ .f32 0x00000000#32),
    binary main_v185 main_cst_31 main_v186 ((fun x v => Host.reduceAdd x v reducesTo_S32x8732x4_S32_d1_2 h_S_) : (⟨S32x8732x4, .f32⟩ : BufTy).Contents (Elt F) → (⟨S_, .f32⟩ : BufTy).Contents (Elt F) → (⟨S32, .f32⟩ : BufTy).Contents (Elt F)),
    nullary main_cst_32 (constant S_ .f32 0xFF800000#32),
    binary main_arg1 main_cst_32 main_v187 ((fun x v => Host.reduce FloatOps.maximumf x v reducesTo_S32x8732x81_S32x8732_d2 h_S_) : (⟨S32x8732x81, .f32⟩ : BufTy).Contents (Elt F) → (⟨S_, .f32⟩ : BufTy).Contents (Elt F) → (⟨S32x8732, .f32⟩ : BufTy).Contents (Elt F)),
    unary main_v187 main_v188 (broadcastInDim S32x8732x1 ![0, 1] bcast_S32x8732_S32x8732x1_0_1 : (⟨S32x8732, .f32⟩ : BufTy).Contents (Elt F) → (⟨S32x8732x1, .f32⟩ : BufTy).Contents (Elt F)),
    unary main_v188 main_v189 (broadcastInDim S32x8732x81 ![0, 1, 2] bcast_S32x8732x1_S32x8732x81_0_1_2 : (⟨S32x8732x1, .f32⟩ : BufTy).Contents (Elt F) → (⟨S32x8732x81, .f32⟩ : BufTy).Contents (Elt F)),
    binary main_arg1 main_v189 main_v190 (subf : (⟨S32x8732x81, .f32⟩ : BufTy).Contents (Elt F) → (⟨S32x8732x81, .f32⟩ : BufTy).Contents (Elt F) → (⟨S32x8732x81, .f32⟩ : BufTy).Contents (Elt F)),
    unary main_v190 main_v191 (Host.exp : (⟨S32x8732x81, .f32⟩ : BufTy).Contents (Elt F) → (⟨S32x8732x81, .f32⟩ : BufTy).Contents (Elt F)),
    nullary main_cst_33 (constant S_ .f32 0x00000000#32),
    binary main_v191 main_cst_33 main_v192 ((fun x v => Host.reduceAdd x v reducesTo_S32x8732x81_S32x8732_d2 h_S_) : (⟨S32x8732x81, .f32⟩ : BufTy).Contents (Elt F) → (⟨S_, .f32⟩ : BufTy).Contents (Elt F) → (⟨S32x8732, .f32⟩ : BufTy).Contents (Elt F)),
    unary main_v192 main_v193 (Host.log : (⟨S32x8732, .f32⟩ : BufTy).Contents (Elt F) → (⟨S32x8732, .f32⟩ : BufTy).Contents (Elt F)),
    binary main_v193 main_v187 main_v194 (addf : (⟨S32x8732, .f32⟩ : BufTy).Contents (Elt F) → (⟨S32x8732, .f32⟩ : BufTy).Contents (Elt F) → (⟨S32x8732, .f32⟩ : BufTy).Contents (Elt F)),
    unary main_v141 main_v195 (broadcastInDim S32x8732x1 ![0, 1] bcast_S32x8732_S32x8732x1_0_1 : (⟨S32x8732, .i32⟩ : BufTy).Contents (Elt F) → (⟨S32x8732x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S32x8732x1, .i32⟩) main_call5_v0) (broadcastInDim S32x8732x1 ![] bcast_S_S32x8732x1),
    TRef.binary (TRef.of (T := ⟨S32x8732x1, .i32⟩) main_v195) (TRef.of (T := ⟨S32x8732x1, .i32⟩) main_call5_v0) (TRef.of (T := ⟨S32x8732x1, .i1⟩) main_call5_v1) (cmpi .slt),
    TRef.nullary (TRef.of (T := ⟨S_, .i32⟩) main_call5_c_0) (constantI S_ 32 81#32),
    TRef.unary (TRef.of (T := ⟨S_, .i32⟩) main_call5_c_0) (TRef.of (T := ⟨S32x8732x1, .i32⟩) main_call5_v2) (broadcastInDim S32x8732x1 ![] bcast_S_S32x8732x1),
    TRef.binary (TRef.of (T := ⟨S32x8732x1, .i32⟩) main_v195) (TRef.of (T := ⟨S32x8732x1, .i32⟩) main_call5_v2) (TRef.of (T := ⟨S32x8732x1, .i32⟩) main_call5_v3) addi,
    TRef.ternary (TRef.of (T := ⟨S32x8732x1, .i1⟩) main_call5_v1) (TRef.of (T := ⟨S32x8732x1, .i32⟩) main_call5_v3) (TRef.of (T := ⟨S32x8732x1, .i32⟩) main_v195) (TRef.of (T := ⟨S32x8732x1, .i32⟩) main_call5_v4) select,
    TRef.reshape (TRef.of (T := ⟨S32x8732x1, .i32⟩) main_call5_v4) (TRef.of (T := ⟨S32x8732x1x1, .i32⟩) main_call5_v5) (rfl : (.i32 : EltTy) = .i32) shapeCasts_S32x8732x1_S32x8732x1x1 ]

/-- @main's operations 253 … 277 of 290 (window `main_part3`). -/
abbrev ops_part3_2 : List (HloOp τ sig (Elt F)) :=
  [ TRef.nullary (TRef.of (T := ⟨S1, .i32⟩) main_call5_c_1) (constantI S1 32 80#32),
    TRef.nullary (TRef.of (T := ⟨S_, .i32⟩) main_call5_c_2) (constantI S_ 32 0#32),
    TRef.unary (TRef.of (T := ⟨S_, .i32⟩) main_call5_c_2) (TRef.of (T := ⟨S32x8732x1x1, .i32⟩) main_call5_v6) (broadcastInDim S32x8732x1x1 ![] bcast_S_S32x8732x1x1),
    TRef.binary (TRef.of (T := ⟨S32x8732x1x1, .i32⟩) main_call5_v5) (TRef.of (T := ⟨S32x8732x1x1, .i32⟩) main_call5_v6) (TRef.of (T := ⟨S32x8732x1x1, .i1⟩) main_call5_v7) (cmpi .sge),
    TRef.unary (TRef.of (T := ⟨S1, .i32⟩) main_call5_c_1) (TRef.of (T := ⟨S1x1x1x1, .i32⟩) main_call5_v8) (broadcastInDim S1x1x1x1 ![3] bcast_S1_S1x1x1x1_3),
    TRef.unary (TRef.of (T := ⟨S1x1x1x1, .i32⟩) main_call5_v8) (TRef.of (T := ⟨S32x8732x1x1, .i32⟩) main_call5_v9) (broadcastInDim S32x8732x1x1 ![0, 1, 2, 3] bcast_S1x1x1x1_S32x8732x1x1_0_1_2_3),
    TRef.binary (TRef.of (T := ⟨S32x8732x1x1, .i32⟩) main_call5_v5) (TRef.of (T := ⟨S32x8732x1x1, .i32⟩) main_call5_v9) (TRef.of (T := ⟨S32x8732x1x1, .i1⟩) main_call5_v10) (cmpi .sle),
    TRef.binary (TRef.of (T := ⟨S32x8732x1x1, .i1⟩) main_call5_v7) (TRef.of (T := ⟨S32x8732x1x1, .i1⟩) main_call5_v10) (TRef.of (T := ⟨S32x8732x1x1, .i1⟩) main_call5_v11) andi,
    TRef.nullary (TRef.of (T := ⟨S_, .i1⟩) main_call5_c_3) (constantI S_ 1 1#1),
    TRef.binary (TRef.of (T := ⟨S32x8732x1x1, .i1⟩) main_call5_v11) (TRef.of (T := ⟨S_, .i1⟩) main_call5_c_3) (TRef.of (T := ⟨S32x8732x1, .i1⟩) main_call5_v12) (fun x v => Host.reduce IntOp.andi x v reducesTo_S32x8732x1x1_S32x8732x1_d3 h_S_),
    TRef.binary (TRef.of (T := ⟨S32x8732x81, .f32⟩) main_arg1) (TRef.of (T := ⟨S32x8732x1x1, .i32⟩) main_call5_v5) (TRef.of (T := ⟨S32x8732x1, .f32⟩) main_call5_v13) (fun x i => Host.gather gather_S32x8732x81_S32x8732x1x1_S32x8732x1_n_2_01_01_2_3_111 x i),
    TRef.nullary (TRef.of (T := ⟨S_, .f32⟩) main_call5_cst) (constant S_ .f32 0x7FC00000#32),
    TRef.unary (TRef.of (T := ⟨S_, .f32⟩) main_call5_cst) (TRef.of (T := ⟨S32x8732x1, .f32⟩) main_call5_v14) (broadcastInDim S32x8732x1 ![] bcast_S_S32x8732x1),
    TRef.ternary (TRef.of (T := ⟨S32x8732x1, .i1⟩) main_call5_v12) (TRef.of (T := ⟨S32x8732x1, .f32⟩) main_call5_v13) (TRef.of (T := ⟨S32x8732x1, .f32⟩) main_call5_v14) (TRef.of (T := ⟨S32x8732x1, .f32⟩) main_v196) select,
    reshape main_v196 main_v197 (rfl : (.f32 : EltTy) = .f32) shapeCasts_S32x8732x1_S32x8732,
    binary main_v194 main_v197 main_v198 (subf : (⟨S32x8732, .f32⟩ : BufTy).Contents (Elt F) → (⟨S32x8732, .f32⟩ : BufTy).Contents (Elt F) → (⟨S32x8732, .f32⟩ : BufTy).Contents (Elt F)),
    nullary main_cst_34 (constant S_ .f32 0x00000000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S32x8732, .f32⟩) main_call6_v1) (broadcastInDim S32x8732 ![] bcast_S_S32x8732),
    TRef.ternary (TRef.of (T := ⟨S32x8732, .i1⟩) main_v171) (TRef.of (T := ⟨S32x8732, .f32⟩) main_call6_v1) (TRef.of (T := ⟨S32x8732, .f32⟩) main_v198) (TRef.of (T := ⟨S32x8732, .f32⟩) main_v199) select,
    nullary main_cst_35 (constant S_ .f32 0x00000000#32),
    TRef.unary (TRef.of (T := ⟨S_, .f32⟩) main_cst_35) (TRef.of (T := ⟨S_, .f32⟩) main_call7_v0) id,
    TRef.unary (TRef.of (T := ⟨S_, .f32⟩) main_call7_v0) (TRef.of (T := ⟨S32x8732, .f32⟩) main_call7_v1) (broadcastInDim S32x8732 ![] bcast_S_S32x8732),
    TRef.ternary (TRef.of (T := ⟨S32x8732, .i1⟩) main_v171) (TRef.of (T := ⟨S32x8732, .f32⟩) main_v198) (TRef.of (T := ⟨S32x8732, .f32⟩) main_call7_v1) (TRef.of (T := ⟨S32x8732, .f32⟩) main_v200) select,
    nullary main_cst_36 (constant S_ .f32 0x00000000#32) ]

/-- Window `main_part3`'s operations. Not an abbreviation: `main_eq` below splits `ops` into the windows and no further. -/
def ops_part3 : List (HloOp τ sig (Elt F)) :=
  ops_part3_0 ++ (ops_part3_1 ++ (ops_part3_2))

/-- @main's operations 278 … 290 of 290 (window `main_part4`). -/
abbrev ops_part4 : List (HloOp τ sig (Elt F)) :=
  [ binary main_v200 main_cst_36 main_v201 ((fun x v => Host.reduceAdd x v reducesTo_S32x8732_S32_d1 h_S_) : (⟨S32x8732, .f32⟩ : BufTy).Contents (Elt F) → (⟨S_, .f32⟩ : BufTy).Contents (Elt F) → (⟨S32, .f32⟩ : BufTy).Contents (Elt F)),
    unary main_v171 main_v202 (uitofp .f32 : (⟨S32x8732, .i1⟩ : BufTy).Contents (Elt F) → (⟨S32x8732, .f32⟩ : BufTy).Contents (Elt F)),
    nullary main_cst_37 (constant S_ .f32 0x00000000#32),
    binary main_v202 main_cst_37 main_v203 ((fun x v => Host.reduceAdd x v reducesTo_S32x8732_S32_d1 h_S_) : (⟨S32x8732, .f32⟩ : BufTy).Contents (Elt F) → (⟨S_, .f32⟩ : BufTy).Contents (Elt F) → (⟨S32, .f32⟩ : BufTy).Contents (Elt F)),
    unary main_v186 main_v204 (broadcastInDim S32x1 ![0] bcast_S32_S32x1_0 : (⟨S32, .f32⟩ : BufTy).Contents (Elt F) → (⟨S32x1, .f32⟩ : BufTy).Contents (Elt F)),
    unary main_v201 main_v205 (broadcastInDim S32x1 ![0] bcast_S32_S32x1_0 : (⟨S32, .f32⟩ : BufTy).Contents (Elt F) → (⟨S32x1, .f32⟩ : BufTy).Contents (Elt F)),
    unary main_v203 main_v206 (broadcastInDim S32x1 ![0] bcast_S32_S32x1_0 : (⟨S32, .f32⟩ : BufTy).Contents (Elt F) → (⟨S32x1, .f32⟩ : BufTy).Contents (Elt F)),
    nary ![main_v204, main_v205, main_v206] main_v207 (fun u => fn_main_v207 (F := F) (u 0) (u 1) (u 2)),
    nullary main_c_38 (constantI S_ 32 0#32),
    TRef.unary (TRef.of (T := ⟨S_, .i32⟩) main_c_38) (TRef.of (T := ⟨S_, .f32⟩) main_call8_v0) (sitofp .f32),
    TRef.binary (TRef.of (T := ⟨S32x3, .f32⟩) main_v207) (TRef.of (T := ⟨S_, .f32⟩) main_call8_v0) (TRef.of (T := ⟨S32x128, .f32⟩) main_v208) (fun x v => pad S32x128 ![0, 0] ![0, 125] ![0, 0] x v pads_S32x3_S32x128_000_01250 h_S_),
    unary main_v199 main_v209 (broadcastInDim S32x1x8732 ![0, 2] bcast_S32x8732_S32x1x8732_0_2 : (⟨S32x8732, .f32⟩ : BufTy).Contents (Elt F) → (⟨S32x1x8732, .f32⟩ : BufTy).Contents (Elt F)),
    unary main_v208 main_v210 (broadcastInDim S32x1x128 ![0, 2] bcast_S32x128_S32x1x128_0_2 : (⟨S32x128, .f32⟩ : BufTy).Contents (Elt F) → (⟨S32x1x128, .f32⟩ : BufTy).Contents (Elt F)) ]

/-- @main's 290 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., unary_bufs_sub .., unary_bufs_sub .., reshape_bufs_sub .., nullary_bufs_sub .., unary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., unary_bufs_sub .., unary_bufs_sub .., unary_bufs_sub .., unary_bufs_sub .., unary_bufs_sub .., binary_bufs_sub .., unary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., reshape_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_0_sub : (ops_part1_0 : List (HloOp τ sig (Elt F))).Forall fun op => op.bufs ⊆ tcRefs τ sig :=
  ⟨binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., binary_bufs_sub .., ternary_bufs_sub .., unary_bufs_sub .., unary_bufs_sub .., unary_bufs_sub .., binary_bufs_sub .., ternary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., binary_bufs_sub .., ternary_bufs_sub .., unary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨nullary_bufs_sub .., unary_bufs_sub ..⟩
set_option maxRecDepth 8192 in
theorem ops_part2_2_fresh : (ops_part2_2 : List (HloOp τ sig (Elt F))).Forall fun op => op.fresh = ∅ :=
  ⟨rfl, rfl⟩
set_option maxRecDepth 8192 in
theorem ops_part3_0_sub : (ops_part3_0 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., nullary_bufs_sub .., unary_bufs_sub .., unary_bufs_sub .., ternary_bufs_sub .., nullary_bufs_sub .., unary_bufs_sub .., unary_bufs_sub .., ternary_bufs_sub .., nullary_bufs_sub ..⟩
set_option maxRecDepth 8192 in
theorem ops_part3_2_fresh : (ops_part3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨binary_bufs_sub .., unary_bufs_sub .., nullary_bufs_sub .., binary_bufs_sub .., unary_bufs_sub .., unary_bufs_sub .., unary_bufs_sub .., nary_bufs_sub .., nullary_bufs_sub .., unary_bufs_sub .., binary_bufs_sub .., unary_bufs_sub .., unary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, ops_part3, List.mem_append, or_assoc] at h
    rcases h with h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_sub op h]
theorem ops_fresh : ∀ op ∈ (ops : List (HloOp τ sig (Elt F))), op.fresh = ∅ := fun op h => by
    simp only [ops, ops_part0, ops_part1, ops_part2, ops_part3, List.mem_append, or_assoc] at h
    rcases h with h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h]

end Cert.ReferenceIdeal.Value

end
-- ==== Proof.RefRun.Terms.lean ====
/- The values inside the reference program that are used more than once, each as a named term of the arguments. -/
module

public import proofs.«01_k».proof.Proof.RefRun.Ops

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
/-- `main_v1`'s composed term of the arguments (named: it is used 7 times). -/
def res_main_v1 (V0 : Valuation τ sig (Elt F)) : (Proc.devRef .tc main_v1 : DevRef τ sig).ty.Contents (Elt F) :=
  extractStridedSlice S32x20x4 ![0, 0, 0] (V0 (Proc.devRef .tc main_arg3)) slices_S32x20x5_S32x20x4_0_0_0

set_option maxRecDepth 8192 in
/-- `main_v5`'s composed term of the arguments (named: it is used 12 times). -/
def res_main_v5 (V0 : Valuation τ sig (Elt F)) : (Proc.devRef .tc main_v5 : DevRef τ sig).ty.Contents (Elt F) :=
  broadcastInDim S32x1 ![0] bcast_S32_S32x1_0 (iotaInDim S32 32 0)

set_option maxRecDepth 8192 in
/-- `main_v16`'s composed term of the arguments (named: it is used 6 times). -/
def res_main_v16 (V0 : Valuation τ sig (Elt F)) : (Proc.devRef .tc main_v16 : DevRef τ sig).ty.Contents (Elt F) :=
  concatenate S8732x4 1 [⟨S8732x2, (subf (extractStridedSlice S8732x2 ![0, 0] (V0 (Proc.devRef .tc main_arg2)) slices_S8732x4_S8732x2_0_0) (Host.divf (extractStridedSlice S8732x2 ![0, 2] (V0 (Proc.devRef .tc main_arg2)) slices_S8732x4_S8732x2_0_2) (broadcastInDim S8732x2 ![] bcast_S_S8732x2 (constant S_ .f32 0x40000000#32))))⟩, ⟨S8732x2, (addf (extractStridedSlice S8732x2 ![0, 0] (V0 (Proc.devRef .tc main_arg2)) slices_S8732x4_S8732x2_0_0) (Host.divf (extractStridedSlice S8732x2 ![0, 2] (V0 (Proc.devRef .tc main_arg2)) slices_S8732x4_S8732x2_0_2) (broadcastInDim S8732x2 ![] bcast_S_S8732x2 (constant S_ .f32 0x40000000#32))))⟩] concatenates_S8732x2_S8732x2_S8732x4_d1

set_option maxRecDepth 8192 in
/-- `main_v34`'s composed term of the arguments (named: it is used 2 times). -/
def res_main_v34 (V0 : Valuation τ sig (Elt F)) : (Proc.devRef .tc main_v34 : DevRef τ sig).ty.Contents (Elt F) :=
  maximumf (broadcastInDim S32x20x8732x2 ![] bcast_S_S32x20x8732x2 (id (constant S_ .f32 0x00000000#32))) (subf (minimumf (broadcastInDim S32x20x8732x2 ![0, 1, 2, 3] bcast_S32x20x1x2_S32x20x8732x2_0_1_2_3 (broadcastInDim S32x20x1x2 ![0, 1, 3] bcast_S32x20x2_S32x20x1x2_0_1_3 (extractStridedSlice S32x20x2 ![0, 0, 2] (res_main_v1 V0) slices_S32x20x4_S32x20x2_0_0_2))) (broadcastInDim S32x20x8732x2 ![0, 1, 2, 3] bcast_S1x1x8732x2_S32x20x8732x2_0_1_2_3 (broadcastInDim S1x1x8732x2 ![1, 2, 3] bcast_S1x8732x2_S1x1x8732x2_1_2_3 (broadcastInDim S1x8732x2 ![1, 2] bcast_S8732x2_S1x8732x2_1_2 (extractStridedSlice S8732x2 ![0, 2] (res_main_v16 V0) slices_S8732x4_S8732x2_0_2))))) (maximumf (broadcastInDim S32x20x8732x2 ![0, 1, 2, 3] bcast_S32x20x1x2_S32x20x8732x2_0_1_2_3 (broadcastInDim S32x20x1x2 ![0, 1, 3] bcast_S32x20x2_S32x20x1x2_0_1_3 (extractStridedSlice S32x20x2 ![0, 0, 0] (res_main_v1 V0) slices_S32x20x4_S32x20x2_0_0_0))) (broadcastInDim S32x20x8732x2 ![0, 1, 2, 3] bcast_S1x1x8732x2_S32x20x8732x2_0_1_2_3 (broadcastInDim S1x1x8732x2 ![1, 2, 3] bcast_S1x8732x2_S1x1x8732x2_1_2_3 (broadcastInDim S1x8732x2 ![1, 2] bcast_S8732x2_S1x8732x2_1_2 (extractStridedSlice S8732x2 ![0, 0] (res_main_v16 V0) slices_S8732x4_S8732x2_0_0))))))

set_option maxRecDepth 8192 in
/-- `main_v39`'s composed term of the arguments (named: it is used 2 times). -/
def res_main_v39 (V0 : Valuation τ sig (Elt F)) : (Proc.devRef .tc main_v39 : DevRef τ sig).ty.Contents (Elt F) :=
  mulf (shapeCast _ (extractStridedSlice S32x20x8732x1 ![0, 0, 0, 0] (res_main_v34 V0) slices_S32x20x8732x2_S32x20x8732x1_0_0_0_0) shapeCasts_S32x20x8732x1_S32x20x8732) (shapeCast _ (extractStridedSlice S32x20x8732x1 ![0, 0, 0, 1] (res_main_v34 V0) slices_S32x20x8732x2_S32x20x8732x1_0_0_0_1) shapeCasts_S32x20x8732x1_S32x20x8732)

set_option maxRecDepth 8192 in
/-- `main_v69`'s composed term of the arguments (named: it is used 5 times). -/
def res_main_v69 (V0 : Valuation τ sig (Elt F)) : (Proc.devRef .tc main_v69 : DevRef τ sig).ty.Contents (Elt F) :=
  Host.divf (res_main_v39 V0) (subf (addf (broadcastInDim S32x20x8732 ![0, 1, 2] bcast_S32x20x1_S32x20x8732_0_1_2 (broadcastInDim S32x20x1 ![0, 1] bcast_S32x20_S32x20x1_0_1 (mulf (subf (shapeCast _ (extractStridedSlice S32x20x1 ![0, 0, 2] (res_main_v1 V0) slices_S32x20x4_S32x20x1_0_0_2) shapeCasts_S32x20x1_S32x20) (shapeCast _ (extractStridedSlice S32x20x1 ![0, 0, 0] (res_main_v1 V0) slices_S32x20x4_S32x20x1_0_0_0) shapeCasts_S32x20x1_S32x20)) (subf (shapeCast _ (extractStridedSlice S32x20x1 ![0, 0, 3] (res_main_v1 V0) slices_S32x20x4_S32x20x1_0_0_3) shapeCasts_S32x20x1_S32x20) (shapeCast _ (extractStridedSlice S32x20x1 ![0, 0, 1] (res_main_v1 V0) slices_S32x20x4_S32x20x1_0_0_1) shapeCasts_S32x20x1_S32x20))))) (broadcastInDim S32x20x8732 ![0, 1, 2] bcast_S1x1x8732_S32x20x8732_0_1_2 (broadcastInDim S1x1x8732 ![1, 2] bcast_S1x8732_S1x1x8732_1_2 (broadcastInDim S1x8732 ![1] bcast_S8732_S1x8732_1 (mulf (subf (shapeCast _ (extractStridedSlice S8732x1 ![0, 2] (res_main_v16 V0) slices_S8732x4_S8732x1_0_2) shapeCasts_S8732x1_S8732) (shapeCast _ (extractStridedSlice S8732x1 ![0, 0] (res_main_v16 V0) slices_S8732x4_S8732x1_0_0) shapeCasts_S8732x1_S8732)) (subf (shapeCast _ (extractStridedSlice S8732x1 ![0, 3] (res_main_v16 V0) slices_S8732x4_S8732x1_0_3) shapeCasts_S8732x1_S8732) (shapeCast _ (extractStridedSlice S8732x1 ![0, 1] (res_main_v16 V0) slices_S8732x4_S8732x1_0_1) shapeCasts_S8732x1_S8732))))))) (res_main_v39 V0))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S32x20x8732 32 2

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v70`'s composed term of the arguments (named: it is used 6 times). -/
def res_main_v70 (V0 : Valuation τ sig (Elt F)) : (Proc.devRef .tc main_v70 : DevRef τ sig).ty.Contents (Elt F) :=
  (fun j => (Host.argReduce reducer_argmax_f32_i32 (res_main_v69 V0) (res_main_call1_v0 V0) (res_main_call1_cst V0) (res_main_call1_c V0) reducesTo_S32x20x8732_S32x20_d2 h_S_ j).2)

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S32x20x8732 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v105`'s composed term of the arguments (named: it is used 6 times). -/
def res_main_v105 (V0 : Valuation τ sig (Elt F)) : (Proc.devRef .tc main_v105 : DevRef τ sig).ty.Contents (Elt F) :=
  Host.scatter scatter_S32x8732_S32x20x2_S32x20_n_01_01_2 (fun _ b => b) ((fun j => (Host.argReduce reducer_argmax_f32_i32 (res_main_v69 V0) (res_main_call2_v0 V0) (res_main_call2_cst V0) (res_main_call2_c V0) reducesTo_S32x20x8732_S32x8732_d1 h_S_ j).2)) (concatenate S32x20x2 2 [⟨S32x20x1, (broadcastInDim S32x20x1 ![0, 1] bcast_S32x20_S32x20x1_0_1 (broadcastInDim S32x20 ![0, 1] bcast_S32x1_S32x20_0_1 (select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0))))⟩, ⟨S32x20x1, (broadcastInDim S32x20x1 ![0, 1] bcast_S32x20_S32x20x1_0_1 (select (cmpi .slt (res_main_v70 V0) (broadcastInDim S32x20 ![] bcast_S_S32x20 (constantI S_ 32 0#32))) (addi (res_main_v70 V0) (broadcastInDim S32x20 ![] bcast_S_S32x20 (constantI S_ 32 8732#32))) (res_main_v70 V0)))⟩] concatenates_S32x20x1_S32x20x1_S32x20x2_d2) (broadcastInDim S32x20 ![1] bcast_S20_S32x20_1 (iotaInDim S20 32 0))

set_option maxRecDepth 8192 in
/-- `main_v120`'s composed term of the arguments (named: it is used 4 times). -/
def res_main_v120 (V0 : Valuation τ sig (Elt F)) : (Proc.devRef .tc main_v120 : DevRef τ sig).ty.Contents (Elt F) :=
  Host.gather gather_S32x20x4_S32x8732x2_S32x8732x4_2_01_n_n_01_2_114 (res_main_v1 V0) (concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0))))⟩, ⟨S32x8732x1, (broadcastInDim S32x8732x1 ![0, 1] bcast_S32x8732_S32x8732x1_0_1 (select (cmpi .slt (res_main_v105 V0) (broadcastInDim S32x8732 ![] bcast_S_S32x8732 (constantI S_ 32 0#32))) (addi (res_main_v105 V0) (broadcastInDim S32x8732 ![] bcast_S_S32x8732 (constantI S_ 32 20#32))) (res_main_v105 V0)))⟩] concatenates_S32x8732x1_S32x8732x1_S32x8732x2_d2)

set_option maxRecDepth 8192 in
/-- `main_v141`'s composed term of the arguments (named: it is used 2 times). -/
def res_main_v141 (V0 : Valuation τ sig (Elt F)) : (Proc.devRef .tc main_v141 : DevRef τ sig).ty.Contents (Elt F) :=
  select (cmpf .olt (Host.scatter scatter_S32x8732_S32x20x2_S32x20_n_01_01_2 (fun _ b => b) (Host.reduce FloatOps.maximumf (res_main_v69 V0) (constant S_ .f32 0xFF800000#32) reducesTo_S32x20x8732_S32x8732_d1 h_S_) (concatenate S32x20x2 2 [⟨S32x20x1, (broadcastInDim S32x20x1 ![0, 1] bcast_S32x20_S32x20x1_0_1 (broadcastInDim S32x20 ![0, 1] bcast_S32x1_S32x20_0_1 (select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0))))⟩, ⟨S32x20x1, (broadcastInDim S32x20x1 ![0, 1] bcast_S32x20_S32x20x1_0_1 (select (cmpi .slt (res_main_v70 V0) (broadcastInDim S32x20 ![] bcast_S_S32x20 (constantI S_ 32 0#32))) (addi (res_main_v70 V0) (broadcastInDim S32x20 ![] bcast_S_S32x20 (constantI S_ 32 8732#32))) (res_main_v70 V0)))⟩] concatenates_S32x20x1_S32x20x1_S32x20x2_d2) (broadcastInDim S32x20 ![] bcast_S_S32x20 (constant S_ .f32 0x40000000#32))) (broadcastInDim S32x8732 ![] bcast_S_S32x8732 (constant S_ .f32 0x3F000000#32))) (broadcastInDim S32x8732 ![] bcast_S_S32x8732 (id (constantI S_ 32 0#32))) (addi (fptosi 32 (Host.gather gather_S32x20_S32x8732x2_S32x8732_n_01_n_n_01_2_11 (shapeCast _ (extractStridedSlice S32x20x1 ![0, 0, 4] (V0 (Proc.devRef .tc main_arg3)) slices_S32x20x5_S32x20x1_0_0_4) shapeCasts_S32x20x1_S32x20) (concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0))))⟩, ⟨S32x8732x1, (broadcastInDim S32x8732x1 ![0, 1] bcast_S32x8732_S32x8732x1_0_1 (select (cmpi .slt (res_main_v105 V0) (broadcastInDim S32x8732 ![] bcast_S_S32x8732 (constantI S_ 32 0#32))) (addi (res_main_v105 V0) (broadcastInDim S32x8732 ![] bcast_S_S32x8732 (constantI S_ 32 20#32))) (res_main_v105 V0)))⟩] concatenates_S32x8732x1_S32x8732x1_S32x8732x2_d2))) (broadcastInDim S32x8732 ![] bcast_S_S32x8732 (constantI S_ 32 1#32)))

set_option maxRecDepth 8192 in
/-- `main_v171`'s composed term of the arguments (named: it is used 4 times). -/
def res_main_v171 (V0 : Valuation τ sig (Elt F)) : (Proc.devRef .tc main_v171 : DevRef τ sig).ty.Contents (Elt F) :=
  cmpi .sgt (res_main_v141 V0) (broadcastInDim S32x8732 ![] bcast_S_S32x8732 (constantI S_ 32 0#32))

set_option maxRecDepth 8192 in
/-- `main_v172`'s composed term of the arguments (named: it is used 3 times). -/
def res_main_v172 (V0 : Valuation τ sig (Elt F)) : (Proc.devRef .tc main_v172 : DevRef τ sig).ty.Contents (Elt F) :=
  subf (broadcastInDim S32x8732x4 ![] bcast_S_S32x8732x4 (constant S_ .f32 0x00000000#32)) (concatenate S32x8732x4 2 [⟨S32x8732x2, (Host.divf (subf (Host.divf (addf (extractStridedSlice S32x8732x2 ![0, 0, 0] (res_main_v120 V0) slices_S32x8732x4_S32x8732x2_0_0_0) (extractStridedSlice S32x8732x2 ![0, 0, 2] (res_main_v120 V0) slices_S32x8732x4_S32x8732x2_0_0_2)) (broadcastInDim S32x8732x2 ![] bcast_S_S32x8732x2 (constant S_ .f32 0x40000000#32))) (broadcastInDim S32x8732x2 ![0, 1, 2] bcast_S1x8732x2_S32x8732x2_0_1_2 (broadcastInDim S1x8732x2 ![1, 2] bcast_S8732x2_S1x8732x2_1_2 (extractStridedSlice S8732x2 ![0, 0] (V0 (Proc.devRef .tc main_arg2)) slices_S8732x4_S8732x2_0_0)))) (broadcastInDim S32x8732x2 ![0, 1, 2] bcast_S1x8732x2_S32x8732x2_0_1_2 (broadcastInDim S1x8732x2 ![1, 2] bcast_S8732x2_S1x8732x2_1_2 (mulf (broadcastInDim S8732x2 ![] bcast_S_S8732x2 (constant S_ .f32 0x3DCCCCCD#32)) (extractStridedSlice S8732x2 ![0, 2] (V0 (Proc.devRef .tc main_arg2)) slices_S8732x4_S8732x2_0_2)))))⟩, ⟨S32x8732x2, (Host.divf (Host.log (maximumf (Host.divf (subf (extractStridedSlice S32x8732x2 ![0, 0, 2] (res_main_v120 V0) slices_S32x8732x4_S32x8732x2_0_0_2) (extractStridedSlice S32x8732x2 ![0, 0, 0] (res_main_v120 V0) slices_S32x8732x4_S32x8732x2_0_0_0)) (broadcastInDim S32x8732x2 ![0, 1, 2] bcast_S1x8732x2_S32x8732x2_0_1_2 (broadcastInDim S1x8732x2 ![1, 2] bcast_S8732x2_S1x8732x2_1_2 (extractStridedSlice S8732x2 ![0, 2] (V0 (Proc.devRef .tc main_arg2)) slices_S8732x4_S8732x2_0_2)))) (broadcastInDim S32x8732x2 ![] bcast_S_S32x8732x2 (constant S_ .f32 0x322BCC77#32)))) (broadcastInDim S32x8732x2 ![] bcast_S_S32x8732x2 (constant S_ .f32 0x3E4CCCCD#32)))⟩] concatenates_S32x8732x2_S32x8732x2_S32x8732x4_d2)

set_option maxRecDepth 8192 in
/-- `main_v173`'s composed term of the arguments (named: it is used 2 times). -/
def res_main_v173 (V0 : Valuation τ sig (Elt F)) : (Proc.devRef .tc main_v173 : DevRef τ sig).ty.Contents (Elt F) :=
  Host.absf (res_main_v172 V0)

set_option maxRecDepth 8192 in
/-- `main_v187`'s composed term of the arguments (named: it is used 2 times). -/
def res_main_v187 (V0 : Valuation τ sig (Elt F)) : (Proc.devRef .tc main_v187 : DevRef τ sig).ty.Contents (Elt F) :=
  Host.reduce FloatOps.maximumf (V0 (Proc.devRef .tc main_arg1)) (constant S_ .f32 0xFF800000#32) reducesTo_S32x8732x81_S32x8732_d2 h_S_

set_option maxRecDepth 8192 in
/-- `main_v195`'s composed term of the arguments (named: it is used 3 times). -/
def res_main_v195 (V0 : Valuation τ sig (Elt F)) : (Proc.devRef .tc main_v195 : DevRef τ sig).ty.Contents (Elt F) :=
  broadcastInDim S32x8732x1 ![0, 1] bcast_S32x8732_S32x8732x1_0_1 (res_main_v141 V0)

set_option maxRecDepth 8192 in
/-- `main_call5_v5`'s composed term of the arguments (named: it is used 3 times). -/
def res_main_call5_v5 (V0 : Valuation τ sig (Elt F)) : (Proc.devRef .tc main_call5_v5 : DevRef τ sig).ty.Contents (Elt F) :=
  shapeCast _ (select (cmpi .slt (res_main_v195 V0) (broadcastInDim S32x8732x1 ![] bcast_S_S32x8732x1 (constantI S_ 32 0#32))) (addi (res_main_v195 V0) (broadcastInDim S32x8732x1 ![] bcast_S_S32x8732x1 (constantI S_ 32 81#32))) (res_main_v195 V0)) shapeCasts_S32x8732x1_S32x8732x1x1

set_option maxRecDepth 8192 in
/-- `main_v198`'s composed term of the arguments (named: it is used 2 times). -/
def res_main_v198 (V0 : Valuation τ sig (Elt F)) : (Proc.devRef .tc main_v198 : DevRef τ sig).ty.Contents (Elt F) :=
  subf (addf (Host.log (Host.reduceAdd (Host.exp (subf (V0 (Proc.devRef .tc main_arg1)) (broadcastInDim S32x8732x81 ![0, 1, 2] bcast_S32x8732x1_S32x8732x81_0_1_2 (broadcastInDim S32x8732x1 ![0, 1] bcast_S32x8732_S32x8732x1_0_1 (res_main_v187 V0))))) (constant S_ .f32 0x00000000#32) reducesTo_S32x8732x81_S32x8732_d2 h_S_)) (res_main_v187 V0)) (shapeCast _ (select (Host.reduce IntOp.andi (andi (cmpi .sge (res_main_call5_v5 V0) (broadcastInDim S32x8732x1x1 ![] bcast_S_S32x8732x1x1 (constantI S_ 32 0#32))) (cmpi .sle (res_main_call5_v5 V0) (broadcastInDim S32x8732x1x1 ![0, 1, 2, 3] bcast_S1x1x1x1_S32x8732x1x1_0_1_2_3 (broadcastInDim S1x1x1x1 ![3] bcast_S1_S1x1x1x1_3 (constantI S1 32 80#32))))) (constantI S_ 1 1#1) reducesTo_S32x8732x1x1_S32x8732x1_d3 h_S_) (Host.gather gather_S32x8732x81_S32x8732x1x1_S32x8732x1_n_2_01_01_2_3_111 (V0 (Proc.devRef .tc main_arg1)) (res_main_call5_v5 V0)) (broadcastInDim S32x8732x1 ![] bcast_S_S32x8732x1 (constant S_ .f32 0x7FC00000#32))) shapeCasts_S32x8732x1_S32x8732)

end Cert.ReferenceIdeal.Value

end
-- ==== Proof.Match.Spec.lean ====
/- The mathematics of the matching and of the two losses of one image, over extended reals and plain
   functions: what the kernel's block and the reference's rows are both shown to be. No program is named here. -/
module

public import Idealize.ShloMosaic.PureOps.Ideal
public import Mathlib.Data.Finset.Max

@[expose] public section

noncomputable section

namespace Cert.Match

open Idealize.ShloMosaic

/-- The first index at which `f` is greatest. -/
def firstMax {n : ℕ} [NeZero n] (f : Fin n → EReal) : Fin n :=
  (Finset.univ.filter fun i => ∀ j, f j ≤ f i).min' (by
    obtain ⟨i, -, h⟩ := Finset.exists_max_image Finset.univ f ⟨0, Finset.mem_univ _⟩
    exact ⟨i, Finset.mem_filter.2 ⟨Finset.mem_univ _, fun j => h j (Finset.mem_univ _)⟩⟩)

/-- `f` is nowhere greater than at its first greatest index. -/
theorem le_firstMax {n : ℕ} [NeZero n] (f : Fin n → EReal) (j : Fin n) : f j ≤ f (firstMax f) :=
  (Finset.mem_filter.1 (Finset.min'_mem (Finset.univ.filter fun i => ∀ j, f j ≤ f i) _)).2 j

/-- An index at which `f` is greatest does not come before the first such. -/
theorem firstMax_le {n : ℕ} [NeZero n] (f : Fin n → EReal) (i : Fin n) (h : ∀ j, f j ≤ f i) : firstMax f ≤ i :=
  Finset.min'_le _ _ (Finset.mem_filter.2 ⟨Finset.mem_univ _, h⟩)

/-- What determines the first greatest index. -/
theorem firstMax_eq {n : ℕ} [NeZero n] (f : Fin n → EReal) (i : Fin n) (h : ∀ j, f j ≤ f i) (hl : ∀ j, j < i → f j < f i) :
    firstMax f = i :=
  le_antisymm (firstMax_le f i h) (not_lt.1 fun hlt => absurd (le_firstMax f i) (not_le.2 (hl _ hlt)))

/-- One half, as both programs spell it. -/
abbrev half : EReal := Ideal.ofBits .f32 0x3F000000#32

/-- Two, as both programs spell it. -/
abbrev two : EReal := Ideal.ofBits .f32 0x40000000#32

/-- The length of the overlap of the side from `a` to `b` with the side of length `w` about `c`. -/
def side (a b c w : EReal) : EReal := max (min b (c + w * half) - max a (c - w * half)) 0

variable (T : Fin 20 → Fin 5 → EReal) (Q : Fin 8732 → Fin 4 → EReal) (L : Fin 20 → Fin 80)
  (X : Fin 8732 → Fin 81 → EReal)

/-- The area that box `o` and prior `p` share. -/
def inter (o : Fin 20) (p : Fin 8732) : EReal :=
  side (T o 0) (T o 2) (Q p 0) (Q p 2) * side (T o 1) (T o 3) (Q p 1) (Q p 3)

/-- Intersection over union of box `o` and prior `p`. -/
def iou (o : Fin 20) (p : Fin 8732) : EReal :=
  Ideal.div (inter T Q o p) ((T o 2 - T o 0) * (T o 3 - T o 1) + Q p 2 * Q p 3 - inter T Q o p)

/-- The prior that overlaps box `o` best, the first of them. -/
def bestPrior (o : Fin 20) : Fin 8732 := firstMax fun p => iou T Q o p

/-- The box that overlaps prior `p` best, the first of them. -/
def bestBox (p : Fin 8732) : Fin 20 := firstMax fun o => iou T Q o p

/-- The boxes whose best prior is `p`. -/
def claimants (p : Fin 8732) : Finset (Fin 20) := Finset.univ.filter fun o => bestPrior T Q o = p

open Classical in
/-- The box that prior `p` is matched to: the last box that claims it, or the one that overlaps it best. -/
def box (p : Fin 8732) : Fin 20 :=
  if h : (claimants T Q p).Nonempty then (claimants T Q p).max' h else bestBox T Q p

open Classical in
/-- The overlap that prior `p` is matched at: two if a box claims it. -/
def overlap (p : Fin 8732) : EReal :=
  if (claimants T Q p).Nonempty then two else iou T Q (bestBox T Q p) p

open Classical in
/-- The class of prior `p`: none, or one more than the label of its box. -/
def cls (p : Fin 8732) : Fin 81 :=
  if overlap T Q p < half then 0 else (L (box T Q p)).succ

open Classical in
/-- One at the priors that have a class, zero at the others. -/
def posf (p : Fin 8732) : EReal := if cls T Q L p = 0 then 0 else 1

/-- The cross-entropy of prior `p`. -/
def ce (p : Fin 8732) : EReal := Ideal.log (∑ c, Ideal.exp (X p c)) - X p (cls T Q L p)

open Classical in
/-- The cross-entropy of prior `p` among the priors without a class. -/
def mined (p : Fin 8732) : EReal := if cls T Q L p = 0 then ce T Q L X p else 0

/-- The offset of a coordinate's middle from the prior's, in units of a tenth of the prior's side. -/
def encMid (a b c w : EReal) : EReal :=
  Ideal.div ((a + b) * half - c) (Ideal.ofBits .f32 0x3DCCCCCD#32 * w)

/-- The logarithm of the ratio of two sides, in units of a fifth. -/
def encSide (a b w : EReal) : EReal :=
  Ideal.div (Ideal.log (max (Ideal.div (b - a) w) (Ideal.ofBits .f32 0x322BCC77#32))) (Ideal.ofBits .f32 0x3E4CCCCD#32)

/-- The regression target of prior `p`, coordinate by coordinate. -/
def enc (p : Fin 8732) (k : Fin 4) : EReal :=
  ![encMid (T (box T Q p) 0) (T (box T Q p) 2) (Q p 0) (Q p 2), encMid (T (box T Q p) 1) (T (box T Q p) 3) (Q p 1) (Q p 3),
    encSide (T (box T Q p) 0) (T (box T Q p) 2) (Q p 2), encSide (T (box T Q p) 1) (T (box T Q p) 3) (Q p 3)] k

open Classical in
/-- The smooth L1 function. -/
def sl1 (d : EReal) : EReal := if max d (-d) < 1 then half * d * d else max d (-d) - half

/-- The localization loss of the image at predictions zero. -/
def lossL : EReal := ∑ p, ∑ k, sl1 (0 - enc T Q p k) * posf T Q L p

/-- The cross-entropy summed over the priors that have a class. -/
def lossC : EReal := ∑ p, ce T Q L X p * posf T Q L p

/-- How many priors have a class. -/
def numPos : EReal := ∑ p, posf T Q L p

/-- The three sums in the first three lanes of a row of 128, the rest zero. -/
def stats (l : Fin 128) : EReal :=
  if (l : ℕ) = 0 then lossL T Q L else if (l : ℕ) = 1 then lossC T Q L X else if (l : ℕ) = 2 then numPos T Q L else 0

end Cert.Match

end
-- ==== Proof.Match.Words.lean ====
/- The kernel's ways of finding an index with minima and maxima of index words, and of picking a row with a
   product by zeros and ones, as the plain choices of Spec.lean. -/
module

public import proofs.«01_k».proof.Proof.Match.Spec
public import Idealize.ShloMosaic.Lib.Pointwise

@[expose] public section

noncomputable section

namespace Cert.Match

open Idealize.ShloMosaic

/-- A natural below `2 ^ 31`, as a word read as an integer, is itself. -/
theorem toInt_ofNat (k : ℕ) (h : k < 2 ^ 31) : (BitVec.ofNat 32 k).toInt = k := by
  rw [BitVec.toInt_eq_toNat_of_lt] <;> simp only [BitVec.toNat_ofNat] <;> omega

/-- Small naturals are equal when their words are. -/
theorem ofNat_inj (a b : ℕ) (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

/-- The signed minimum of two words is the minimum of the integers they hold. -/
theorem toInt_minsi (a b : BitVec 32) : (IntOp.minsi a b).toInt = min a.toInt b.toInt := by
  unfold IntOp.minsi
  simp only [BitVec.slt, BitVec.sle, decide_eq_true_eq]
  split <;> omega

/-- The signed maximum of two words is the maximum of the integers they hold. -/
theorem toInt_maxsi (a b : BitVec 32) : (IntOp.maxsi a b).toInt = max a.toInt b.toInt := by
  unfold IntOp.maxsi
  simp only [BitVec.slt, BitVec.sle, decide_eq_true_eq]
  split <;> omega

/-- A fold of signed minima holds the least of the integers folded. -/
theorem toInt_fold_minsi {n : ℕ} (b : BitVec 32) (f : Fin n → BitVec 32) :
    (Finset.univ.fold IntOp.minsi b f).toInt = Finset.univ.fold min b.toInt fun i => (f i).toInt :=
  (Finset.fold_hom (op := IntOp.minsi) (op' := min) (m := BitVec.toInt) (fun x y => (toInt_minsi x y)) ).symm

/-- A fold of signed maxima holds the greatest of the integers folded. -/
theorem toInt_fold_maxsi {n : ℕ} (b : BitVec 32) (f : Fin n → BitVec 32) :
    (Finset.univ.fold IntOp.maxsi b f).toInt = Finset.univ.fold max b.toInt fun i => (f i).toInt :=
  (Finset.fold_hom (op := IntOp.maxsi) (op' := max) (m := BitVec.toInt) (fun x y => (toInt_maxsi x y))).symm

/-- The pattern of minus infinity. -/
theorem ofBits_bot : Ideal.ofBits .f32 0xFF800000#32 = ⊥ := by
  simp [Ideal.ofBits, Ideal.ieee]

/-- The pattern of one half. -/
theorem half_eq : half = ((1 / 2 : ℝ) : EReal) := by
  simp [half, Ideal.ofBits, Ideal.ieee]
  rw [← EReal.coe_mul]
  norm_num

/-- The pattern of two. -/
theorem two_eq : two = ((2 : ℝ) : EReal) := by
  simp [two, Ideal.ofBits, Ideal.ieee]
  rw [← EReal.coe_mul]
  norm_num

/-- The greatest value of `f`, folded from minus infinity, is its value at its first greatest index. -/
theorem fold_max_eq {n : ℕ} [NeZero n] (f : Fin n → EReal) :
    Finset.univ.fold max (Ideal.ofBits .f32 0xFF800000#32) f = f (firstMax f) := by
  rw [ofBits_bot]
  refine le_antisymm ?_ ?_
  · rw [Finset.fold_max_le]
    exact ⟨bot_le, fun i _ => le_firstMax f i⟩
  · rw [Finset.le_fold_max]
    exact Or.inr ⟨_, Finset.mem_univ _, le_rfl⟩

/-- The least index at which `f` takes its greatest value, found as a minimum of index words. -/
theorem fold_minsi_eq {n : ℕ} [NeZero n] (hn : n < 2 ^ 31) (f : Fin n → EReal) (M : EReal) (hM : M = f (firstMax f))
    (w : BitVec 32) (hw : w = BitVec.ofNat 32 n) (d : ∀ x, Decidable (f x = M)) :
    Finset.univ.fold IntOp.minsi (2147483647#32) (fun x => @ite _ (f x = M) (d x) (BitVec.ofNat 32 (x : ℕ)) w)
      = BitVec.ofNat 32 (firstMax f : ℕ) := by
  subst hM hw
  have hlt := (firstMax f).isLt
  apply BitVec.eq_of_toInt_eq
  rw [toInt_fold_minsi]
  refine le_antisymm ?_ ?_
  · rw [Finset.fold_min_le]
    refine Or.inr ⟨firstMax f, Finset.mem_univ _, ?_⟩
    rw [if_pos rfl]
  · rw [Finset.le_fold_min]
    refine ⟨?_, fun x _ => ?_⟩
    · have h2 : (2147483647#32).toInt = 2147483647 := by decide
      have h1 := toInt_ofNat (firstMax f : ℕ) (by omega)
      omega
    · split
      · rename_i h
        have hle : (firstMax f : ℕ) ≤ x := firstMax_le f x fun j => h ▸ le_firstMax f j
        have h1 := toInt_ofNat (firstMax f : ℕ) (by omega)
        have h2 := toInt_ofNat (x : ℕ) (by omega)
        omega
      · have h1 := toInt_ofNat (firstMax f : ℕ) (by omega)
        have h2 := toInt_ofNat n hn
        omega

/-- The last row whose index `g` is `p`, found as a maximum of row words with minus one at the other rows. -/
theorem fold_maxsi_eq {n m : ℕ} (hn : n < 2 ^ 31) (hm : m < 2 ^ 31) (g : Fin n → Fin m) (p : Fin m) :
    Finset.univ.fold IntOp.maxsi (2147483648#32) (fun x : Fin n => Scalar.select
        (IntOp.cmpi .eq (BitVec.ofNat 32 (p : ℕ)) (BitVec.ofNat 32 (g x : ℕ))) (BitVec.ofNat 32 (x : ℕ)) (4294967295#32))
      = if h : (Finset.univ.filter fun x => g x = p).Nonempty then
          BitVec.ofNat 32 ((Finset.univ.filter fun x => g x = p).max' h : ℕ)
        else if n = 0 then 2147483648#32 else 4294967295#32 := by
  have hsel : ∀ x : Fin n, Scalar.select (IntOp.cmpi .eq (BitVec.ofNat 32 (p : ℕ)) (BitVec.ofNat 32 (g x : ℕ)))
      (BitVec.ofNat 32 (x : ℕ)) (4294967295#32) = if g x = p then BitVec.ofNat 32 (x : ℕ) else 4294967295#32 := by
    intro x
    have := p.isLt; have := (g x).isLt
    by_cases h : g x = p
    · simp [h, IntOp.cmpi, Scalar.select]
    · have : ¬ BitVec.ofNat 32 (p : ℕ) = BitVec.ofNat 32 (g x : ℕ) := by
        rw [ofNat_inj _ _ (by omega) (by omega)]
        exact fun e => h (Fin.ext e.symm)
      simp [h, IntOp.cmpi, Scalar.select, beq_eq_false_iff_ne.2 this]
  rw [Finset.fold_congr (g := fun x : Fin n => if g x = p then BitVec.ofNat 32 (x : ℕ) else 4294967295#32) fun x _ => hsel x]
  have hm1 : (4294967295#32).toInt = -1 := by decide
  have hm2 : (2147483648#32).toInt = -2147483648 := by decide
  apply BitVec.eq_of_toInt_eq
  rw [toInt_fold_maxsi]
  split
  · rename_i h
    have hmem := Finset.mem_filter.1 (Finset.max'_mem _ h)
    generalize hmx : (Finset.univ.filter fun x => g x = p).max' h = mx at hmem
    have := mx.isLt
    have h1 := toInt_ofNat (mx : ℕ) (by omega)
    refine le_antisymm ?_ ?_
    · rw [Finset.fold_max_le]
      refine ⟨by omega, fun x _ => ?_⟩
      split
      · rename_i hx
        have hle : (x : ℕ) ≤ mx := hmx ▸ Finset.le_max' _ x (Finset.mem_filter.2 ⟨Finset.mem_univ _, hx⟩)
        have h2 := toInt_ofNat (x : ℕ) (by omega)
        omega
      · omega
    · rw [Finset.le_fold_max]
      refine Or.inr ⟨mx, Finset.mem_univ _, ?_⟩
      rw [if_pos hmem.2]
  · rename_i h
    have hne : ∀ x, g x ≠ p := fun x hx => h ⟨x, Finset.mem_filter.2 ⟨Finset.mem_univ _, hx⟩⟩
    by_cases h0 : n = 0
    · subst h0
      simp
    · rw [if_neg h0, hm1]
      refine le_antisymm ?_ ?_
      · rw [Finset.fold_max_le]
        exact ⟨by omega, fun x _ => by rw [if_neg (hne x), hm1]⟩
      · rw [Finset.le_fold_max]
        exact Or.inr ⟨⟨0, by omega⟩, Finset.mem_univ _, by rw [if_neg (hne _), hm1]⟩

/-- A one-bit word read as a float, by way of an integer word, is one or zero. -/
theorem sitofp_bit (b : BitVec 1) :
    (FloatOps.sitofp (F := Ideal) .f32 (BitVec.setWidth 32 b) : EReal) = if b = 1#1 then 1 else 0 := by
  rcases BitVec.eq_zero_or_eq_one b with rfl | rfl
  · simp [FloatOps.sitofp]
  · simp [FloatOps.sitofp]

/-- A comparison for equality of two small index words. -/
theorem cmpi_eq_iff (a b : ℕ) (ha : a < 2 ^ 31) (hb : b < 2 ^ 31) :
    IntOp.cmpi .eq (BitVec.ofNat 32 a) (BitVec.ofNat 32 b) = 1#1 ↔ a = b := by
  rw [← ofNat_inj a b ha hb]
  by_cases h : BitVec.ofNat 32 a = BitVec.ofNat 32 b
  · simp [h, IntOp.cmpi]
  · simp [h, IntOp.cmpi, beq_eq_false_iff_ne.2 h]

/-- A row picked by a product with ones at its index and zeros elsewhere. -/
theorem onehot_sum {n : ℕ} (hn : n < 2 ^ 31) (v : Fin n → EReal) (i : Fin n) :
    ∑ x : Fin n, v x * (FloatOps.sitofp (F := Ideal) .f32
        (BitVec.setWidth 32 (IntOp.cmpi .eq (BitVec.ofNat 32 (x : ℕ)) (BitVec.ofNat 32 (i : ℕ)))) : EReal) = v i := by
  rw [Finset.sum_eq_single i]
  · rw [sitofp_bit, if_pos ((cmpi_eq_iff _ _ (by omega) (by omega)).2 rfl), mul_one]
  · intro x _ hx
    rw [sitofp_bit, if_neg, mul_zero]
    rw [cmpi_eq_iff _ _ (by omega) (by omega)]
    exact fun h => hx (Fin.ext h)
  · intro h; exact absurd (Finset.mem_univ i) h

/-- An entry picked by a sum that masks all the others to zero. -/
theorem masked_sum {n : ℕ} (hn : n < 2 ^ 31) (v : Fin n → EReal) (i : Fin n) :
    ∑ x : Fin n, Scalar.select (IntOp.cmpi .eq (BitVec.ofNat 32 (x : ℕ)) (BitVec.ofNat 32 (i : ℕ))) (v x) 0 = v i := by
  rw [Finset.sum_eq_single i]
  · rw [(cmpi_eq_iff _ _ (by omega) (by omega)).2 rfl]; rfl
  · intro x _ hx
    have : ¬ IntOp.cmpi .eq (BitVec.ofNat 32 (x : ℕ)) (BitVec.ofNat 32 (i : ℕ)) = 1#1 := by
      rw [cmpi_eq_iff _ _ (by omega) (by omega)]
      exact fun h => hx (Fin.ext h)
    simp [Scalar.select, this]
  · intro h; exact absurd (Finset.mem_univ i) h

end Cert.Match

end
-- ==== Proof.Match.Block.lean ====
/- What the kernel's body computes from one image's blocks, value by value, as the plain choices and sums of Spec.lean. -/
module

public import proofs.«01_k».proof.Proof.Gen.KernelIdeal.Skeleton
public import proofs.«01_k».proof.Proof.Match.Words

@[expose] public section

set_option maxRecDepth 16384

noncomputable section

namespace Cert.Match

open Idealize.ShloMosaic Idealize.ShloMosaic.TcCoe Idealize.SL.Sem
open Cert.KernelIdeal Cert.KernelIdeal.Gen

variable (T : Fin 20 → Fin 5 → EReal) (Q : Fin 8732 → Fin 4 → EReal) (L : Fin 20 → Fin 80)
  (X : Fin 8732 → Fin 81 → EReal)

/-- The kernel's overlap table is the intersection over union. -/
theorem pay16_eq (x0 : Vec Ideal S1x20x5 .f32) (x2 : Vec Ideal S4x8732 .f32)
    (h0 : ∀ o k, x0 (ix3 0 o k) = T o k) (h2 : ∀ k p, x2 (ix2 k p) = Q p k) (o : Fin 20) (p : Fin 8732) :
    k0_pay16 (k0_pay13 x0 x2) (k0_pay14 x2) (k0_pay15 x0) (ix2 o p) = iou T Q o p := by
  pointwise [k0_pay16, k0_pay13, k0_pay14, k0_pay15, k0_pay3, k0_pay4, k0_pay5, k0_pay6, k0_pay7, k0_pay8, k0_pay9,
    k0_pay10, k0_pay11, k0_pay12]
  simp only [h0, h2]
  rfl

section
variable (v42 : FVec Ideal S20x8732 .f32) (v46 : FVec Ideal S1x8732 .f32) (v47 : FVec Ideal S20x8732 .f32)
  (hi : ∀ o p, k0_pay16 v42 v46 v47 (ix2 o p) = iou T Q o p)

include hi

/-- The best overlap of each prior. -/
theorem pay17_eq (p : Fin 8732) : k0_pay17 v42 v46 v47 (ix2 0 p) = iou T Q (bestBox T Q p) p := by
  pointwise [k0_pay17]
  simp only [hi]
  exact fold_max_eq fun o => iou T Q o p

open Classical in
/-- The last box that claims each prior, or minus one. -/
theorem pay18_eq (p : Fin 8732) : k0_pay18 v42 v46 v47 (ix2 0 p)
    = if h : (claimants T Q p).Nonempty then BitVec.ofNat 32 ((claimants T Q p).max' h : ℕ) else 4294967295#32 := by
  pointwise [k0_pay18]
  have hb : ∀ (x : Fin 20) (d : ∀ q : Fin 8732, Decidable (k0_pay16 v42 v46 v47 (ix2 x q)
      = Finset.univ.fold max (Ideal.ofBits .f32 0xFF800000#32) fun q' => k0_pay16 v42 v46 v47 (ix2 x q'))),
      Finset.univ.fold IntOp.minsi 2147483647#32 (fun q : Fin 8732 => @ite _ _ (d q) (BitVec.ofNat 32 (q : ℕ)) 8732#32)
        = BitVec.ofNat 32 (bestPrior T Q x : ℕ) := by
    intro x d
    have hM : (Finset.univ.fold max (Ideal.ofBits .f32 0xFF800000#32) fun q' => k0_pay16 v42 v46 v47 (ix2 x q'))
        = k0_pay16 v42 v46 v47 (ix2 x (firstMax fun q => k0_pay16 v42 v46 v47 (ix2 x q))) :=
      fold_max_eq fun q => k0_pay16 v42 v46 v47 (ix2 x q)
    rw [fold_minsi_eq (by norm_num) (fun q => k0_pay16 v42 v46 v47 (ix2 x q)) _ hM 8732#32 rfl d]
    simp only [hi]
    rfl
  simp only [hb]
  rw [fold_maxsi_eq (by norm_num) (by norm_num) (bestPrior T Q) p]
  rw [if_neg (by norm_num)]
  unfold claimants
  congr

open Classical in
/-- Whether any box claims each prior. -/
theorem pay19_eq (p : Fin 8732) : k0_pay19 v42 v46 v47 (ix2 0 p) = if (claimants T Q p).Nonempty then 1#1 else 0#1 := by
  pointwise [k0_pay19]
  rw [pay18_eq T Q v42 v46 v47 hi]
  by_cases h : (claimants T Q p).Nonempty
  · rw [dif_pos h, if_pos h]
    have := ((claimants T Q p).max' h).isLt
    have h1 := toInt_ofNat ((claimants T Q p).max' h : ℕ) (by omega)
    have h2 : (0#32).toInt = 0 := by decide
    simp only [IntOp.cmpi, BitVec.sle, h1, h2]
    rw [decide_eq_true (Int.natCast_nonneg _)]
    rfl
  · rw [dif_neg h, if_neg h]
    decide

/-- The overlap each prior is matched at. -/
theorem pay20_eq (p : Fin 8732) : k0_pay20 v42 v46 v47 (ix2 0 p) = overlap T Q p := by
  pointwise [k0_pay20]
  rw [pay19_eq T Q v42 v46 v47 hi, pay17_eq T Q v42 v46 v47 hi, overlap]
  by_cases h : (claimants T Q p).Nonempty
  · simp [h, Scalar.select]
  · simp [h, Scalar.select]

/-- The matched box's row, coordinate by coordinate. -/
theorem pay21_eq (x1 : Vec Ideal S1x5x20 .f32) (h1 : ∀ k o, x1 (ix3 0 k o) = T o k) (k : Fin 5) (p : Fin 8732) :
    k0_pay21 v42 v46 v47 x1 (ix2 k p) = T (box T Q p) k := by
  pointwise [k0_pay21]
  simp only [h1]
  have hb : ∀ (d : ∀ o : Fin 20, Decidable (k0_pay16 v42 v46 v47 (ix2 o p) = k0_pay17 v42 v46 v47 (ix2 0 p))),
      Finset.univ.fold IntOp.minsi 2147483647#32 (fun o : Fin 20 => @ite _ _ (d o) (BitVec.ofNat 32 (o : ℕ)) 20#32)
        = BitVec.ofNat 32 (bestBox T Q p : ℕ) := by
    intro d
    have hM : k0_pay17 v42 v46 v47 (ix2 0 p)
        = k0_pay16 v42 v46 v47 (ix2 (firstMax fun o => k0_pay16 v42 v46 v47 (ix2 o p)) p) := by
      rw [pay17_eq T Q v42 v46 v47 hi]
      simp only [hi]
      rfl
    rw [fold_minsi_eq (by norm_num) (fun o => k0_pay16 v42 v46 v47 (ix2 o p)) _ hM 20#32 rfl d]
    simp only [hi]
    rfl
  simp only [hb]
  have hs : Scalar.select (k0_pay19 v42 v46 v47 (ix2 0 p)) (k0_pay18 v42 v46 v47 (ix2 0 p))
      (BitVec.ofNat 32 (bestBox T Q p : ℕ)) = BitVec.ofNat 32 (box T Q p : ℕ) := by
    rw [pay19_eq T Q v42 v46 v47 hi, pay18_eq T Q v42 v46 v47 hi, box]
    by_cases h : (claimants T Q p).Nonempty
    · simp [h, Scalar.select]
    · simp [h, Scalar.select]
  rw [hs]
  exact onehot_sum (by norm_num) (fun o => T o k) _

end

/-- A label read as an integer after one half is added to it. -/
theorem fptosi_half (n : ℕ) (h : n < 80) :
    FloatOps.fptosi (F := Ideal) (φ := .f32) 32 (((n : ℝ) : EReal) + half) = BitVec.ofNat 32 n := by
  have hf : ⌊(n : ℝ) + 1 / 2⌋ = (n : ℤ) := by
    rw [Int.floor_eq_iff]; push_cast; constructor <;> linarith
  have h0 : (0 : ℝ) ≤ (n : ℝ) + 1 / 2 := by positivity
  rw [half_eq, ← EReal.coe_add]
  show BitVec.ofInt 32 (max _ (min _ (if 0 ≤ (n : ℝ) + 1 / 2 then ⌊(n : ℝ) + 1 / 2⌋ else ⌈(n : ℝ) + 1 / 2⌉))) = _
  rw [if_pos h0, hf, min_eq_right (by norm_num; omega), max_eq_right (by norm_num)]
  exact BitVec.ofInt_natCast ..

/-- The comparison of a class word with zero says whether there is a class. -/
theorem cmpi_cls (c : Fin 81) : IntOp.cmpi .sgt (BitVec.ofNat 32 (c : ℕ)) 0#32 = if c = 0 then 0#1 else 1#1 := by
  revert c; decide

section
variable (v79 v92 : FVec Ideal S1x8732 .f32) (h79 : ∀ p, v79 (ix2 0 p) = overlap T Q p)
  (h92 : ∀ p, v92 (ix2 0 p) = T (box T Q p) 4) (hL : ∀ o, T o 4 = (((L o : ℕ) : ℝ) : EReal))

include h79 h92 hL

/-- The class of each prior. -/
theorem pay27_eq (p : Fin 8732) : k0_pay27 v79 v92 half (ix2 0 p) = BitVec.ofNat 32 (cls T Q L p : ℕ) := by
  pointwise [k0_pay27]
  rw [h79, h92, hL, fptosi_half _ (L _).isLt, cls]
  by_cases h : overlap T Q p < half
  · simp [h]
  · simp only [if_neg h, Fin.val_succ]
    exact (BitVec.ofNat_add ..).symm

/-- Whether each prior has a class. -/
theorem pay28_eq (p : Fin 8732) : k0_pay28 v79 v92 half (ix2 0 p)
    = if cls T Q L p = 0 then 0#1 else 1#1 := by
  pointwise [k0_pay28]
  rw [pay27_eq T Q L v79 v92 h79 h92 hL, cmpi_cls]

/-- One at the priors that have a class. -/
theorem pay29_eq (p : Fin 8732) : k0_pay29 v79 v92 half (ix2 0 p) = posf T Q L p := by
  pointwise [k0_pay29]
  rw [pay28_eq T Q L v79 v92 h79 h92 hL, sitofp_bit, posf]
  by_cases h : cls T Q L p = 0 <;> simp [h]

/-- How many priors have a class. -/
theorem pay30_eq : k0_pay30 v79 v92 half = numPos T Q L := by
  pointwise [k0_pay30]
  simp only [pay29_eq T Q L v79 v92 h79 h92 hL]
  exact Fin.sum_univ_one _

end

section
variable (v101 : IVec S1x8732 32) (v103 : IVec S1x8732 1) (v105 : FVec Ideal S1x8732 .f32) (x3 : Vec Ideal S1x8732x81 .f32)
  (h101 : ∀ p, v101 (ix2 0 p) = BitVec.ofNat 32 (cls T Q L p : ℕ))
  (h103 : ∀ p, v103 (ix2 0 p) = if cls T Q L p = 0 then 0#1 else 1#1)
  (h105 : ∀ p, v105 (ix2 0 p) = posf T Q L p)
  (h3 : ∀ p c, x3 (ix3 0 p c) = X p c)

include h101 h3

/-- The cross-entropy of each prior. -/
theorem pay39_eq (p : Fin 8732) : k0_pay39 v101 x3 (ix2 0 p) = ce T Q L X p := by
  pointwise [k0_pay39]
  simp only [h101, h3]
  rw [masked_sum (by norm_num) (fun c => X p c)]
  rfl

include h103 in
/-- The cross-entropies of the priors without a class. -/
theorem pay41_eq (p : Fin 8732) : k0_pay41 v101 v103 x3 (ix2 0 p) = max (mined T Q L X p) 0 := by
  pointwise [k0_pay41]
  rw [pay39_eq T Q L X v101 x3 h101 h3, h103, mined]
  by_cases h : cls T Q L p = 0 <;> simp [h, Scalar.select]

include h105 in
/-- The cross-entropies summed over the priors that have a class. -/
theorem pay40_eq : k0_pay40 v101 v105 x3 = lossC T Q L X := by
  pointwise [k0_pay40]
  simp only [pay39_eq T Q L X v101 x3 h101 h3, h105]
  exact Fin.sum_univ_one _

end

/-- The three sums in their lanes. -/
theorem pay2_eq (a b c : EReal) (l : Fin 128) : k0_pay2 (F := Ideal) a b c (ix3 0 0 l)
    = if (l : ℕ) = 0 then b else if (l : ℕ) = 1 then c else if (l : ℕ) = 2 then a else 0 := by
  pointwise [k0_pay2]
  have h0 := cmpi_eq_iff (l : ℕ) 0 (by omega) (by norm_num)
  have h1 := cmpi_eq_iff (l : ℕ) 1 (by omega) (by norm_num)
  have h2 := cmpi_eq_iff (l : ℕ) 2 (by omega) (by norm_num)
  have hs : ∀ (b : BitVec 1) (x y : EReal), Scalar.select b x y = if b = 1#1 then x else y := fun _ _ _ => rfl
  simp only [hs, h0, h1, h2]
  split_ifs <;> first | omega | simp

section
variable (v105 w0 w1 w2 w3 : FVec Ideal S1x8732 .f32)
  (h105 : ∀ p, v105 (ix2 0 p) = posf T Q L p)
  (h0 : ∀ p, w0 (ix2 0 p) = enc T Q p 0) (h1 : ∀ p, w1 (ix2 0 p) = enc T Q p 1)
  (h2 : ∀ p, w2 (ix2 0 p) = enc T Q p 2) (h3 : ∀ p, w3 (ix2 0 p) = enc T Q p 3)

/-- The body's absolute value is the greater of a value and its negative. -/
theorem absf_eq (x : EReal) : FloatOps.absf (F := Ideal) (φ := .f32) x = max x (-x) := rfl

include h105 h0 h1 h2 h3

/-- The localization loss, coordinate after coordinate. -/
theorem pay38_eq : k0_pay38 v105 w3 k0_pay35 (k0_pay36 v105 w0 w1 k0_pay35) (k0_pay37 v105 w2 k0_pay35) = lossL T Q L := by
  pointwise [k0_pay35, k0_pay36, k0_pay37, k0_pay38]
  simp only [h105, h0, h1, h2, h3]
  unfold lossL
  rw [Finset.sum_congr rfl fun p _ => Fin.sum_univ_four _]
  simp only [Finset.sum_add_distrib, Fin.sum_univ_one]
  rfl

end

section
variable (c0 c1 w0 w1 x0 x1 x2 x3 : FVec Ideal S1x8732 .f32) (p : Fin 8732)
  (hc0 : c0 (ix2 0 p) = Q p 0) (hc1 : c1 (ix2 0 p) = Q p 1) (hw0 : w0 (ix2 0 p) = Q p 2) (hw1 : w1 (ix2 0 p) = Q p 3)
  (h0 : x0 (ix2 0 p) = T (box T Q p) 0) (h1 : x1 (ix2 0 p) = T (box T Q p) 1)
  (h2 : x2 (ix2 0 p) = T (box T Q p) 2) (h3 : x3 (ix2 0 p) = T (box T Q p) 3)

include hc0 hw0 h0 h2 in
/-- The first coordinate's regression target. -/
theorem pay31_eq : k0_pay31 c0 w0 x0 x2 (ix2 0 p) = enc T Q p 0 := by
  pointwise [k0_pay31]
  rw [hc0, hw0, h0, h2]
  rfl

include hc1 hw1 h1 h3 in
/-- The second coordinate's regression target. -/
theorem pay32_eq : k0_pay32 c1 w1 x1 x3 (ix2 0 p) = enc T Q p 1 := by
  pointwise [k0_pay32]
  rw [hc1, hw1, h1, h3]
  rfl

include hw0 h0 h2 in
/-- The third coordinate's regression target. -/
theorem pay33_eq : k0_pay33 w0 x0 x2 (ix2 0 p) = enc T Q p 2 := by
  pointwise [k0_pay33]
  rw [hw0, h0, h2]
  rfl

include hw1 h1 h3 in
/-- The fourth coordinate's regression target. -/
theorem pay34_eq : k0_pay34 w1 x1 x3 (ix2 0 p) = enc T Q p 3 := by
  pointwise [k0_pay34]
  rw [hw1, h1, h3]
  rfl

end

end Cert.Match

end
-- ==== Proof.Match.Array.lean ====
/- The two arrays the kernel leaves: at each image, what Spec.lean says of that image's rows of the arguments. -/
module

public import proofs.«01_k».proof.Proof.Gen.KernelIdeal.Frame
public import proofs.«01_k».proof.Proof.Match.Block
public import Idealize.ShloMosaic.Lib.Pipeline.ValueKit

@[expose] public section

set_option maxRecDepth 16384

noncomputable section

namespace Cert.Match

open Idealize.ShloMosaic Idealize.ShloMosaic.TcCoe Idealize.SL.Sem
open Idealize.ShloMosaic.Pipeline (Dat)
open Cert.KernelIdeal Cert.KernelIdeal.Gen

/-- Image `b`'s boxes and labels. -/
def boxes (A : FVec Ideal S32x20x5 .f32) (b : Fin 32) : Fin 20 → Fin 5 → EReal := fun o k => A (ix3 b o k)

/-- The priors, row by row. -/
def priors (A : FVec Ideal S8732x4 .f32) : Fin 8732 → Fin 4 → EReal := fun p k => A (ix2 p k)

/-- Image `b`'s scores. -/
def scores (A : FVec Ideal S32x8732x81 .f32) (b : Fin 32) : Fin 8732 → Fin 81 → EReal := fun p c => A (ix3 b p c)

section block
variable (T : Fin 20 → Fin 5 → EReal) (Q : Fin 8732 → Fin 4 → EReal) (L : Fin 20 → Fin 80)
  (X : Fin 8732 → Fin 81 → EReal)
  (x0 : Vec Ideal S1x20x5 .f32) (x1 : Vec Ideal S1x5x20 .f32) (x2 : Vec Ideal S4x8732 .f32) (x3 : Vec Ideal S1x8732x81 .f32)
  (h0 : ∀ o k, x0 (ix3 0 o k) = T o k) (h1 : ∀ k o, x1 (ix3 0 k o) = T o k) (h2 : ∀ k p, x2 (ix2 k p) = Q p k)
  (h3 : ∀ p c, x3 (ix3 0 p c) = X p c) (hL : ∀ o, T o 4 = (((L o : ℕ) : ℝ) : EReal))

include h0 h1 h2 h3 hL

/-- The label of the matched box, read at the blocks. -/
theorem pay26_eq (p : Fin 8732) : k0_pay26 (k0_pay13 x0 x2) (k0_pay14 x2) (k0_pay15 x0) x1 (ix2 0 p) = T (box T Q p) 4 := by
  pointwise [k0_pay26]
  exact pay21_eq T Q _ _ _ (pay16_eq T Q x0 x2 h0 h2) x1 h1 4 p

/-- What the body leaves in the block of mined cross-entropies. -/
theorem out4_eq (p : Fin 8732) : out0_4 x0 x1 x2 x3 (ix3 0 0 p) = max (mined T Q L X p) 0 := by
  have hi := pay16_eq T Q x0 x2 h0 h2
  have h79 := pay20_eq T Q _ _ _ hi
  have h92 := pay26_eq T Q L X x0 x1 x2 x3 h0 h1 h2 h3 hL
  unfold_out out0_4
  frame_out
  pointwise [k0_pay1]
  exact pay41_eq T Q L X _ _ x3 (pay27_eq T Q L _ _ h79 h92 hL) (pay28_eq T Q L _ _ h79 h92 hL) h3 p

/-- What the body leaves in the block of sums. -/
theorem out5_eq (l : Fin 128) : out0_5 x0 x1 x2 x3 (ix3 0 0 l) = stats T Q L X l := by
  have hi := pay16_eq T Q x0 x2 h0 h2
  have h79 := pay20_eq T Q _ _ _ hi
  have h92 := pay26_eq T Q L X x0 x1 x2 x3 h0 h1 h2 h3 hL
  have hb := pay21_eq T Q _ _ _ hi x1 h1
  have hc0 : ∀ p, k0_pay9 x2 (ix2 0 p) = Q p 0 := fun p => by pointwise [k0_pay9, k0_pay8]; exact h2 0 p
  have hc1 : ∀ p, k0_pay10 x2 (ix2 0 p) = Q p 1 := fun p => by pointwise [k0_pay10, k0_pay8]; exact h2 1 p
  have hw0 : ∀ p, k0_pay11 x2 (ix2 0 p) = Q p 2 := fun p => by pointwise [k0_pay11, k0_pay8]; exact h2 2 p
  have hw1 : ∀ p, k0_pay12 x2 (ix2 0 p) = Q p 3 := fun p => by pointwise [k0_pay12, k0_pay8]; exact h2 3 p
  have b0 : ∀ p, k0_pay22 (k0_pay13 x0 x2) (k0_pay14 x2) (k0_pay15 x0) x1 (ix2 0 p) = T (box T Q p) 0 := fun p => by
    pointwise [k0_pay22]; exact hb 0 p
  have b1 : ∀ p, k0_pay23 (k0_pay13 x0 x2) (k0_pay14 x2) (k0_pay15 x0) x1 (ix2 0 p) = T (box T Q p) 1 := fun p => by
    pointwise [k0_pay23]; exact hb 1 p
  have b2 : ∀ p, k0_pay24 (k0_pay13 x0 x2) (k0_pay14 x2) (k0_pay15 x0) x1 (ix2 0 p) = T (box T Q p) 2 := fun p => by
    pointwise [k0_pay24]; exact hb 2 p
  have b3 : ∀ p, k0_pay25 (k0_pay13 x0 x2) (k0_pay14 x2) (k0_pay15 x0) x1 (ix2 0 p) = T (box T Q p) 3 := fun p => by
    pointwise [k0_pay25]; exact hb 3 p
  have h105 := pay29_eq T Q L _ _ h79 h92 hL
  unfold_out out0_5
  frame_out
  refine (pay2_eq _ _ _ l).trans ?_
  have e1 := pay38_eq T Q L _ _ _ _ _ h105
    (fun p => pay31_eq T Q _ _ _ _ p (hc0 p) (hw0 p) (b0 p) (b2 p))
    (fun p => pay32_eq T Q _ _ _ _ p (hc1 p) (hw1 p) (b1 p) (b3 p))
    (fun p => pay33_eq T Q _ _ _ p (hw0 p) (b0 p) (b2 p))
    (fun p => pay34_eq T Q _ _ _ p (hw1 p) (b1 p) (b3 p))
  have e2 := pay40_eq T Q L X _ _ x3 (pay27_eq T Q L _ _ h79 h92 hL) h105 h3
  have e3 := pay30_eq T Q L _ _ h79 h92 hL
  unfold stats
  exact congr (congrArg _ e1) (congr (congrArg _ e2) (congrArg (fun a => if (l : ℕ) = 2 then a else 0) e3))

end block

/-- The windows' index maps. -/
theorem idx : ∀ t : Fin cfg0.N, win0_0.index t = ![t.val, 0, 0] ∧ win0_1.index t = ![t.val, 0, 0] ∧ win0_2.index t = ![0, 0]
    ∧ win0_3.index t = ![t.val, 0, 0] ∧ win0_4.index t = ![t.val, 0, 0] ∧ win0_5.index t = ![t.val, 0, 0] :=
  (by decide +kernel : ∀ t : Fin grid0.N, _)

section arrays
variable (m : (ℓ : Loc nD τ sig) → Buf (Elt Ideal) ℓ) (c : Dev nD)

/-- A block of boxes is its image's rows. -/
theorem iblk0 (t : Fin cfg0.N) (o : Fin 20) (k : Fin 5) : iblk m c 0 t (ix3 0 o k)
    = boxes (m ((c : Thread nD τ).loc main_arg3)) ⟨t.val, t.isLt⟩ o k := by
  unfold boxes
  blk_point [iblk, V, idx t]

/-- A block of transposed boxes is its image's rows, transposed back. -/
theorem iblk1 (t : Fin cfg0.N) (o : Fin 20) (k : Fin 5) : iblk m c 1 t (ix3 0 k o)
    = boxes (m ((c : Thread nD τ).loc main_arg3)) ⟨t.val, t.isLt⟩ o k := by
  unfold boxes
  blk_point [iblk, V, idx t]

/-- The block of transposed priors is the priors. -/
theorem iblk2 (t : Fin cfg0.N) (p : Fin 8732) (k : Fin 4) : iblk m c 2 t (ix2 k p)
    = priors (m ((c : Thread nD τ).loc main_arg2)) p k := by
  unfold priors
  blk_point [iblk, V, idx t]

/-- A block of scores is its image's rows. -/
theorem iblk3 (t : Fin cfg0.N) (p : Fin 8732) (k : Fin 81) : iblk m c 3 t (ix3 0 p k)
    = scores (m ((c : Thread nD τ).loc main_arg1)) ⟨t.val, t.isLt⟩ p k := by
  unfold scores
  blk_point [iblk, V, idx t]

variable (L : Fin 32 → Fin 20 → Fin 80)
  (hL : ∀ b o, boxes (m ((c : Thread nD τ).loc main_arg3)) b o 4 = (((L b o : ℕ) : ℝ) : EReal))

include hL

/-- The array of mined cross-entropies after the run. -/
theorem final4 : (dats m 0 c).arrAt 4 (cfgs 0).N = fun i : S32x1x8732.Idx =>
    max (mined (boxes (m ((c : Thread nD τ).loc main_arg3)) (i 0)) (priors (m ((c : Thread nD τ).loc main_arg2))) (L (i 0))
      (scores (m ((c : Thread nD τ).loc main_arg1)) (i 0)) (i 2)) 0 := by
  refine (dats m 0 c).arrAt_eq_of_covers 4 _ (by decide +kernel) fun t _ y => ?_
  blk_simp [idx t]
  rw [after0_4]
  idx_vars y
  obtain rfl : y0 = 0 := Subsingleton.elim _ _
  obtain rfl : y1 = 0 := Subsingleton.elim _ _
  refine (out4_eq _ _ (L ⟨t.val, t.isLt⟩) _ _ _ _ _ (iblk0 m c t) (fun k o => iblk1 m c t o k) (fun k p => iblk2 m c t p k)
    (iblk3 m c t) (hL _) y2).trans ?_
  have h0 : ((((cfg0.win 4).blk t).view.emb (ix3 (0 : Fin 1) (0 : Fin 1) y2) : S32x1x8732.Idx) 0) = (⟨t.val, t.isLt⟩ : Fin 32) := by
    apply Fin.ext
    blk_simp [idx t]
    rfl
  have h2 : ((((cfg0.win 4).blk t).view.emb (ix3 (0 : Fin 1) (0 : Fin 1) y2) : S32x1x8732.Idx) 2) = y2 := by
    apply Fin.ext
    blk_simp [idx t]
  exact congrArg₂ (fun (b : Fin 32) (p : Fin 8732) => max (mined (boxes (m ((c : Thread nD τ).loc main_arg3)) b) (priors (m ((c : Thread nD τ).loc main_arg2))) (L b)
    (scores (m ((c : Thread nD τ).loc main_arg1)) b) p) 0) h0.symm h2.symm

/-- The array of sums after the run. -/
theorem final5 : (dats m 0 c).arrAt 5 (cfgs 0).N = fun i : S32x1x128.Idx =>
    stats (boxes (m ((c : Thread nD τ).loc main_arg3)) (i 0)) (priors (m ((c : Thread nD τ).loc main_arg2))) (L (i 0))
      (scores (m ((c : Thread nD τ).loc main_arg1)) (i 0)) (i 2) := by
  refine (dats m 0 c).arrAt_eq_of_covers 5 _ (by decide +kernel) fun t _ y => ?_
  blk_simp [idx t]
  rw [after0_5]
  idx_vars y
  obtain rfl : y0 = 0 := Subsingleton.elim _ _
  obtain rfl : y1 = 0 := Subsingleton.elim _ _
  refine (out5_eq _ _ (L ⟨t.val, t.isLt⟩) _ _ _ _ _ (iblk0 m c t) (fun k o => iblk1 m c t o k) (fun k p => iblk2 m c t p k)
    (iblk3 m c t) (hL _) y2).trans ?_
  have h0 : ((((cfg0.win 5).blk t).view.emb (ix3 (0 : Fin 1) (0 : Fin 1) y2) : S32x1x128.Idx) 0) = (⟨t.val, t.isLt⟩ : Fin 32) := by
    apply Fin.ext
    blk_simp [idx t]
    rfl
  have h2 : ((((cfg0.win 5).blk t).view.emb (ix3 (0 : Fin 1) (0 : Fin 1) y2) : S32x1x128.Idx) 2) = y2 := by
    apply Fin.ext
    blk_simp [idx t]
  exact congrArg₂ (fun (b : Fin 32) (p : Fin 128) => stats (boxes (m ((c : Thread nD τ).loc main_arg3)) b) (priors (m ((c : Thread nD τ).loc main_arg2))) (L b)
    (scores (m ((c : Thread nD τ).loc main_arg1)) b) p) h0.symm h2.symm

end arrays

end Cert.Match

end
-- ==== Proof.RefValue.Overlaps.lean ====
/- The reference's table of overlaps: at every image, box and prior, the intersection over union of Spec.lean. -/
module

public import proofs.«01_k».proof.Proof.RefRun.Terms
public import proofs.«01_k».proof.Proof.Match.Array
public import Idealize.ShloMosaic.Lib.Tactic.CleanTypes
public import Idealize.ShloMosaic.Lib.Pointwise

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Match

/-- Dividing by two is halving. -/
theorem div_two (x : EReal) : Ideal.div x two = x * half := by
  rw [two_eq, half_eq, Ideal.div, if_neg (by norm_num), ← EReal.coe_inv]
  norm_num

/-- The side of a finite interval about its middle. -/
theorem ends_sub (c w : EReal) (hc : ∃ r : ℝ, c = r) (hw : ∃ r : ℝ, w = r) : (c + w * half) - (c - w * half) = w := by
  obtain ⟨r, rfl⟩ := hc
  obtain ⟨s, rfl⟩ := hw
  rw [half_eq]
  norm_cast
  ring

variable (V0 : Valuation τ sig (Elt Ideal)) (A2 : FVec Ideal KernelIdeal.S8732x4 .f32) (A3 : FVec Ideal KernelIdeal.S32x20x5 .f32)
  (h2 : V0 (Proc.devRef .tc main_arg2) = A2) (h3 : V0 (Proc.devRef .tc main_arg3) = A3)
  (hQ : ∀ p k, ∃ r : ℝ, priors A2 p k = r)

include h2 h3 in
/-- A clipped extent of an overlap. -/
theorem v34_eq (b : Fin 32) (o : Fin 20) (p : Fin 8732) (k : Fin 2) :
    res_main_v34 V0 (ix4 b o p k) = side (boxes A3 b o ⟨k, by omega⟩) (boxes A3 b o ⟨2 + k, by omega⟩)
      (priors A2 p ⟨k, by omega⟩) (priors A2 p ⟨2 + k, by omega⟩) := by
  subst h2 h3
  fin_vals k with hk
  all_goals
    unfold res_main_v34 res_main_v16 res_main_v1
    clean_types
    pointwise []
    rw [div_two, max_comm]
    have h0 : (id (constant (F := Ideal) S_ FTy.f32 0#32) ix0 : EReal) = 0 := by
      simp [constant, Ideal.ofBits, Ideal.ieee, FloatOps.ofBits]
    exact congrArg (max _) h0

include h2 h3 hQ in
/-- The table of overlaps. -/
theorem v69_eq (b : Fin 32) (o : Fin 20) (p : Fin 8732) :
    res_main_v69 V0 (ix3 b o p) = iou (boxes A3 b) (priors A2) o p := by
  have hv := v34_eq V0 A2 A3 h2 h3 b o p
  unfold res_main_v69 res_main_v39
  subst h2 h3
  unfold res_main_v16 res_main_v1
  clean_types
  pointwise []
  have e0 := ends_sub _ _ (hQ p 0) (hQ p 2)
  have e1 := ends_sub _ _ (hQ p 1) (hQ p 3)
  simp only [priors] at e0 e1
  rw [hv 0, hv 1, div_two, div_two, e0, e1]
  rfl

end Cert.RefValue

end
-- ==== Proof.RefValue.ArgMax.lean ====
/- The arg-max of a row: the fold that takes the greater value, and of equal values the smaller index, ends at
   the first greatest index. -/
module

public import proofs.«01_k».proof.Proof.RefValue.Overlaps

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Match

/-- `r` comes at or before `q`: a greater value, or the same value and no greater index. -/
def Beats (r q : EReal × BitVec 32) : Prop := q.1 < r.1 ∨ (q.1 = r.1 ∧ r.2.toInt ≤ q.2.toInt)

/-- Coming before is transitive. -/
theorem Beats.trans {a b c : EReal × BitVec 32} (h : Beats a b) (k : Beats b c) : Beats a c := by
  rcases h with h | ⟨h, h'⟩ <;> rcases k with k | ⟨k, k'⟩
  · exact .inl (k.trans h)
  · exact .inl (k ▸ h)
  · exact .inl (h ▸ k)
  · exact .inr ⟨k.trans h, h'.trans k'⟩

/-- The reducer's choice of two pairs is one of them and comes before both. -/
theorem reducer_spec (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  have hs : BitVec.slt i j = decide (i.toInt < j.toInt) := rfl
  rcases lt_trichotomy x y with h | h | h
  · have : reducer_argmax_f32_i32 (F := Ideal) (x, i) (y, j) = (y, j) := by
      simp [reducer_argmax_f32_i32, FloatOps.cmpf, Ideal.cmp, h.ne, not_lt.2 h.le, IntOp.ori, IntOp.andi, Scalar.select, IntOp.cmpi]
    rw [this]
    exact ⟨.inr rfl, .inl h, .inr ⟨rfl, le_rfl⟩⟩
  · subst h
    by_cases hij : i.toInt < j.toInt
    · have : reducer_argmax_f32_i32 (F := Ideal) (x, i) (x, j) = (x, i) := by
        simp [reducer_argmax_f32_i32, FloatOps.cmpf, Ideal.cmp, IntOp.ori, IntOp.andi, Scalar.select, IntOp.cmpi, hs, hij]
      rw [this]
      exact ⟨.inl rfl, .inr ⟨rfl, le_rfl⟩, .inr ⟨rfl, hij.le⟩⟩
    · have : reducer_argmax_f32_i32 (F := Ideal) (x, i) (x, j) = (x, j) := by
        simp [reducer_argmax_f32_i32, FloatOps.cmpf, Ideal.cmp, IntOp.ori, IntOp.andi, Scalar.select, IntOp.cmpi, hs, hij]
      rw [this]
      exact ⟨.inr rfl, .inr ⟨rfl, not_lt.1 hij⟩, .inr ⟨rfl, le_rfl⟩⟩
  · have : reducer_argmax_f32_i32 (F := Ideal) (x, i) (y, j) = (x, i) := by
      simp [reducer_argmax_f32_i32, FloatOps.cmpf, Ideal.cmp, h, h.ne', IntOp.ori, IntOp.andi, Scalar.select, IntOp.cmpi]
    rw [this]
    exact ⟨.inl rfl, .inr ⟨rfl, le_rfl⟩, .inl h⟩

/-- The fold over a list ends at a pair of it, or at the initial one, that comes before all of them. -/
theorem foldl_spec (l : List (EReal × BitVec 32)) (a : EReal × BitVec 32) :
    (l.foldl (reducer_argmax_f32_i32 (F := Ideal)) a = a ∨ l.foldl (reducer_argmax_f32_i32 (F := Ideal)) a ∈ l)
      ∧ Beats (l.foldl (reducer_argmax_f32_i32 (F := Ideal)) a) a
      ∧ ∀ q ∈ l, Beats (l.foldl (reducer_argmax_f32_i32 (F := Ideal)) a) q := by
  induction l generalizing a with
  | nil => exact ⟨.inl rfl, .inr ⟨rfl, le_rfl⟩, by simp⟩
  | cons b l ih =>
    obtain ⟨h1, h2, h3⟩ := ih (reducer_argmax_f32_i32 (F := Ideal) a b)
    obtain ⟨g1, g2, g3⟩ := reducer_spec a b
    refine ⟨?_, h2.trans g2, ?_⟩
    · simp only [List.foldl_cons, List.mem_cons]
      rcases h1 with h1 | h1
      · rw [h1]
        rcases g1 with g1 | g1
        · exact .inl g1
        · exact .inr (.inl g1)
      · exact .inr (.inr h1)
    · intro q hq
      rcases List.mem_cons.1 hq with rfl | hq
      · exact h2.trans g3
      · exact h3 q hq

/-- The fold over a row's pairs of value and index, in any order, ends at the first greatest index. -/
theorem foldl_argmax {n : ℕ} [NeZero n] (hn : n < 2 ^ 31) (f : Fin n → EReal) (l : List (EReal × BitVec 32))
    (hl : ∀ q, q ∈ l ↔ ∃ i : Fin n, q = (f i, BitVec.ofNat 32 (i : ℕ))) :
    (l.foldl (reducer_argmax_f32_i32 (F := Ideal)) (⊥, 0#32)).2 = BitVec.ofNat 32 (firstMax f : ℕ) := by
  obtain ⟨h1, h2, h3⟩ := foldl_spec l (⊥, 0#32)
  rcases h1 with h1 | h1
  · rw [h1] at h3 ⊢
    have hb : ∀ i, f i = ⊥ := fun i => by
      rcases h3 _ ((hl _).2 ⟨i, rfl⟩) with h | ⟨h, -⟩
      · exact absurd h not_lt_bot
      · exact h
    rw [firstMax_eq f ⟨0, Nat.pos_of_ne_zero (NeZero.ne n)⟩ (fun j => by rw [hb, hb])
      (fun j hj => absurd hj (by simp [Fin.lt_def]))]
  · obtain ⟨i, hi⟩ := (hl _).1 h1
    rw [hi] at h3 ⊢
    rw [firstMax_eq f i]
    · intro j
      rcases h3 _ ((hl _).2 ⟨j, rfl⟩) with h | ⟨h, -⟩
      · exact h.le
      · exact h.le
    · intro j hj
      rcases h3 _ ((hl _).2 ⟨j, rfl⟩) with h | ⟨-, h⟩
      · exact h
      · rw [toInt_ofNat _ (by omega), toInt_ofNat _ (by omega)] at h
        have := Fin.lt_def.1 hj
        omega

/-- What an arg-max of an array holds at an index: the first greatest index of the row that lies there. -/
theorem argReduce_eq {s t : Shape} {axes : List (Fin s.rank)} {n : ℕ} [NeZero n] (hn : n < 2 ^ 31)
    (x : FVec Ideal s .f32) (y : s.Idx → BitVec 32) (ix : FVec Ideal S_ .f32) (iy : S_.Idx → BitVec 32)
    (h : s.ReducesTo axes t) (hu : 0 < S_.numel) (j : t.Idx) (at_ : Fin n → s.Idx) (f : Fin n → EReal)
    (hat : ∀ i, h.drop i = j ↔ ∃ p, i = at_ p) (hf : ∀ p, x (at_ p) = f p) (hy : ∀ p, y (at_ p) = BitVec.ofNat 32 (p : ℕ))
    (hix : ix (Shape.Idx.first hu) = ⊥) (hiy : iy (Shape.Idx.first hu) = 0#32) :
    (Host.argReduce (F := Ideal) reducer_argmax_f32_i32 x y ix iy h hu j).2 = BitVec.ofNat 32 (firstMax f : ℕ) := by
  rw [Ideal.argReduce_eq_reduce2, Host.reduce2_eq_foldl_fiber, hix, hiy]
  refine foldl_argmax hn f _ fun q => ?_
  simp only [Host.argReduceFiber, List.mem_map, List.mem_filter, List.mem_finRange, true_and, decide_eq_true_eq]
  constructor
  · rintro ⟨k, hk, rfl⟩
    obtain ⟨p, hp⟩ := (hat _).1 hk
    exact ⟨p, by rw [hp, hf, hy]⟩
  · rintro ⟨p, rfl⟩
    exact ⟨s.rowMajor (at_ p), by rw [Equiv.symm_apply_apply]; exact (hat _).2 ⟨p, rfl⟩,
      by rw [Equiv.symm_apply_apply, hf, hy]⟩

/-- An arg-max over the last axis of a table of boxes and priors. -/
theorem argReduce_priors (x : FVec Ideal S32x20x8732 .f32) (y : IVec S32x20x8732 32) (ix : FVec Ideal S_ .f32) (iy : IVec S_ 32)
    (f : Fin 32 → Fin 20 → Fin 8732 → EReal) (hf : ∀ b o p, x (ix3 b o p) = f b o p)
    (hy : ∀ b o p, y (ix3 b o p) = BitVec.ofNat 32 (p : ℕ)) (hix : ix ix0 = ⊥) (hiy : iy ix0 = 0#32)
    (b : Fin 32) (o : Fin 20) :
    (Host.argReduce (F := Ideal) reducer_argmax_f32_i32 x y ix iy reducesTo_S32x20x8732_S32x20_d2 h_S_ (ix2 b o)).2
      = BitVec.ofNat 32 (firstMax fun p => f b o p : ℕ) :=
  argReduce_eq (by norm_num) x y ix iy reducesTo_S32x20x8732_S32x20_d2 h_S_ (ix2 b o) (fun p : Fin 8732 => ix3 b o p) _
    (fun i => (Shape.ReducesTo.fiber_r3_a2 reducesTo_S32x20x8732_S32x20_d2 (ix2 b o) i).trans
      ⟨fun ⟨k, h⟩ => ⟨k, h.symm⟩, fun ⟨k, h⟩ => ⟨k, h.symm⟩⟩)
    (fun p => hf b o p) (fun p => hy b o p) ((congrArg ix (funext fun a => a.elim0)).trans hix)
    ((congrArg iy (funext fun a => a.elim0)).trans hiy)

/-- An arg-max over the middle axis of a table of boxes and priors. -/
theorem argReduce_boxes (x : FVec Ideal S32x20x8732 .f32) (y : IVec S32x20x8732 32) (ix : FVec Ideal S_ .f32) (iy : IVec S_ 32)
    (f : Fin 32 → Fin 20 → Fin 8732 → EReal) (hf : ∀ b o p, x (ix3 b o p) = f b o p)
    (hy : ∀ b o p, y (ix3 b o p) = BitVec.ofNat 32 (o : ℕ)) (hix : ix ix0 = ⊥) (hiy : iy ix0 = 0#32)
    (b : Fin 32) (p : Fin 8732) :
    (Host.argReduce (F := Ideal) reducer_argmax_f32_i32 x y ix iy reducesTo_S32x20x8732_S32x8732_d1 h_S_ (ix2 b p)).2
      = BitVec.ofNat 32 (firstMax fun o => f b o p : ℕ) :=
  argReduce_eq (by norm_num) x y ix iy reducesTo_S32x20x8732_S32x8732_d1 h_S_ (ix2 b p) (fun o : Fin 20 => ix3 b o p) _
    (fun i => (Shape.ReducesTo.fiber_r3_a1 reducesTo_S32x20x8732_S32x8732_d1 (ix2 b p) i).trans
      ⟨fun ⟨k, h⟩ => ⟨k, h.symm⟩, fun ⟨k, h⟩ => ⟨k, h.symm⟩⟩)
    (fun o => hf b o p) (fun o => hy b o p) ((congrArg ix (funext fun a => a.elim0)).trans hix)
    ((congrArg iy (funext fun a => a.elim0)).trans hiy)

/-- An iota holds its axis's coordinate. -/
theorem iota2 (b : Fin 32) (o : Fin 20) (p : Fin 8732) : (iotaInDim S32x20x8732 32 2) (ix3 b o p) = BitVec.ofNat 32 (p : ℕ) := by
  pointwise []

/-- An iota holds its axis's coordinate. -/
theorem iota1 (b : Fin 32) (o : Fin 20) (p : Fin 8732) : (iotaInDim S32x20x8732 32 1) (ix3 b o p) = BitVec.ofNat 32 (o : ℕ) := by
  pointwise []

variable (V0 : Valuation τ sig (Elt Ideal)) (A2 : FVec Ideal KernelIdeal.S8732x4 .f32) (A3 : FVec Ideal KernelIdeal.S32x20x5 .f32)
  (h2 : V0 (Proc.devRef .tc main_arg2) = A2) (h3 : V0 (Proc.devRef .tc main_arg3) = A3)
  (hQ : ∀ p k, ∃ r : ℝ, priors A2 p k = r)

include h2 h3 hQ in
/-- Each box's best prior. -/
theorem v70_eq (b : Fin 32) (o : Fin 20) :
    res_main_v70 V0 (ix2 b o) = BitVec.ofNat 32 (bestPrior (boxes A3 b) (priors A2) o : ℕ) := by
  have e1 : ∀ b o p, (res_main_call1_v0 V0 : IVec S32x20x8732 32) (ix3 b o p) = BitVec.ofNat 32 (p : ℕ) := by
    unfold res_main_call1_v0; exact iota2
  have e2 : (res_main_call1_cst V0 : FVec Ideal S_ .f32) ix0 = (⊥ : EReal) := by
    unfold res_main_call1_cst; exact ofBits_bot
  have e3 : (res_main_call1_c V0 : IVec S_ 32) ix0 = 0#32 := by
    unfold res_main_call1_c; rfl
  have hf : (res_main_v70 V0 : IVec S32x20 32) = fun j : S32x20.Idx => (Host.argReduce (F := Ideal) (s := S32x20x8732) (t := S32x20)
      (u := S_) reducer_argmax_f32_i32 (res_main_v69 V0) (res_main_call1_v0 V0) (res_main_call1_cst V0) (res_main_call1_c V0)
      reducesTo_S32x20x8732_S32x20_d2 h_S_ j).2 := rfl
  exact (congrFun hf (ix2 b o)).trans (argReduce_priors (res_main_v69 V0) (res_main_call1_v0 V0) (res_main_call1_cst V0) (res_main_call1_c V0)
    _ (v69_eq V0 A2 A3 h2 h3 hQ) e1 e2 e3 b o)

/-- The reference's table of the priors' best boxes. -/
def arg1 (V0 : Valuation τ sig (Elt Ideal)) : IVec S32x8732 32 := fun j =>
  (Host.argReduce (F := Ideal) (s := S32x20x8732) (t := S32x8732) (u := S_) reducer_argmax_f32_i32 (res_main_v69 V0)
    (res_main_call2_v0 V0) (res_main_call2_cst V0) (res_main_call2_c V0) reducesTo_S32x20x8732_S32x8732_d1 h_S_ j).2

include h2 h3 hQ in
/-- Each prior's best box. -/
theorem arg1_eq (b : Fin 32) (p : Fin 8732) :
    arg1 V0 (ix2 b p)
      = BitVec.ofNat 32 (bestBox (boxes A3 b) (priors A2) p : ℕ) := by
  have e1 : ∀ b o p, (res_main_call2_v0 V0 : IVec S32x20x8732 32) (ix3 b o p) = BitVec.ofNat 32 (o : ℕ) := by
    unfold res_main_call2_v0; exact iota1
  have e2 : (res_main_call2_cst V0 : FVec Ideal S_ .f32) ix0 = (⊥ : EReal) := by
    unfold res_main_call2_cst; exact ofBits_bot
  have e3 : (res_main_call2_c V0 : IVec S_ 32) ix0 = 0#32 := by
    unfold res_main_call2_c; rfl
  have hf : arg1 V0 = fun j : S32x8732.Idx => (Host.argReduce (F := Ideal) (s := S32x20x8732) (t := S32x8732)
      (u := S_) reducer_argmax_f32_i32 (res_main_v69 V0) (res_main_call2_v0 V0) (res_main_call2_cst V0) (res_main_call2_c V0)
      reducesTo_S32x20x8732_S32x8732_d1 h_S_ j).2 := rfl
  exact (congrFun hf (ix2 b p)).trans (argReduce_boxes (res_main_v69 V0) (res_main_call2_v0 V0) (res_main_call2_cst V0) (res_main_call2_c V0)
    _ (v69_eq V0 A2 A3 h2 h3 hQ) e1 e2 e3 b p)

end Cert.RefValue

end
-- ==== Proof.RefValue.Scatter.lean ====
/- Writing one value per box at the box's best prior: an entry holds what the last box that claims it wrote, or
   what it held before. -/
module

public import proofs.«01_k».proof.Proof.RefValue.ArgMax
public import Idealize.ShloMosaic.Lib.Routing.OpsPair

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Match

/-- A left fold that keeps the last hit, without a hit. -/
theorem foldl_noHit {α : Type} {N : ℕ} (hit : Fin N → Prop) [DecidablePred hit] (v : Fin N → α) (l : List (Fin N)) (a : α)
    (h : ∀ n, ¬ hit n) : l.foldl (fun a n => if hit n then v n else a) a = a := by
  induction l with
  | nil => rfl
  | cons n l ih => rw [List.foldl_cons, if_neg (h n), ih]

/-- A left fold that keeps the last hit ends at the last hit. -/
theorem foldl_lastHit {α : Type} {N : ℕ} (hit : Fin N → Prop) [DecidablePred hit] (v : Fin N → α) (a : α) (m : Fin N)
    (hm : hit m) (hl : ∀ n, hit n → n ≤ m) : (List.finRange N).foldl (fun a n => if hit n then v n else a) a = v m := by
  induction N with
  | zero => exact m.elim0
  | succ N ih =>
    rw [List.finRange_succ_last, List.foldl_append, List.foldl_map, List.foldl_cons, List.foldl_nil]
    by_cases e : m = Fin.last N
    · rw [← e, if_pos hm]
    · rw [if_neg fun h => e (le_antisymm (Fin.le_last m) (hl _ h))]
      have hc : (m.castPred e).castSucc = m := Fin.castSucc_castPred m e
      have := ih (fun n => hit n.castSucc) (fun n => v n.castSucc) (m.castPred e) (by rw [hc]; exact hm)
        (fun n hn => by rw [← Fin.castSucc_le_castSucc_iff, hc]; exact hl _ hn)
      rw [hc] at this
      exact this

open Classical in
/-- The scatter of one value per image and box into the table of images and priors. -/
theorem scatter_eq {α : Type} (x0 : S32x8732.Idx → α) (idx : IVec S32x20x2 32) (upd : S32x20.Idx → α)
    (g : Fin 32 → Fin 20 → Fin 8732) (h0 : ∀ b o, idx (ix3 b o 0) = BitVec.ofNat 32 (b : ℕ))
    (h1 : ∀ b o, idx (ix3 b o 1) = BitVec.ofNat 32 (g b o : ℕ)) (b : Fin 32) (p : Fin 8732) :
    Host.scatter scatter_S32x8732_S32x20x2_S32x20_n_01_01_2 (fun _ b => b) x0 idx upd (ix2 b p)
      = if h : (Finset.univ.filter fun o => g b o = p).Nonempty then
          upd (ix2 b ((Finset.univ.filter fun o => g b o = p).max' h)) else x0 (ix2 b p) := by
  have lands : ∀ (a : Fin 32) (o : Fin 20), scatter_S32x8732_S32x20x2_S32x20_n_01_01_2.resultIdx? (ix2 a o) idx = some (ix2 b p)
      ↔ a = b ∧ g a o = p := fun a o => by
    have := Routing.scatter_lands2 (R := 32) (C := 8732) (A := 32) (B := 20) scatter_S32x8732_S32x20x2_S32x20_n_01_01_2 rfl rfl rfl idx a o b p
    refine this.trans ?_
    have e0 : idx (ValueIdx.ix3 a o 0) = BitVec.ofNat 32 (a : ℕ) := h0 a o
    have e1 : idx (ValueIdx.ix3 a o 1) = BitVec.ofNat 32 (g a o : ℕ) := h1 a o
    rw [e0, e1, toInt_ofNat _ (by omega), toInt_ofNat _ (by omega), Fin.ext_iff, Fin.ext_iff]
    norm_cast
  have pos : ∀ n : Fin S32x20.numel, ∃ (a : Fin 32) (o : Fin 20), S32x20.rowMajor.symm n = ix2 a o ∧ (n : ℕ) = a * 20 + o := fun n => by
    obtain ⟨i, rfl⟩ := S32x20.rowMajor.surjective n
    idx_vars i
    refine ⟨_, _, Equiv.symm_apply_apply _ _, ?_⟩
    rw [Shape.rowMajor_val_two]
    rfl
  rw [Routing.scatter_at]
  split_ifs with h
  · have hm := Finset.max'_mem _ h
    have hx : ∀ o ∈ Finset.univ.filter fun o => g b o = p, o ≤ (Finset.univ.filter fun o => g b o = p).max' h :=
      fun o ho => Finset.le_max' _ o ho
    generalize (Finset.univ.filter fun o => g b o = p).max' h = om at hm hx
    rw [foldl_lastHit (fun n => scatter_S32x8732_S32x20x2_S32x20_n_01_01_2.resultIdx? (S32x20.rowMajor.symm n) idx = some (ix2 b p))
      (fun n => upd (S32x20.rowMajor.symm n)) _ (S32x20.rowMajor (ix2 b om)), Equiv.symm_apply_apply]
    · rw [Equiv.symm_apply_apply, lands]
      exact ⟨rfl, (Finset.mem_filter.1 hm).2⟩
    · intro n hn
      obtain ⟨a, o, e, hv⟩ := pos n
      rw [e, lands] at hn
      obtain ⟨rfl, ho⟩ := hn
      have := Fin.le_def.1 (hx o (Finset.mem_filter.2 ⟨Finset.mem_univ _, ho⟩))
      rw [Fin.le_def, hv, Shape.rowMajor_val_two]
      show (a : ℕ) * 20 + o ≤ a * 20 + om
      omega
  · refine foldl_noHit (fun n => scatter_S32x8732_S32x20x2_S32x20_n_01_01_2.resultIdx? (S32x20.rowMajor.symm n) idx = some (ix2 b p))
      (fun n => upd (S32x20.rowMajor.symm n)) _ _ fun n hn => h ?_
    obtain ⟨a, o, e, -⟩ := pos n
    rw [e, lands] at hn
    obtain ⟨rfl, ho⟩ := hn
    exact ⟨o, Finset.mem_filter.2 ⟨Finset.mem_univ _, ho⟩⟩

end Cert.RefValue

end
-- ==== Proof.RefValue.Gather.lean ====
/- The reference's three gathers, each read at one element, when the index words are small naturals. -/
module

public import proofs.«01_k».proof.Proof.RefValue.Scatter

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Match

/-- A small natural's word, read signed and clamped at a bound it does not pass. -/
theorem clamp_ofNat (k m : ℕ) (h : k ≤ m) (hm : m < 2 ^ 31) : min (BitVec.ofNat 32 k).toInt.toNat m = k := by
  rw [toInt_ofNat k (by omega)]
  simp [h]

/-- The gather of the matched boxes' rows. -/
theorem gather_rows {α : Type} (x : S32x20x4.Idx → α) (idx : IVec S32x8732x2 32) (g : Fin 32 → Fin 8732 → Fin 20)
    (h0 : ∀ b p, idx (ix3 b p 0) = BitVec.ofNat 32 (b : ℕ)) (h1 : ∀ b p, idx (ix3 b p 1) = BitVec.ofNat 32 (g b p : ℕ))
    (b : Fin 32) (p : Fin 8732) (k : Fin 4) :
    Host.gather gather_S32x20x4_S32x8732x2_S32x8732x4_2_01_n_n_01_2_114 x idx (ix3 b p k) = x (ix3 b (g b p) k) := by
  have hsi : ∀ (q : ℕ) (hq : q < 2), gather_S32x20x4_S32x8732x2_S32x8732x4_2_01_n_n_01_2_114.siIdx (ix3 b p k) ⟨q, hq⟩ = ix3 b p ⟨q, hq⟩ := by
    intro q hq
    funext a
    match a with
    | ⟨0, _⟩ => rfl
    | ⟨1, _⟩ => rfl
    | ⟨2, _⟩ => rfl
  unfold Host.gather
  congr 1
  funext a
  refine Fin.ext ?_
  show gather_S32x20x4_S32x8732x2_S32x8732x4_2_01_n_n_01_2_114.start (ix3 b p k) idx a
    + gather_S32x20x4_S32x8732x2_S32x8732x4_2_01_n_n_01_2_114.batchCoord (ix3 b p k) a
    + gather_S32x20x4_S32x8732x2_S32x8732x4_2_01_n_n_01_2_114.offCoord (ix3 b p k) a = _
  rw [GatherDims.batchCoord_eq_zero _ _ _ List.not_mem_nil, Nat.add_zero]
  match a with
  | ⟨0, _⟩ =>
    rw [GatherDims.offCoord_eq_zero _ _ _ (by decide +revert)]
    unfold GatherDims.start
    rw [dif_pos (by decide +revert)]
    refine (congrArg (fun w : BitVec 32 => min w.toInt.toNat 31 + 0) ((congrArg idx (hsi 0 (by norm_num))).trans (h0 b p))).trans ?_
    exact clamp_ofNat _ 31 (by omega) (by norm_num)
  | ⟨1, _⟩ =>
    rw [GatherDims.offCoord_eq_zero _ _ _ (by decide +revert)]
    unfold GatherDims.start
    rw [dif_pos (by decide +revert)]
    refine (congrArg (fun w : BitVec 32 => min w.toInt.toNat 19 + 0) ((congrArg idx (hsi 1 (by norm_num))).trans (h1 b p))).trans ?_
    exact clamp_ofNat _ 19 (by omega) (by norm_num)
  | ⟨2, _⟩ =>
    unfold GatherDims.start
    rw [dif_neg (by decide +revert)]
    unfold GatherDims.offCoord
    rw [dif_pos (by decide +revert), Nat.zero_add]
    rfl

/-- The gather of the matched boxes' labels. -/
theorem gather_labels {α : Type} (x : S32x20.Idx → α) (idx : IVec S32x8732x2 32) (g : Fin 32 → Fin 8732 → Fin 20)
    (h0 : ∀ b p, idx (ix3 b p 0) = BitVec.ofNat 32 (b : ℕ)) (h1 : ∀ b p, idx (ix3 b p 1) = BitVec.ofNat 32 (g b p : ℕ))
    (b : Fin 32) (p : Fin 8732) :
    Host.gather gather_S32x20_S32x8732x2_S32x8732_n_01_n_n_01_2_11 x idx (ix2 b p) = x (ix2 b (g b p)) := by
  have hsi : ∀ (q : ℕ) (hq : q < 2), gather_S32x20_S32x8732x2_S32x8732_n_01_n_n_01_2_11.siIdx (ix2 b p) ⟨q, hq⟩ = ix3 b p ⟨q, hq⟩ := by
    intro q hq
    funext a
    match a with
    | ⟨0, _⟩ => rfl
    | ⟨1, _⟩ => rfl
    | ⟨2, _⟩ => rfl
  unfold Host.gather
  congr 1
  funext a
  refine Fin.ext ?_
  show gather_S32x20_S32x8732x2_S32x8732_n_01_n_n_01_2_11.start (ix2 b p) idx a
    + gather_S32x20_S32x8732x2_S32x8732_n_01_n_n_01_2_11.batchCoord (ix2 b p) a
    + gather_S32x20_S32x8732x2_S32x8732_n_01_n_n_01_2_11.offCoord (ix2 b p) a = _
  rw [GatherDims.batchCoord_eq_zero _ _ _ List.not_mem_nil, Nat.add_zero]
  match a with
  | ⟨0, _⟩ =>
    rw [GatherDims.offCoord_eq_zero _ _ _ (by decide +revert)]
    unfold GatherDims.start
    rw [dif_pos (by decide +revert)]
    refine (congrArg (fun w : BitVec 32 => min w.toInt.toNat 31 + 0) ((congrArg idx (hsi 0 (by norm_num))).trans (h0 b p))).trans ?_
    exact clamp_ofNat _ 31 (by omega) (by norm_num)
  | ⟨1, _⟩ =>
    rw [GatherDims.offCoord_eq_zero _ _ _ (by decide +revert)]
    unfold GatherDims.start
    rw [dif_pos (by decide +revert)]
    refine (congrArg (fun w : BitVec 32 => min w.toInt.toNat 19 + 0) ((congrArg idx (hsi 1 (by norm_num))).trans (h1 b p))).trans ?_
    exact clamp_ofNat _ 19 (by omega) (by norm_num)

/-- The gather of each prior's own score. -/
theorem gather_scores {α : Type} (x : S32x8732x81.Idx → α) (idx : IVec S32x8732x1x1 32) (g : Fin 32 → Fin 8732 → Fin 81)
    (h0 : ∀ b p, idx (ix4 b p 0 0) = BitVec.ofNat 32 (g b p : ℕ)) (b : Fin 32) (p : Fin 8732) :
    Host.gather gather_S32x8732x81_S32x8732x1x1_S32x8732x1_n_2_01_01_2_3_111 x idx (ix3 b p 0) = x (ix3 b p (g b p)) := by
  have hsi : ∀ (q : ℕ) (hq : q < 1), gather_S32x8732x81_S32x8732x1x1_S32x8732x1_n_2_01_01_2_3_111.siIdx (ix3 b p 0) ⟨q, hq⟩ = ix4 b p 0 0 := by
    intro q hq
    obtain rfl : q = 0 := by omega
    funext a
    match a with
    | ⟨0, _⟩ => rfl
    | ⟨1, _⟩ => rfl
    | ⟨2, _⟩ => rfl
    | ⟨3, _⟩ => rfl
  unfold Host.gather
  congr 1
  funext a
  refine Fin.ext ?_
  show gather_S32x8732x81_S32x8732x1x1_S32x8732x1_n_2_01_01_2_3_111.start (ix3 b p 0) idx a
    + gather_S32x8732x81_S32x8732x1x1_S32x8732x1_n_2_01_01_2_3_111.batchCoord (ix3 b p 0) a
    + gather_S32x8732x81_S32x8732x1x1_S32x8732x1_n_2_01_01_2_3_111.offCoord (ix3 b p 0) a = _
  rw [GatherDims.offCoord_eq_zero _ _ _ (fun h => by
    revert h
    match a with
    | ⟨0, _⟩ => decide +revert
    | ⟨1, _⟩ => decide +revert
    | ⟨2, _⟩ => decide +revert), Nat.add_zero]
  match a with
  | ⟨0, _⟩ =>
    rw [GatherDims.start_batching _ _ _ _ (by decide +revert), Nat.zero_add]
    unfold GatherDims.batchCoord
    rw [dif_pos (by decide +revert)]
    rfl
  | ⟨1, _⟩ =>
    rw [GatherDims.start_batching _ _ _ _ (by decide +revert), Nat.zero_add]
    unfold GatherDims.batchCoord
    rw [dif_pos (by decide +revert)]
    rfl
  | ⟨2, _⟩ =>
    rw [GatherDims.batchCoord_eq_zero _ _ _ (by decide +revert)]
    unfold GatherDims.start
    rw [dif_pos (by decide +revert)]
    refine (congrArg (fun w : BitVec 32 => min w.toInt.toNat 80 + 0) ((congrArg idx (hsi 0 (by norm_num))).trans (h0 b p))).trans ?_
    exact clamp_ofNat _ 80 (by omega) (by norm_num)

end Cert.RefValue

end
-- ==== Proof.RefValue.Matching.lean ====
/- The reference's matching: each prior's box, its overlap, its class and the box's row. -/
module

public import proofs.«01_k».proof.Proof.RefValue.Gather

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Match

/-- A small natural's word is not negative, so wrapping leaves it. -/
theorem wrap_ofNat (k : ℕ) (h : k < 2 ^ 31) (a : BitVec 32) :
    Scalar.select (IntOp.cmpi .slt (BitVec.ofNat 32 k) 0#32) a (BitVec.ofNat 32 k) = BitVec.ofNat 32 k :=
  Routing.wrap_of_lt _ _ (by rw [BitVec.toNat_ofNat]; exact lt_of_le_of_lt (Nat.mod_le _ _) h)

section scatters
variable (T : Fin 32 → Fin 20 → Fin 5 → EReal) (Q : Fin 8732 → Fin 4 → EReal) (idx : IVec S32x20x2 32)
  (h0 : ∀ b o, idx (ix3 b o 0) = BitVec.ofNat 32 (b : ℕ)) (h1 : ∀ b o, idx (ix3 b o 1) = BitVec.ofNat 32 (bestPrior (T b) Q o : ℕ))

include h0 h1

/-- The scatter of the boxes' numbers. -/
theorem scatter_box (x0 : IVec S32x8732 32) (upd : IVec S32x20 32) (hx : ∀ b p, x0 (ix2 b p) = BitVec.ofNat 32 (bestBox (T b) Q p : ℕ))
    (hu : ∀ b o, upd (ix2 b o) = BitVec.ofNat 32 (o : ℕ)) (b : Fin 32) (p : Fin 8732) :
    Host.scatter scatter_S32x8732_S32x20x2_S32x20_n_01_01_2 (fun _ b => b) x0 idx upd (ix2 b p) = BitVec.ofNat 32 (box (T b) Q p : ℕ) := by
  rw [scatter_eq x0 idx upd (fun b o => bestPrior (T b) Q o) h0 h1, hx]
  unfold box claimants
  split_ifs
  · rw [hu]
  · rfl

/-- The scatter of twos into the best overlaps. -/
theorem scatter_overlap (x0 : FVec Ideal S32x8732 .f32) (upd : FVec Ideal S32x20 .f32)
    (hx : ∀ b p, x0 (ix2 b p) = iou (T b) Q (bestBox (T b) Q p) p) (hu : ∀ b o, upd (ix2 b o) = two) (b : Fin 32) (p : Fin 8732) :
    Host.scatter scatter_S32x8732_S32x20x2_S32x20_n_01_01_2 (fun _ b => b) x0 idx upd (ix2 b p) = overlap (T b) Q p := by
  rw [scatter_eq x0 idx upd (fun b o => bestPrior (T b) Q o) h0 h1, hx]
  unfold overlap claimants
  split_ifs
  · rw [hu]
  · rfl

end scatters

variable (V0 : Valuation τ sig (Elt Ideal)) (A2 : FVec Ideal KernelIdeal.S8732x4 .f32) (A3 : FVec Ideal KernelIdeal.S32x20x5 .f32)
  (h2 : V0 (Proc.devRef .tc main_arg2) = A2) (h3 : V0 (Proc.devRef .tc main_arg3) = A3)
  (hQ : ∀ p k, ∃ r : ℝ, priors A2 p k = r)

/-- The image's own number. -/
theorem v5_eq (b : Fin 32) : res_main_v5 V0 (ix2 b 0) = BitVec.ofNat 32 (b : ℕ) := by
  unfold res_main_v5
  clean_types
  pointwise []

/-- The reference's table of places that the boxes are written to: each box's image and its best prior. -/
def places (V0 : Valuation τ sig (Elt Ideal)) : IVec S32x20x2 32 :=
  concatenate S32x20x2 2 [⟨S32x20x1, (broadcastInDim S32x20x1 ![0, 1] bcast_S32x20_S32x20x1_0_1 (broadcastInDim S32x20 ![0, 1] bcast_S32x1_S32x20_0_1 (select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0))))⟩, ⟨S32x20x1, (broadcastInDim S32x20x1 ![0, 1] bcast_S32x20_S32x20x1_0_1 (select (cmpi .slt (res_main_v70 V0) (broadcastInDim S32x20 ![] bcast_S_S32x20 (constantI S_ 32 0#32))) (addi (res_main_v70 V0) (broadcastInDim S32x20 ![] bcast_S_S32x20 (constantI S_ 32 8732#32))) (res_main_v70 V0)))⟩] concatenates_S32x20x1_S32x20x1_S32x20x2_d2

/-- The reference's table of places that the boxes are read from: each prior's image and its box. -/
def sources (V0 : Valuation τ sig (Elt Ideal)) : IVec S32x8732x2 32 :=
  concatenate S32x8732x2 2 [⟨S32x8732x1, (broadcastInDim S32x8732x1 ![0, 1] bcast_S32x8732_S32x8732x1_0_1 (broadcastInDim S32x8732 ![0, 1] bcast_S32x1_S32x8732_0_1 (select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0))))⟩, ⟨S32x8732x1, (broadcastInDim S32x8732x1 ![0, 1] bcast_S32x8732_S32x8732x1_0_1 (select (cmpi .slt (res_main_v105 V0) (broadcastInDim S32x8732 ![] bcast_S_S32x8732 (constantI S_ 32 0#32))) (addi (res_main_v105 V0) (broadcastInDim S32x8732 ![] bcast_S_S32x8732 (constantI S_ 32 20#32))) (res_main_v105 V0)))⟩] concatenates_S32x8732x1_S32x8732x1_S32x8732x2_d2

/-- A place's image. -/
theorem places0 (b : Fin 32) (o : Fin 20) : places V0 (ix3 b o 0) = BitVec.ofNat 32 (b : ℕ) := by
  unfold places
  clean_types
  pointwise [v5_eq]
  exact wrap_ofNat _ (by omega) _

include h2 h3 hQ in
/-- A place's prior. -/
theorem places1 (b : Fin 32) (o : Fin 20) :
    places V0 (ix3 b o 1) = BitVec.ofNat 32 (bestPrior (boxes A3 b) (priors A2) o : ℕ) := by
  have h70 := v70_eq V0 A2 A3 h2 h3 hQ
  unfold places
  clean_types
  pointwise []
  rw [h70]
  exact wrap_ofNat _ (by omega) _

include h2 h3 hQ in
/-- Each prior's box. -/
theorem v105_eq (b : Fin 32) (p : Fin 8732) :
    res_main_v105 V0 (ix2 b p) = BitVec.ofNat 32 (box (boxes A3 b) (priors A2) p : ℕ) := by
  have hf : (res_main_v105 V0 : IVec S32x8732 32) = Host.scatter scatter_S32x8732_S32x20x2_S32x20_n_01_01_2 (fun _ b => b)
      (arg1 V0) (places V0) (broadcastInDim S32x20 ![1] bcast_S20_S32x20_1 (iotaInDim S20 32 0)) := rfl
  refine (congrFun hf (ix2 b p)).trans ?_
  refine scatter_box (fun b => boxes A3 b) (priors A2) (places V0) (places0 V0) (places1 V0 A2 A3 h2 h3 hQ) (arg1 V0) _
    (arg1_eq V0 A2 A3 h2 h3 hQ) (fun b o => ?_) b p
  pointwise []

/-- A source's image. -/
theorem sources0 (b : Fin 32) (p : Fin 8732) : sources V0 (ix3 b p 0) = BitVec.ofNat 32 (b : ℕ) := by
  unfold sources
  clean_types
  pointwise [v5_eq]
  exact wrap_ofNat _ (by omega) _

include h2 h3 hQ in
/-- A source's box. -/
theorem sources1 (b : Fin 32) (p : Fin 8732) :
    sources V0 (ix3 b p 1) = BitVec.ofNat 32 (box (boxes A3 b) (priors A2) p : ℕ) := by
  have h105 := v105_eq V0 A2 A3 h2 h3 hQ
  unfold sources
  clean_types
  pointwise []
  rw [h105]
  exact wrap_ofNat _ (by omega) _

include h2 h3 hQ in
/-- The matched box's row. -/
theorem v120_eq (b : Fin 32) (p : Fin 8732) (k : Fin 4) :
    res_main_v120 V0 (ix3 b p k) = boxes A3 b (box (boxes A3 b) (priors A2) p) ⟨k, by omega⟩ := by
  have hf : (res_main_v120 V0 : FVec Ideal S32x8732x4 .f32) = Host.gather gather_S32x20x4_S32x8732x2_S32x8732x4_2_01_n_n_01_2_114
      (res_main_v1 V0) (sources V0) := rfl
  refine (congrFun hf (ix3 b p k)).trans ?_
  refine (gather_rows (res_main_v1 V0 : FVec Ideal S32x20x4 .f32) (sources V0) (fun b p => box (boxes A3 b) (priors A2) p)
    (sources0 V0) (sources1 V0 A2 A3 h2 h3 hQ) b p k).trans ?_
  subst h3
  unfold res_main_v1
  clean_types
  pointwise []
  rfl

end Cert.RefValue

end
-- ==== Proof.RefValue.Classes.lean ====
/- The reference's classes: each prior's overlap against the threshold, and the label of its box. -/
module

public import proofs.«01_k».proof.Proof.RefValue.Matching

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Match

/-- The word of an integer label. -/
theorem fptosi_nat (n : ℕ) (h : n < 80) : FloatOps.fptosi (F := Ideal) (φ := .f32) 32 ((n : ℝ) : EReal) = BitVec.ofNat 32 n := by
  show BitVec.ofInt 32 (max _ (min _ (if 0 ≤ (n : ℝ) then ⌊(n : ℝ)⌋ else ⌈(n : ℝ)⌉))) = _
  rw [if_pos (Nat.cast_nonneg n), Int.floor_natCast, min_eq_right (by norm_num; omega), max_eq_right (by norm_num)]
  exact BitVec.ofInt_natCast ..

/-- The class that an overlap and a label give. -/
theorem class_eq (S G : FVec Ideal S32x8732 .f32) (j : S32x8732.Idx) (v : EReal) (n : Fin 80) (hS : S j = v)
    (hG : G j = (((n : ℕ) : ℝ) : EReal)) (d : Decidable (v < half)) :
    select (cmpf .olt S (broadcastInDim S32x8732 ![] bcast_S_S32x8732 (constant S_ .f32 0x3F000000#32)))
      (broadcastInDim S32x8732 ![] bcast_S_S32x8732 (id (constantI S_ 32 0#32)))
      (addi (fptosi 32 G) (broadcastInDim S32x8732 ![] bcast_S_S32x8732 (constantI S_ 32 1#32))) j
      = BitVec.ofNat 32 (@ite (Fin 81) (v < half) d 0 n.succ : Fin 81) := by
  have e : Scalar.select (Ideal.cmp .olt (S j) half) (0#32) (FloatOps.fptosi (F := Ideal) (φ := .f32) 32 (G j) + 1#32)
      = BitVec.ofNat 32 (@ite (Fin 81) (v < half) d 0 n.succ : Fin 81) := by
    rw [hS, hG, fptosi_nat _ n.isLt]
    by_cases h : v < half
    · simp [h, Ideal.cmp, Scalar.select]
    · simp [h, Ideal.cmp, Scalar.select]
      exact (BitVec.ofNat_add ..).symm
  exact e

variable (V0 : Valuation τ sig (Elt Ideal)) (A2 : FVec Ideal KernelIdeal.S8732x4 .f32) (A3 : FVec Ideal KernelIdeal.S32x20x5 .f32)
  (h2 : V0 (Proc.devRef .tc main_arg2) = A2) (h3 : V0 (Proc.devRef .tc main_arg3) = A3)
  (hQ : ∀ p k, ∃ r : ℝ, priors A2 p k = r)

/-- The reference's table of overlaps that the priors are matched at. -/
def overlaps (V0 : Valuation τ sig (Elt Ideal)) : FVec Ideal S32x8732 .f32 :=
  Host.scatter scatter_S32x8732_S32x20x2_S32x20_n_01_01_2 (fun _ b => b)
    (Host.reduce (s := S32x20x8732) (t := S32x8732) FloatOps.maximumf (res_main_v69 V0) (constant S_ .f32 0xFF800000#32) reducesTo_S32x20x8732_S32x8732_d1 h_S_) (places V0)
    (broadcastInDim S32x20 ![] bcast_S_S32x20 (constant S_ .f32 0x40000000#32))

/-- The reference's table of the matched labels. -/
def labels (V0 : Valuation τ sig (Elt Ideal)) : FVec Ideal S32x8732 .f32 :=
  Host.gather gather_S32x20_S32x8732x2_S32x8732_n_01_n_n_01_2_11 (shapeCast S32x20 (extractStridedSlice S32x20x1 ![0, 0, 4] (V0 (Proc.devRef .tc main_arg3)) slices_S32x20x5_S32x20x1_0_0_4) shapeCasts_S32x20x1_S32x20) (sources V0)

include h2 h3 hQ in
/-- Each prior's overlap. -/
theorem overlaps_eq (b : Fin 32) (p : Fin 8732) : overlaps V0 (ix2 b p) = overlap (boxes A3 b) (priors A2) p := by
  have h69 := v69_eq V0 A2 A3 h2 h3 hQ
  unfold overlaps
  refine scatter_overlap (fun b => boxes A3 b) (priors A2) (places V0) (places0 V0) (places1 V0 A2 A3 h2 h3 hQ) _ _
    (fun b p => ?_) (fun b o => ?_) b p
  · clean_types
    pointwise []
    simp only [h69]
    exact fold_max_eq _
  · pointwise []

include h2 h3 hQ in
/-- Each prior's label. -/
theorem labels_eq (b : Fin 32) (p : Fin 8732) : labels V0 (ix2 b p) = boxes A3 b (box (boxes A3 b) (priors A2) p) 4 := by
  unfold labels
  refine (gather_labels _ (sources V0) (fun b p => box (boxes A3 b) (priors A2) p) (sources0 V0) (sources1 V0 A2 A3 h2 h3 hQ) b p).trans ?_
  subst h3
  clean_types
  pointwise []
  rfl

include h2 h3 hQ in
/-- Each prior's class. -/
theorem v141_eq (L : Fin 32 → Fin 20 → Fin 80) (hL : ∀ b o, boxes A3 b o 4 = (((L b o : ℕ) : ℝ) : EReal)) (b : Fin 32) (p : Fin 8732) :
    res_main_v141 V0 (ix2 b p) = BitVec.ofNat 32 (cls (boxes A3 b) (priors A2) (L b) p : ℕ) := by
  have ho := overlaps_eq V0 A2 A3 h2 h3 hQ b p
  have hl := labels_eq V0 A2 A3 h2 h3 hQ b p
  have hf : (res_main_v141 V0 : IVec S32x8732 32) = select (cmpf .olt (overlaps V0) (broadcastInDim S32x8732 ![] bcast_S_S32x8732 (constant S_ .f32 0x3F000000#32)))
      (broadcastInDim S32x8732 ![] bcast_S_S32x8732 (id (constantI S_ 32 0#32)))
      (addi (fptosi 32 (labels V0)) (broadcastInDim S32x8732 ![] bcast_S_S32x8732 (constantI S_ 32 1#32))) := rfl
  refine (congrFun hf (ix2 b p)).trans ?_
  exact class_eq (overlaps V0) (labels V0) (ix2 b p) _ _ ho (hl.trans (hL _ _)) _

include h2 h3 hQ in
/-- Whether each prior has a class. -/
theorem v171_eq (L : Fin 32 → Fin 20 → Fin 80) (hL : ∀ b o, boxes A3 b o 4 = (((L b o : ℕ) : ℝ) : EReal)) (b : Fin 32) (p : Fin 8732) :
    res_main_v171 V0 (ix2 b p) = if cls (boxes A3 b) (priors A2) (L b) p = 0 then 0#1 else 1#1 := by
  have h := v141_eq V0 A2 A3 h2 h3 hQ L hL b p
  unfold res_main_v171
  clean_types
  pointwise []
  rw [h, cmpi_cls]

end Cert.RefValue

end
-- ==== Proof.RefValue.Losses.lean ====
/- The reference's two losses at each prior. -/
module

public import proofs.«01_k».proof.Proof.RefValue.Classes

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Match

variable (V0 : Valuation τ sig (Elt Ideal)) (A1 : FVec Ideal KernelIdeal.S32x8732x81 .f32)
  (A2 : FVec Ideal KernelIdeal.S8732x4 .f32) (A3 : FVec Ideal KernelIdeal.S32x20x5 .f32)
  (h1 : V0 (Proc.devRef .tc main_arg1) = A1) (h2 : V0 (Proc.devRef .tc main_arg2) = A2) (h3 : V0 (Proc.devRef .tc main_arg3) = A3)
  (hQ : ∀ p k, ∃ r : ℝ, priors A2 p k = r)

include h2 h3 hQ in
/-- How far zero is from each regression target. -/
theorem v172_eq (b : Fin 32) (p : Fin 8732) (k : Fin 4) :
    res_main_v172 V0 (ix3 b p k) = 0 - enc (boxes A3 b) (priors A2) p k := by
  have h120 := v120_eq V0 A2 A3 h2 h3 hQ b p
  subst h2
  clear h3 hQ
  obtain rfl | rfl | rfl | rfl : k = 0 ∨ k = 1 ∨ k = 2 ∨ k = 3 := by revert k; decide
  all_goals
    unfold res_main_v172
    clean_types
    pointwise []
    simp only [h120, div_two]
    rfl

/-- The index word of a class, wrapped: the class itself. -/
theorem call5_v5_eq (c : Fin 32 → Fin 8732 → Fin 81) (hc : ∀ b p, res_main_v141 V0 (ix2 b p) = BitVec.ofNat 32 (c b p : ℕ))
    (b : Fin 32) (p : Fin 8732) : res_main_call5_v5 V0 (ix4 b p 0 0) = BitVec.ofNat 32 (c b p : ℕ) := by
  unfold res_main_call5_v5 res_main_v195
  clean_types
  pointwise []
  rw [hc]
  exact wrap_ofNat _ (by omega) _

/-- Each prior's own score, as a column. -/
theorem taken_eq (c : Fin 32 → Fin 8732 → Fin 81) (idx : IVec S32x8732x1x1 32) (A : FVec Ideal S32x8732x81 .f32)
    (hc : ∀ b p, idx (ix4 b p 0 0) = BitVec.ofNat 32 (c b p : ℕ)) (b : Fin 32) (p : Fin 8732) :
    select (Host.reduce IntOp.andi (andi (cmpi .sge idx (broadcastInDim S32x8732x1x1 ![] bcast_S_S32x8732x1x1 (constantI S_ 32 0#32))) (cmpi .sle idx (broadcastInDim S32x8732x1x1 ![0, 1, 2, 3] bcast_S1x1x1x1_S32x8732x1x1_0_1_2_3 (broadcastInDim S1x1x1x1 ![3] bcast_S1_S1x1x1x1_3 (constantI S1 32 80#32))))) (constantI S_ 1 1#1) reducesTo_S32x8732x1x1_S32x8732x1_d3 h_S_) (Host.gather gather_S32x8732x81_S32x8732x1x1_S32x8732x1_n_2_01_01_2_3_111 A idx) (broadcastInDim S32x8732x1 ![] bcast_S_S32x8732x1 (constant S_ .f32 0x7FC00000#32)) (ix3 b p 0)
      = A (ix3 b p (c b p)) := by
  have hg := gather_scores A idx c hc b p
  generalize Host.gather gather_S32x8732x81_S32x8732x1x1_S32x8732x1_n_2_01_01_2_3_111 A idx = G at hg
  pointwise []
  rw [hg]
  have hw : ∀ k : Fin 81, IntOp.andi (IntOp.andi (IntOp.cmpi .sge (BitVec.ofNat 32 (k : ℕ)) 0#32)
      (IntOp.cmpi .sle (BitVec.ofNat 32 (k : ℕ)) 80#32)) (1#1) = 1#1 := by decide
  have hf : Finset.fold IntOp.andi (1#1) (fun x : Fin 1 => IntOp.andi (IntOp.cmpi CmpIPredicate.sge (idx (ix4 b p 0 x)) 0#32)
      (IntOp.cmpi CmpIPredicate.sle (idx (ix4 b p 0 x)) 80#32)) Finset.univ = 1#1 := by
    rw [Finset.univ_unique, Finset.fold_singleton, show (default : Fin 1) = 0 from rfl, hc]
    exact hw _
  rw [hf]
  rfl

/-- A sum of reals is a real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logarithm of a sum of exponentials of finite values. -/
theorem log_sum_exp (r : Fin 81 → ℝ) : Ideal.log (∑ c, Ideal.exp (r c : EReal)) = (Real.log (∑ c, Real.exp (r c)) : ℝ) := by
  have hp : 0 < ∑ c, Real.exp (r c) := Finset.sum_pos (fun _ _ => Real.exp_pos _) Finset.univ_nonempty
  simp only [Ideal.exp_coe]
  rw [coe_sum, Ideal.log_coe, if_neg (not_le.2 hp)]

/-- Taking the greatest value out before the exponentials and adding it back after the logarithm changes nothing. -/
theorem lse_shift (x : Fin 81 → EReal) (m : EReal) (hx : ∀ c, ∃ r : ℝ, x c = r) (hm : ∃ r : ℝ, m = r) :
    Ideal.log (∑ c, Ideal.exp (x c - m)) + m = Ideal.log (∑ c, Ideal.exp (x c)) := by
  choose r hr using hx
  obtain ⟨q, rfl⟩ := hm
  simp only [hr, ← EReal.coe_sub]
  rw [log_sum_exp, log_sum_exp, ← EReal.coe_add]
  simp only [Real.exp_sub]
  rw [← Finset.sum_div, Real.log_div (Finset.sum_pos (fun _ _ => Real.exp_pos _) Finset.univ_nonempty).ne' (Real.exp_pos _).ne',
    Real.log_exp, sub_add_cancel]

/-- Cross-entropies of finite scores are real and not negative. -/
theorem ce_real (T : Fin 20 → Fin 5 → EReal) (Q : Fin 8732 → Fin 4 → EReal) (L : Fin 20 → Fin 80) (X : Fin 8732 → Fin 81 → EReal)
    (hX : ∀ p c, ∃ r : ℝ, X p c = r) (p : Fin 8732) : ∃ r : ℝ, 0 ≤ r ∧ ce T Q L X p = r := by
  choose r hr using hX
  refine ⟨Real.log (∑ c, Real.exp (r p c)) - r p (cls T Q L p), ?_, ?_⟩
  · rw [sub_nonneg, Real.le_log_iff_exp_le (Finset.sum_pos (fun _ _ => Real.exp_pos _) Finset.univ_nonempty)]
    exact Finset.single_le_sum (f := fun c => Real.exp (r p c)) (fun _ _ => (Real.exp_pos _).le) (Finset.mem_univ _)
  · unfold ce
    simp only [hr]
    rw [log_sum_exp, EReal.coe_sub]

include h1 h2 h3 hQ in
/-- The cross-entropy of each prior. -/
theorem v198_eq (L : Fin 32 → Fin 20 → Fin 80) (hL : ∀ b o, boxes A3 b o 4 = (((L b o : ℕ) : ℝ) : EReal))
    (hX : ∀ b p c, ∃ r : ℝ, scores A1 b p c = r) (b : Fin 32) (p : Fin 8732) :
    res_main_v198 V0 (ix2 b p) = ce (boxes A3 b) (priors A2) (L b) (scores A1 b) p := by
  have ht := taken_eq (fun b p => cls (boxes A3 b) (priors A2) (L b) p) (res_main_call5_v5 V0) (V0 (Proc.devRef .tc main_arg1))
    (call5_v5_eq V0 _ (v141_eq V0 A2 A3 h2 h3 hQ L hL)) b p
  have hs := lse_shift (scores A1 b p) (scores A1 b p (firstMax (scores A1 b p))) (hX b p) (hX b p _)
  have hm : res_main_v187 V0 (ix2 b p) = scores A1 b p (firstMax (scores A1 b p)) := by
    subst h1
    unfold res_main_v187
    clean_types
    pointwise []
    exact fold_max_eq (scores _ b p)
  subst h1
  unfold ce
  rw [← hs]
  clear hs hX hQ hL
  unfold res_main_v198
  clean_types
  generalize select (Host.reduce IntOp.andi _ _ _ _) _ _ = S at ht ⊢
  pointwise []
  rw [hm, ht]
  rfl

end Cert.RefValue

end
-- ==== Proof.RefRun.Values.lean ====
/- The run of the reference program read back, window by window: each buffer holds its term of the arguments. -/
module

public import proofs.«01_k».proof.Proof.RefRun.Terms

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_v1, main_v2, main_v3, main_v4, main_v5, main_v6, main_v7, main_cst_0, main_v8, main_v9, main_v10, main_v11, main_v12, main_cst_1, main_v13, main_v14, main_v15, main_v16, main_v17, main_v18, main_v19, main_v20, main_v21, main_v22, main_v23, main_v24, main_v25, main_v26]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v0 (V0 : Valuation τ sig (Elt F)) : val0_1 V0 (no_index (Proc.devRef .tc main_v0)) = broadcastInDim S32x8732x4 ![] bcast_S_S32x8732x4 (constant S_ .f32 0x00000000#32) := by
  unfold val0_1
  simp only [ops_part0_0]
  after_results_simp
  all_goals rfl
set_option maxRecDepth 8192 in
set_option maxHeartbeats 2000000 in
theorem val0_1_main_v1 (V0 : Valuation τ sig (Elt F)) : val0_1 V0 (no_index (Proc.devRef .tc main_v1)) = res_main_v1 V0 := by
  unfold val0_1
  simp only [ops_part0_0]
  after_results_simp
  simp only [val0_main_arg3] <;> rfl
set_option maxRecDepth 8192 in
set_option maxHeartbeats 2000000 in
theorem val0_1_main_v3 (V0 : Valuation τ sig (Elt F)) : val0_1 V0 (no_index (Proc.devRef .tc main_v3)) = shapeCast _ (extractStridedSlice S32x20x1 ![0, 0, 4] (V0 (Proc.devRef .tc main_arg3)) slices_S32x20x5_S32x20x1_0_0_4) shapeCasts_S32x20x1_S32x20 := by
  unfold val0_1
  simp only [ops_part0_0]
  after_results_simp
  simp only [val0_main_arg3] <;> rfl
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0]
  after_results_simp
  all_goals rfl
set_option maxRecDepth 8192 in
set_option maxHeartbeats 2000000 in
theorem val0_1_main_v16 (V0 : Valuation τ sig (Elt F)) : val0_1 V0 (no_index (Proc.devRef .tc main_v16)) = res_main_v16 V0 := by
  unfold val0_1
  simp only [ops_part0_0]
  after_results_simp
  simp only [val0_main_arg2] <;> rfl
set_option maxRecDepth 8192 in
set_option maxHeartbeats 2000000 in
theorem val0_1_main_v24 (V0 : Valuation τ sig (Elt F)) : val0_1 V0 (no_index (Proc.devRef .tc main_v24)) = minimumf (broadcastInDim S32x20x8732x2 ![0, 1, 2, 3] bcast_S32x20x1x2_S32x20x8732x2_0_1_2_3 (broadcastInDim S32x20x1x2 ![0, 1, 3] bcast_S32x20x2_S32x20x1x2_0_1_3 (extractStridedSlice S32x20x2 ![0, 0, 2] (res_main_v1 V0) slices_S32x20x4_S32x20x2_0_0_2))) (broadcastInDim S32x20x8732x2 ![0, 1, 2, 3] bcast_S1x1x8732x2_S32x20x8732x2_0_1_2_3 (broadcastInDim S1x1x8732x2 ![1, 2, 3] bcast_S1x8732x2_S1x1x8732x2_1_2_3 (broadcastInDim S1x8732x2 ![1, 2] bcast_S8732x2_S1x8732x2_1_2 (extractStridedSlice S8732x2 ![0, 2] (res_main_v16 V0) slices_S8732x4_S8732x2_0_2)))) := by
  unfold val0_1
  simp only [ops_part0_0]
  after_results_simp
  simp only [val0_main_arg2, val0_main_arg3] <;> rfl
set_option maxRecDepth 8192 in
set_option maxHeartbeats 2000000 in
theorem val0_1_main_v26 (V0 : Valuation τ sig (Elt F)) : val0_1 V0 (no_index (Proc.devRef .tc main_v26)) = broadcastInDim S32x20x1x2 ![0, 1, 3] bcast_S32x20x2_S32x20x1x2_0_1_3 (extractStridedSlice S32x20x2 ![0, 0, 0] (res_main_v1 V0) slices_S32x20x4_S32x20x2_0_0_0) := by
  unfold val0_1
  simp only [ops_part0_0]
  after_results_simp
  simp only [val0_main_arg3] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v27, main_v28, main_v29, main_v30, main_v31, main_v32, main_v33, main_cst_2, main_call0_v0, main_call0_v1, main_v34, main_v35, main_v36, main_v37, main_v38, main_v39, main_v40, main_v41, main_v42, main_v43, main_v44, main_v45, main_v46, main_v47, main_v48, main_v49, main_v50, main_v51, main_v52, main_v53]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_v0 (V0 : Valuation τ sig (Elt F)) : val0_2 V0 (no_index (Proc.devRef .tc main_v0)) = broadcastInDim S32x8732x4 ![] bcast_S_S32x8732x4 (constant S_ .f32 0x00000000#32) :=
  (val0_2_keep V0 main_v0 (by decide)).trans (val0_1_main_v0 V0)
theorem val0_2_main_v1 (V0 : Valuation τ sig (Elt F)) : val0_2 V0 (no_index (Proc.devRef .tc main_v1)) = res_main_v1 V0 :=
  (val0_2_keep V0 main_v1 (by decide)).trans (val0_1_main_v1 V0)
theorem val0_2_main_v3 (V0 : Valuation τ sig (Elt F)) : val0_2 V0 (no_index (Proc.devRef .tc main_v3)) = shapeCast _ (extractStridedSlice S32x20x1 ![0, 0, 4] (V0 (Proc.devRef .tc main_arg3)) slices_S32x20x5_S32x20x1_0_0_4) shapeCasts_S32x20x1_S32x20 :=
  (val0_2_keep V0 main_v3 (by decide)).trans (val0_1_main_v3 V0)
theorem val0_2_main_v5 (V0 : Valuation τ sig (Elt F)) : val0_2 V0 (no_index (Proc.devRef .tc main_v5)) = res_main_v5 V0 :=
  (val0_2_keep V0 main_v5 (by decide)).trans (val0_1_main_v5 V0)
theorem val0_2_main_v16 (V0 : Valuation τ sig (Elt F)) : val0_2 V0 (no_index (Proc.devRef .tc main_v16)) = res_main_v16 V0 :=
  (val0_2_keep V0 main_v16 (by decide)).trans (val0_1_main_v16 V0)
set_option maxRecDepth 8192 in
set_option maxHeartbeats 2000000 in
theorem val0_2_main_v39 (V0 : Valuation τ sig (Elt F)) : val0_2 V0 (no_index (Proc.devRef .tc main_v39)) = res_main_v39 V0 := by
  unfold val0_2
  simp only [ops_part0_1, TRef.binary, TRef.unary, TRef.toBuf, TRef.ofBuf, cast_eq]
  after_results_simp
  simp only [val0_1_main_v16, val0_1_main_v26, val0_1_main_v24] <;> rfl
set_option maxRecDepth 8192 in
set_option maxHeartbeats 2000000 in
theorem val0_2_main_v51 (V0 : Valuation τ sig (Elt F)) : val0_2 V0 (no_index (Proc.devRef .tc main_v51)) = broadcastInDim S32x20x1 ![0, 1] bcast_S32x20_S32x20x1_0_1 (mulf (subf (shapeCast _ (extractStridedSlice S32x20x1 ![0, 0, 2] (res_main_v1 V0) slices_S32x20x4_S32x20x1_0_0_2) shapeCasts_S32x20x1_S32x20) (shapeCast _ (extractStridedSlice S32x20x1 ![0, 0, 0] (res_main_v1 V0) slices_S32x20x4_S32x20x1_0_0_0) shapeCasts_S32x20x1_S32x20)) (subf (shapeCast _ (extractStridedSlice S32x20x1 ![0, 0, 3] (res_main_v1 V0) slices_S32x20x4_S32x20x1_0_0_3) shapeCasts_S32x20x1_S32x20) (shapeCast _ (extractStridedSlice S32x20x1 ![0, 0, 1] (res_main_v1 V0) slices_S32x20x4_S32x20x1_0_0_1) shapeCasts_S32x20x1_S32x20))) := by
  unfold val0_2
  simp only [ops_part0_1, TRef.binary, TRef.unary, TRef.toBuf, TRef.ofBuf, cast_eq]
  after_results_simp
  simp only [val0_1_main_v1] <;> rfl
set_option maxRecDepth 8192 in
set_option maxHeartbeats 2000000 in
theorem val0_2_main_v53 (V0 : Valuation τ sig (Elt F)) : val0_2 V0 (no_index (Proc.devRef .tc main_v53)) = shapeCast _ (extractStridedSlice S8732x1 ![0, 2] (res_main_v16 V0) slices_S8732x4_S8732x1_0_2) shapeCasts_S8732x1_S8732 := by
  unfold val0_2
  simp only [ops_part0_1, TRef.binary, TRef.unary, TRef.toBuf, TRef.ofBuf, cast_eq]
  after_results_simp
  simp only [val0_1_main_v16] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v54, main_v55]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_v0 (V0 : Valuation τ sig (Elt F)) : val1 V0 (no_index (Proc.devRef .tc main_v0)) = broadcastInDim S32x8732x4 ![] bcast_S_S32x8732x4 (constant S_ .f32 0x00000000#32) :=
  (val1_keep V0 main_v0 (by decide)).trans (val0_2_main_v0 V0)
theorem val1_main_v1 (V0 : Valuation τ sig (Elt F)) : val1 V0 (no_index (Proc.devRef .tc main_v1)) = res_main_v1 V0 :=
  (val1_keep V0 main_v1 (by decide)).trans (val0_2_main_v1 V0)
theorem val1_main_v3 (V0 : Valuation τ sig (Elt F)) : val1 V0 (no_index (Proc.devRef .tc main_v3)) = shapeCast _ (extractStridedSlice S32x20x1 ![0, 0, 4] (V0 (Proc.devRef .tc main_arg3)) slices_S32x20x5_S32x20x1_0_0_4) shapeCasts_S32x20x1_S32x20 :=
  (val1_keep V0 main_v3 (by decide)).trans (val0_2_main_v3 V0)
theorem val1_main_v5 (V0 : Valuation τ sig (Elt F)) : val1 V0 (no_index (Proc.devRef .tc main_v5)) = res_main_v5 V0 :=
  (val1_keep V0 main_v5 (by decide)).trans (val0_2_main_v5 V0)
theorem val1_main_v16 (V0 : Valuation τ sig (Elt F)) : val1 V0 (no_index (Proc.devRef .tc main_v16)) = res_main_v16 V0 :=
  (val1_keep V0 main_v16 (by decide)).trans (val0_2_main_v16 V0)
theorem val1_main_v39 (V0 : Valuation τ sig (Elt F)) : val1 V0 (no_index (Proc.devRef .tc main_v39)) = res_main_v39 V0 :=
  (val1_keep V0 main_v39 (by decide)).trans (val0_2_main_v39 V0)
theorem val1_main_v51 (V0 : Valuation τ sig (Elt F)) : val1 V0 (no_index (Proc.devRef .tc main_v51)) = broadcastInDim S32x20x1 ![0, 1] bcast_S32x20_S32x20x1_0_1 (mulf (subf (shapeCast _ (extractStridedSlice S32x20x1 ![0, 0, 2] (res_main_v1 V0) slices_S32x20x4_S32x20x1_0_0_2) shapeCasts_S32x20x1_S32x20) (shapeCast _ (extractStridedSlice S32x20x1 ![0, 0, 0] (res_main_v1 V0) slices_S32x20x4_S32x20x1_0_0_0) shapeCasts_S32x20x1_S32x20)) (subf (shapeCast _ (extractStridedSlice S32x20x1 ![0, 0, 3] (res_main_v1 V0) slices_S32x20x4_S32x20x1_0_0_3) shapeCasts_S32x20x1_S32x20) (shapeCast _ (extractStridedSlice S32x20x1 ![0, 0, 1] (res_main_v1 V0) slices_S32x20x4_S32x20x1_0_0_1) shapeCasts_S32x20x1_S32x20))) :=
  (val1_keep V0 main_v51 (by decide)).trans (val0_2_main_v51 V0)
theorem val1_main_v53 (V0 : Valuation τ sig (Elt F)) : val1 V0 (no_index (Proc.devRef .tc main_v53)) = shapeCast _ (extractStridedSlice S8732x1 ![0, 2] (res_main_v16 V0) slices_S8732x4_S8732x1_0_2) shapeCasts_S8732x1_S8732 :=
  (val1_keep V0 main_v53 (by decide)).trans (val0_2_main_v53 V0)
set_option maxRecDepth 8192 in
theorem val1_main_v55 (V0 : Valuation τ sig (Elt F)) : val1 V0 (no_index (Proc.devRef .tc main_v55)) = shapeCast _ (extractStridedSlice S8732x1 ![0, 0] (res_main_v16 V0) slices_S8732x4_S8732x1_0_0) shapeCasts_S8732x1_S8732 := by
  unfold val1
  simp only [ops_part0_2]
  after_results_simp
  simp only [val0_2_main_v16] <;> rfl

/-- The device's buffer contents after @main's first 92 operations. -/
def val1_1 (V0 : Valuation τ sig (Elt F)) : Valuation τ sig (Elt F) := after ops_part1_0 (val1 V0)
/-- The buffers that window `ops_part1_0`'s operations write. -/
abbrev ops_part1_0_W : List (Ref sig .tc) := [main_v56, main_v57, main_v58, main_v59, main_v60, main_v61, main_v62, main_v63, main_v64, main_v65, main_v66, main_v67, main_v68, main_v69, main_call1_v0, main_call1_cst, main_call1_c, main_call1_v1_0, main_v70, main_cst_3, main_v71, main_call2_v0, main_call2_cst, main_call2_c, main_call2_v1_0, main_v72, main_c, main_v73, main_v74, main_c_4]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_v0 (V0 : Valuation τ sig (Elt F)) : val1_1 V0 (no_index (Proc.devRef .tc main_v0)) = broadcastInDim S32x8732x4 ![] bcast_S_S32x8732x4 (constant S_ .f32 0x00000000#32) :=
  (val1_1_keep V0 main_v0 (by decide)).trans (val1_main_v0 V0)
theorem val1_1_main_v1 (V0 : Valuation τ sig (Elt F)) : val1_1 V0 (no_index (Proc.devRef .tc main_v1)) = res_main_v1 V0 :=
  (val1_1_keep V0 main_v1 (by decide)).trans (val1_main_v1 V0)
theorem val1_1_main_v3 (V0 : Valuation τ sig (Elt F)) : val1_1 V0 (no_index (Proc.devRef .tc main_v3)) = shapeCast _ (extractStridedSlice S32x20x1 ![0, 0, 4] (V0 (Proc.devRef .tc main_arg3)) slices_S32x20x5_S32x20x1_0_0_4) shapeCasts_S32x20x1_S32x20 :=
  (val1_1_keep V0 main_v3 (by decide)).trans (val1_main_v3 V0)
theorem val1_1_main_v5 (V0 : Valuation τ sig (Elt F)) : val1_1 V0 (no_index (Proc.devRef .tc main_v5)) = res_main_v5 V0 :=
  (val1_1_keep V0 main_v5 (by decide)).trans (val1_main_v5 V0)
set_option maxRecDepth 8192 in
set_option maxHeartbeats 2000000 in
theorem val1_1_main_v70 (V0 : Valuation τ sig (Elt F)) : val1_1 V0 (no_index (Proc.devRef .tc main_v70)) = res_main_v70 V0 := by
  unfold val1_1
  simp only [ops_part1_0, TRef.nullary, TRef.quaternary, TRef.toBuf, TRef.ofBuf, cast_eq]
  after_results_simp
  simp only [val1_main_v16, val1_main_v55, val1_main_v53, val1_main_v51, val1_main_v39] <;> rfl
set_option maxRecDepth 8192 in
set_option maxHeartbeats 2000000 in
theorem val1_1_main_v71 (V0 : Valuation τ sig (Elt F)) : val1_1 V0 (no_index (Proc.devRef .tc main_v71)) = Host.reduce FloatOps.maximumf (res_main_v69 V0) (constant S_ .f32 0xFF800000#32) reducesTo_S32x20x8732_S32x8732_d1 h_S_ := by
  unfold val1_1
  simp only [ops_part1_0, TRef.nullary, TRef.quaternary, TRef.toBuf, TRef.ofBuf, cast_eq]
  after_results_simp
  simp only [val1_main_v16, val1_main_v55, val1_main_v53, val1_main_v51, val1_main_v39] <;> rfl
set_option maxRecDepth 8192 in
set_option maxHeartbeats 2000000 in
theorem val1_1_main_v72 (V0 : Valuation τ sig (Elt F)) : val1_1 V0 (no_index (Proc.devRef .tc main_v72)) = (fun j => (Host.argReduce reducer_argmax_f32_i32 (res_main_v69 V0) (res_main_call2_v0 V0) (res_main_call2_cst V0) (res_main_call2_c V0) reducesTo_S32x20x8732_S32x8732_d1 h_S_ j).2) := by
  unfold val1_1
  simp only [ops_part1_0, TRef.nullary, TRef.quaternary, TRef.toBuf, TRef.ofBuf, cast_eq]
  after_results_simp
  simp only [val1_main_v16, val1_main_v55, val1_main_v53, val1_main_v51, val1_main_v39] <;> rfl
set_option maxRecDepth 8192 in
set_option maxHeartbeats 2000000 in
theorem val1_1_main_v74 (V0 : Valuation τ sig (Elt F)) : val1_1 V0 (no_index (Proc.devRef .tc main_v74)) = cmpi .slt (res_main_v5 V0) (broadcastInDim S32x1 ![] bcast_S_S32x1 (constantI S_ 32 0#32)) := by
  unfold val1_1
  simp only [ops_part1_0, TRef.nullary, TRef.quaternary, TRef.toBuf, TRef.ofBuf, cast_eq]
  after_results_simp
  simp only [val1_main_v5] <;> rfl
set_option maxRecDepth 8192 in
set_option maxHeartbeats 2000000 in
theorem val1_1_main_c_4 (V0 : Valuation τ sig (Elt F)) : val1_1 V0 (no_index (Proc.devRef .tc main_c_4)) = constantI S_ 32 32#32 := by
  unfold val1_1
  simp only [ops_part1_0, TRef.nullary, TRef.quaternary, TRef.toBuf, TRef.ofBuf, cast_eq]
  after_results_simp
  all_goals rfl

/-- The device's buffer contents after @main's first 122 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v75, main_v76, main_v77, main_c_5, main_v78, main_v79, main_c_6, main_v80, main_v81, main_v82, main_v83, main_v84, main_v85, main_v86, main_cst_7, main_v87, main_v88, main_v89, main_v90, main_c_8, main_v91, main_v92, main_c_9, main_v93, main_v94, main_v95, main_c_10, main_v96, main_v97, main_c_11]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_v0 (V0 : Valuation τ sig (Elt F)) : val1_2 V0 (no_index (Proc.devRef .tc main_v0)) = broadcastInDim S32x8732x4 ![] bcast_S_S32x8732x4 (constant S_ .f32 0x00000000#32) :=
  (val1_2_keep V0 main_v0 (by decide)).trans (val1_1_main_v0 V0)
theorem val1_2_main_v1 (V0 : Valuation τ sig (Elt F)) : val1_2 V0 (no_index (Proc.devRef .tc main_v1)) = res_main_v1 V0 :=
  (val1_2_keep V0 main_v1 (by decide)).trans (val1_1_main_v1 V0)
theorem val1_2_main_v3 (V0 : Valuation τ sig (Elt F)) : val1_2 V0 (no_index (Proc.devRef .tc main_v3)) = shapeCast _ (extractStridedSlice S32x20x1 ![0, 0, 4] (V0 (Proc.devRef .tc main_arg3)) slices_S32x20x5_S32x20x1_0_0_4) shapeCasts_S32x20x1_S32x20 :=
  (val1_2_keep V0 main_v3 (by decide)).trans (val1_1_main_v3 V0)
theorem val1_2_main_v5 (V0 : Valuation τ sig (Elt F)) : val1_2 V0 (no_index (Proc.devRef .tc main_v5)) = res_main_v5 V0 :=
  (val1_2_keep V0 main_v5 (by decide)).trans (val1_1_main_v5 V0)
theorem val1_2_main_v70 (V0 : Valuation τ sig (Elt F)) : val1_2 V0 (no_index (Proc.devRef .tc main_v70)) = res_main_v70 V0 :=
  (val1_2_keep V0 main_v70 (by decide)).trans (val1_1_main_v70 V0)
theorem val1_2_main_v72 (V0 : Valuation τ sig (Elt F)) : val1_2 V0 (no_index (Proc.devRef .tc main_v72)) = (fun j => (Host.argReduce reducer_argmax_f32_i32 (res_main_v69 V0) (res_main_call2_v0 V0) (res_main_call2_cst V0) (res_main_call2_c V0) reducesTo_S32x20x8732_S32x8732_d1 h_S_ j).2) :=
  (val1_2_keep V0 main_v72 (by decide)).trans (val1_1_main_v72 V0)
set_option maxRecDepth 8192 in
set_option maxHeartbeats 2000000 in
theorem val1_2_main_v88 (V0 : Valuation τ sig (Elt F)) : val1_2 V0 (no_index (Proc.devRef .tc main_v88)) = Host.scatter scatter_S32x8732_S32x20x2_S32x20_n_01_01_2 (fun _ b => b) (Host.reduce FloatOps.maximumf (res_main_v69 V0) (constant S_ .f32 0xFF800000#32) reducesTo_S32x20x8732_S32x8732_d1 h_S_) (concatenate S32x20x2 2 [⟨S32x20x1, (broadcastInDim S32x20x1 ![0, 1] bcast_S32x20_S32x20x1_0_1 (broadcastInDim S32x20 ![0, 1] bcast_S32x1_S32x20_0_1 (select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0))))⟩, ⟨S32x20x1, (broadcastInDim S32x20x1 ![0, 1] bcast_S32x20_S32x20x1_0_1 (select (cmpi .slt (res_main_v70 V0) (broadcastInDim S32x20 ![] bcast_S_S32x20 (constantI S_ 32 0#32))) (addi (res_main_v70 V0) (broadcastInDim S32x20 ![] bcast_S_S32x20 (constantI S_ 32 8732#32))) (res_main_v70 V0)))⟩] concatenates_S32x20x1_S32x20x1_S32x20x2_d2) (broadcastInDim S32x20 ![] bcast_S_S32x20 (constant S_ .f32 0x40000000#32)) := by
  unfold val1_2
  simp only [ops_part1_1]
  after_results_simp
  simp only [val1_1_main_v70, val1_1_main_v5, val1_1_main_c_4, val1_1_main_v74, val1_1_main_v71] <;> rfl
set_option maxRecDepth 8192 in
set_option maxHeartbeats 2000000 in
theorem val1_2_main_v90 (V0 : Valuation τ sig (Elt F)) : val1_2 V0 (no_index (Proc.devRef .tc main_v90)) = broadcastInDim S32x20 ![1] bcast_S20_S32x20_1 (iotaInDim S20 32 0) := by
  unfold val1_2
  simp only [ops_part1_1]
  after_results_simp
  all_goals rfl
set_option maxRecDepth 8192 in
set_option maxHeartbeats 2000000 in
theorem val1_2_main_v95 (V0 : Valuation τ sig (Elt F)) : val1_2 V0 (no_index (Proc.devRef .tc main_v95)) = select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0) := by
  unfold val1_2
  simp only [ops_part1_1]
  after_results_simp
  simp only [val1_1_main_v5] <;> rfl
set_option maxRecDepth 8192 in
set_option maxHeartbeats 2000000 in
theorem val1_2_main_v97 (V0 : Valuation τ sig (Elt F)) : val1_2 V0 (no_index (Proc.devRef .tc main_v97)) = cmpi .slt (res_main_v70 V0) (broadcastInDim S32x20 ![] bcast_S_S32x20 (constantI S_ 32 0#32)) := by
  unfold val1_2
  simp only [ops_part1_1]
  after_results_simp
  simp only [val1_1_main_v70] <;> rfl
set_option maxRecDepth 8192 in
set_option maxHeartbeats 2000000 in
theorem val1_2_main_c_11 (V0 : Valuation τ sig (Elt F)) : val1_2 V0 (no_index (Proc.devRef .tc main_c_11)) = constantI S_ 32 8732#32 := by
  unfold val1_2
  simp only [ops_part1_1]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v98, main_v99, main_v100, main_v101, main_v102, main_v103, main_v104, main_v105]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_v0 (V0 : Valuation τ sig (Elt F)) : val2 V0 (no_index (Proc.devRef .tc main_v0)) = broadcastInDim S32x8732x4 ![] bcast_S_S32x8732x4 (constant S_ .f32 0x00000000#32) :=
  (val2_keep V0 main_v0 (by decide)).trans (val1_2_main_v0 V0)
theorem val2_main_v1 (V0 : Valuation τ sig (Elt F)) : val2 V0 (no_index (Proc.devRef .tc main_v1)) = res_main_v1 V0 :=
  (val2_keep V0 main_v1 (by decide)).trans (val1_2_main_v1 V0)
theorem val2_main_v3 (V0 : Valuation τ sig (Elt F)) : val2 V0 (no_index (Proc.devRef .tc main_v3)) = shapeCast _ (extractStridedSlice S32x20x1 ![0, 0, 4] (V0 (Proc.devRef .tc main_arg3)) slices_S32x20x5_S32x20x1_0_0_4) shapeCasts_S32x20x1_S32x20 :=
  (val2_keep V0 main_v3 (by decide)).trans (val1_2_main_v3 V0)
theorem val2_main_v5 (V0 : Valuation τ sig (Elt F)) : val2 V0 (no_index (Proc.devRef .tc main_v5)) = res_main_v5 V0 :=
  (val2_keep V0 main_v5 (by decide)).trans (val1_2_main_v5 V0)
theorem val2_main_v88 (V0 : Valuation τ sig (Elt F)) : val2 V0 (no_index (Proc.devRef .tc main_v88)) = Host.scatter scatter_S32x8732_S32x20x2_S32x20_n_01_01_2 (fun _ b => b) (Host.reduce FloatOps.maximumf (res_main_v69 V0) (constant S_ .f32 0xFF800000#32) reducesTo_S32x20x8732_S32x8732_d1 h_S_) (concatenate S32x20x2 2 [⟨S32x20x1, (broadcastInDim S32x20x1 ![0, 1] bcast_S32x20_S32x20x1_0_1 (broadcastInDim S32x20 ![0, 1] bcast_S32x1_S32x20_0_1 (select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0))))⟩, ⟨S32x20x1, (broadcastInDim S32x20x1 ![0, 1] bcast_S32x20_S32x20x1_0_1 (select (cmpi .slt (res_main_v70 V0) (broadcastInDim S32x20 ![] bcast_S_S32x20 (constantI S_ 32 0#32))) (addi (res_main_v70 V0) (broadcastInDim S32x20 ![] bcast_S_S32x20 (constantI S_ 32 8732#32))) (res_main_v70 V0)))⟩] concatenates_S32x20x1_S32x20x1_S32x20x2_d2) (broadcastInDim S32x20 ![] bcast_S_S32x20 (constant S_ .f32 0x40000000#32)) :=
  (val2_keep V0 main_v88 (by decide)).trans (val1_2_main_v88 V0)
set_option maxRecDepth 8192 in
theorem val2_main_v105 (V0 : Valuation τ sig (Elt F)) : val2 V0 (no_index (Proc.devRef .tc main_v105)) = res_main_v105 V0 := by
  unfold val2
  simp only [ops_part1_2]
  after_results_simp
  simp only [val1_2_main_v90, val1_2_main_v70, val1_2_main_c_11, val1_2_main_v97, val1_2_main_v95, val1_2_main_v72] <;> rfl

/-- The device's buffer contents after @main's first 160 operations. -/
def val2_1 (V0 : Valuation τ sig (Elt F)) : Valuation τ sig (Elt F) := after ops_part2_0 (val2 V0)
/-- The buffers that window `ops_part2_0`'s operations write. -/
abbrev ops_part2_0_W : List (Ref sig .tc) := [main_c_12, main_v106, main_v107, main_c_13, main_v108, main_v109, main_v110, main_c_14, main_v111, main_v112, main_c_15, main_v113, main_v114, main_v115, main_v116, main_v117, main_v118, main_v119, main_v120, main_c_16, main_v121, main_v122, main_c_17, main_v123, main_v124, main_v125, main_c_18, main_v126, main_v127, main_c_19]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_v0 (V0 : Valuation τ sig (Elt F)) : val2_1 V0 (no_index (Proc.devRef .tc main_v0)) = broadcastInDim S32x8732x4 ![] bcast_S_S32x8732x4 (constant S_ .f32 0x00000000#32) :=
  (val2_1_keep V0 main_v0 (by decide)).trans (val2_main_v0 V0)
theorem val2_1_main_v3 (V0 : Valuation τ sig (Elt F)) : val2_1 V0 (no_index (Proc.devRef .tc main_v3)) = shapeCast _ (extractStridedSlice S32x20x1 ![0, 0, 4] (V0 (Proc.devRef .tc main_arg3)) slices_S32x20x5_S32x20x1_0_0_4) shapeCasts_S32x20x1_S32x20 :=
  (val2_1_keep V0 main_v3 (by decide)).trans (val2_main_v3 V0)
theorem val2_1_main_v88 (V0 : Valuation τ sig (Elt F)) : val2_1 V0 (no_index (Proc.devRef .tc main_v88)) = Host.scatter scatter_S32x8732_S32x20x2_S32x20_n_01_01_2 (fun _ b => b) (Host.reduce FloatOps.maximumf (res_main_v69 V0) (constant S_ .f32 0xFF800000#32) reducesTo_S32x20x8732_S32x8732_d1 h_S_) (concatenate S32x20x2 2 [⟨S32x20x1, (broadcastInDim S32x20x1 ![0, 1] bcast_S32x20_S32x20x1_0_1 (broadcastInDim S32x20 ![0, 1] bcast_S32x1_S32x20_0_1 (select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0))))⟩, ⟨S32x20x1, (broadcastInDim S32x20x1 ![0, 1] bcast_S32x20_S32x20x1_0_1 (select (cmpi .slt (res_main_v70 V0) (broadcastInDim S32x20 ![] bcast_S_S32x20 (constantI S_ 32 0#32))) (addi (res_main_v70 V0) (broadcastInDim S32x20 ![] bcast_S_S32x20 (constantI S_ 32 8732#32))) (res_main_v70 V0)))⟩] concatenates_S32x20x1_S32x20x1_S32x20x2_d2) (broadcastInDim S32x20 ![] bcast_S_S32x20 (constant S_ .f32 0x40000000#32)) :=
  (val2_1_keep V0 main_v88 (by decide)).trans (val2_main_v88 V0)
theorem val2_1_main_v105 (V0 : Valuation τ sig (Elt F)) : val2_1 V0 (no_index (Proc.devRef .tc main_v105)) = res_main_v105 V0 :=
  (val2_1_keep V0 main_v105 (by decide)).trans (val2_main_v105 V0)
set_option maxRecDepth 8192 in
set_option maxHeartbeats 2000000 in
theorem val2_1_main_v120 (V0 : Valuation τ sig (Elt F)) : val2_1 V0 (no_index (Proc.devRef .tc main_v120)) = res_main_v120 V0 := by
  unfold val2_1
  simp only [ops_part2_0]
  after_results_simp
  simp only [val2_main_v105, val2_main_v5, val2_main_v1] <;> rfl
set_option maxRecDepth 8192 in
set_option maxHeartbeats 2000000 in
theorem val2_1_main_v125 (V0 : Valuation τ sig (Elt F)) : val2_1 V0 (no_index (Proc.devRef .tc main_v125)) = select (cmpi .slt (res_main_v5 V0) (broadcastInDim S32x1 ![] bcast_S_S32x1 (constantI S_ 32 0#32))) (addi (res_main_v5 V0) (broadcastInDim S32x1 ![] bcast_S_S32x1 (constantI S_ 32 32#32))) (res_main_v5 V0) := by
  unfold val2_1
  simp only [ops_part2_0]
  after_results_simp
  simp only [val2_main_v5] <;> rfl
set_option maxRecDepth 8192 in
set_option maxHeartbeats 2000000 in
theorem val2_1_main_v127 (V0 : Valuation τ sig (Elt F)) : val2_1 V0 (no_index (Proc.devRef .tc main_v127)) = cmpi .slt (res_main_v105 V0) (broadcastInDim S32x8732 ![] bcast_S_S32x8732 (constantI S_ 32 0#32)) := by
  unfold val2_1
  simp only [ops_part2_0]
  after_results_simp
  simp only [val2_main_v105] <;> rfl
set_option maxRecDepth 8192 in
set_option maxHeartbeats 2000000 in
theorem val2_1_main_c_19 (V0 : Valuation τ sig (Elt F)) : val2_1 V0 (no_index (Proc.devRef .tc main_c_19)) = constantI S_ 32 20#32 := by
  unfold val2_1
  simp only [ops_part2_0]
  after_results_simp
  all_goals rfl

/-- The device's buffer contents after @main's first 190 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v128, main_v129, main_v130, main_v131, main_v132, main_v133, main_v134, main_v135, main_v136, main_c_20, main_v137, main_v138, main_cst_21, main_v139, main_v140, main_c_22, main_call3_v0, main_call3_v1, main_v141, main_v142, main_v143, main_v144, main_cst_23, main_v145, main_v146, main_v147, main_v148, main_v149, main_v150, main_v151]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_v0 (V0 : Valuation τ sig (Elt F)) : val2_2 V0 (no_index (Proc.devRef .tc main_v0)) = broadcastInDim S32x8732x4 ![] bcast_S_S32x8732x4 (constant S_ .f32 0x00000000#32) :=
  (val2_2_keep V0 main_v0 (by decide)).trans (val2_1_main_v0 V0)
theorem val2_2_main_v120 (V0 : Valuation τ sig (Elt F)) : val2_2 V0 (no_index (Proc.devRef .tc main_v120)) = res_main_v120 V0 :=
  (val2_2_keep V0 main_v120 (by decide)).trans (val2_1_main_v120 V0)
set_option maxRecDepth 8192 in
set_option maxHeartbeats 2000000 in
theorem val2_2_main_v141 (V0 : Valuation τ sig (Elt F)) : val2_2 V0 (no_index (Proc.devRef .tc main_v141)) = res_main_v141 V0 := by
  unfold val2_2
  simp only [ops_part2_1, TRef.ternary, TRef.unary, TRef.toBuf, TRef.ofBuf, cast_eq]
  after_results_simp
  simp only [val2_1_main_v105, val2_1_main_c_19, val2_1_main_v127, val2_1_main_v125, val2_1_main_v3, val2_1_main_v88] <;> rfl
set_option maxRecDepth 8192 in
set_option maxHeartbeats 2000000 in
theorem val2_2_main_v150 (V0 : Valuation τ sig (Elt F)) : val2_2 V0 (no_index (Proc.devRef .tc main_v150)) = subf (Host.divf (addf (extractStridedSlice S32x8732x2 ![0, 0, 0] (res_main_v120 V0) slices_S32x8732x4_S32x8732x2_0_0_0) (extractStridedSlice S32x8732x2 ![0, 0, 2] (res_main_v120 V0) slices_S32x8732x4_S32x8732x2_0_0_2)) (broadcastInDim S32x8732x2 ![] bcast_S_S32x8732x2 (constant S_ .f32 0x40000000#32))) (broadcastInDim S32x8732x2 ![0, 1, 2] bcast_S1x8732x2_S32x8732x2_0_1_2 (broadcastInDim S1x8732x2 ![1, 2] bcast_S8732x2_S1x8732x2_1_2 (extractStridedSlice S8732x2 ![0, 0] (V0 (Proc.devRef .tc main_arg2)) slices_S8732x4_S8732x2_0_0))) := by
  unfold val2_2
  simp only [ops_part2_1, TRef.ternary, TRef.unary, TRef.toBuf, TRef.ofBuf, cast_eq]
  after_results_simp
  simp only [val2_1_main_arg2, val2_1_main_v120] <;> rfl
set_option maxRecDepth 8192 in
set_option maxHeartbeats 2000000 in
theorem val2_2_main_v151 (V0 : Valuation τ sig (Elt F)) : val2_2 V0 (no_index (Proc.devRef .tc main_v151)) = extractStridedSlice S8732x2 ![0, 2] (V0 (Proc.devRef .tc main_arg2)) slices_S8732x4_S8732x2_0_2 := by
  unfold val2_2
  simp only [ops_part2_1, TRef.ternary, TRef.unary, TRef.toBuf, TRef.ofBuf, cast_eq]
  after_results_simp
  simp only [val2_1_main_arg2] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_cst_24, main_v152]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_v0 (V0 : Valuation τ sig (Elt F)) : val3 V0 (no_index (Proc.devRef .tc main_v0)) = broadcastInDim S32x8732x4 ![] bcast_S_S32x8732x4 (constant S_ .f32 0x00000000#32) :=
  (val3_keep V0 main_v0 (by decide)).trans (val2_2_main_v0 V0)
theorem val3_main_v120 (V0 : Valuation τ sig (Elt F)) : val3 V0 (no_index (Proc.devRef .tc main_v120)) = res_main_v120 V0 :=
  (val3_keep V0 main_v120 (by decide)).trans (val2_2_main_v120 V0)
theorem val3_main_v141 (V0 : Valuation τ sig (Elt F)) : val3 V0 (no_index (Proc.devRef .tc main_v141)) = res_main_v141 V0 :=
  (val3_keep V0 main_v141 (by decide)).trans (val2_2_main_v141 V0)
theorem val3_main_v150 (V0 : Valuation τ sig (Elt F)) : val3 V0 (no_index (Proc.devRef .tc main_v150)) = subf (Host.divf (addf (extractStridedSlice S32x8732x2 ![0, 0, 0] (res_main_v120 V0) slices_S32x8732x4_S32x8732x2_0_0_0) (extractStridedSlice S32x8732x2 ![0, 0, 2] (res_main_v120 V0) slices_S32x8732x4_S32x8732x2_0_0_2)) (broadcastInDim S32x8732x2 ![] bcast_S_S32x8732x2 (constant S_ .f32 0x40000000#32))) (broadcastInDim S32x8732x2 ![0, 1, 2] bcast_S1x8732x2_S32x8732x2_0_1_2 (broadcastInDim S1x8732x2 ![1, 2] bcast_S8732x2_S1x8732x2_1_2 (extractStridedSlice S8732x2 ![0, 0] (V0 (Proc.devRef .tc main_arg2)) slices_S8732x4_S8732x2_0_0))) :=
  (val3_keep V0 main_v150 (by decide)).trans (val2_2_main_v150 V0)
theorem val3_main_v151 (V0 : Valuation τ sig (Elt F)) : val3 V0 (no_index (Proc.devRef .tc main_v151)) = extractStridedSlice S8732x2 ![0, 2] (V0 (Proc.devRef .tc main_arg2)) slices_S8732x4_S8732x2_0_2 :=
  (val3_keep V0 main_v151 (by decide)).trans (val2_2_main_v151 V0)
set_option maxRecDepth 8192 in
theorem val3_main_v152 (V0 : Valuation τ sig (Elt F)) : val3 V0 (no_index (Proc.devRef .tc main_v152)) = broadcastInDim S8732x2 ![] bcast_S_S8732x2 (constant S_ .f32 0x3DCCCCCD#32) := by
  unfold val3
  simp only [ops_part2_2]
  after_results_simp
  all_goals rfl

/-- The device's buffer contents after @main's first 222 operations. -/
def val3_1 (V0 : Valuation τ sig (Elt F)) : Valuation τ sig (Elt F) := after ops_part3_0 (val3 V0)
/-- The buffers that window `ops_part3_0`'s operations write. -/
abbrev ops_part3_0_W : List (Ref sig .tc) := [main_v153, main_v154, main_v155, main_v156, main_v157, main_v158, main_v159, main_v160, main_v161, main_v162, main_v163, main_cst_25, main_v164, main_v165, main_v166, main_cst_26, main_v167, main_v168, main_v169, main_c_27, main_v170, main_v171, main_v172, main_v173, main_cst_28, main_v174, main_v175, main_cst_29, main_v176, main_v177]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_arg3 (V0 : Valuation τ sig (Elt F)) : val3_1 V0 (no_index (Proc.devRef .tc main_arg3)) = V0 (Proc.devRef .tc main_arg3) :=
  (val3_1_keep V0 main_arg3 (by decide)).trans (val3_main_arg3 V0)
theorem val3_1_main_v141 (V0 : Valuation τ sig (Elt F)) : val3_1 V0 (no_index (Proc.devRef .tc main_v141)) = res_main_v141 V0 :=
  (val3_1_keep V0 main_v141 (by decide)).trans (val3_main_v141 V0)
set_option maxRecDepth 8192 in
set_option maxHeartbeats 2000000 in
theorem val3_1_main_v171 (V0 : Valuation τ sig (Elt F)) : val3_1 V0 (no_index (Proc.devRef .tc main_v171)) = res_main_v171 V0 := by
  unfold val3_1
  simp only [ops_part3_0]
  after_results_simp
  simp only [val3_main_v141] <;> rfl
set_option maxRecDepth 8192 in
set_option maxHeartbeats 2000000 in
theorem val3_1_main_v172 (V0 : Valuation τ sig (Elt F)) : val3_1 V0 (no_index (Proc.devRef .tc main_v172)) = res_main_v172 V0 := by
  unfold val3_1
  simp only [ops_part3_0]
  after_results_simp
  simp only [val3_main_arg2, val3_main_v120, val3_main_v151, val3_main_v152, val3_main_v150, val3_main_v0] <;> rfl
set_option maxRecDepth 8192 in
set_option maxHeartbeats 2000000 in
theorem val3_1_main_v173 (V0 : Valuation τ sig (Elt F)) : val3_1 V0 (no_index (Proc.devRef .tc main_v173)) = res_main_v173 V0 := by
  unfold val3_1
  simp only [ops_part3_0]
  after_results_simp
  simp only [val3_main_arg2, val3_main_v120, val3_main_v151, val3_main_v152, val3_main_v150, val3_main_v0] <;> rfl
set_option maxRecDepth 8192 in
set_option maxHeartbeats 2000000 in
theorem val3_1_main_v175 (V0 : Valuation τ sig (Elt F)) : val3_1 V0 (no_index (Proc.devRef .tc main_v175)) = cmpf .olt (res_main_v173 V0) (broadcastInDim S32x8732x4 ![] bcast_S_S32x8732x4 (constant S_ .f32 0x3F800000#32)) := by
  unfold val3_1
  simp only [ops_part3_0]
  after_results_simp
  simp only [val3_main_arg2, val3_main_v120, val3_main_v151, val3_main_v152, val3_main_v150, val3_main_v0] <;> rfl
set_option maxRecDepth 8192 in
set_option maxHeartbeats 2000000 in
theorem val3_1_main_v177 (V0 : Valuation τ sig (Elt F)) : val3_1 V0 (no_index (Proc.devRef .tc main_v177)) = mulf (broadcastInDim S32x8732x4 ![] bcast_S_S32x8732x4 (constant S_ .f32 0x3F000000#32)) (res_main_v172 V0) := by
  unfold val3_1
  simp only [ops_part3_0]
  after_results_simp
  simp only [val3_main_arg2, val3_main_v120, val3_main_v151, val3_main_v152, val3_main_v150, val3_main_v0] <;> rfl

/-- The device's buffer contents after @main's first 252 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v178, main_cst_30, main_v179, main_v180, main_v181, main_v182, main_v183, main_v184, main_v185, main_cst_31, main_v186, main_cst_32, main_v187, main_v188, main_v189, main_v190, main_v191, main_cst_33, main_v192, main_v193, main_v194, main_v195, main_call5_c, main_call5_v0, main_call5_v1, main_call5_c_0, main_call5_v2, main_call5_v3, main_call5_v4, main_call5_v5]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_arg3 (V0 : Valuation τ sig (Elt F)) : val3_2 V0 (no_index (Proc.devRef .tc main_arg3)) = V0 (Proc.devRef .tc main_arg3) :=
  (val3_2_keep V0 main_arg3 (by decide)).trans (val3_1_main_arg3 V0)
theorem val3_2_main_v171 (V0 : Valuation τ sig (Elt F)) : val3_2 V0 (no_index (Proc.devRef .tc main_v171)) = res_main_v171 V0 :=
  (val3_2_keep V0 main_v171 (by decide)).trans (val3_1_main_v171 V0)
set_option maxRecDepth 8192 in
set_option maxHeartbeats 2000000 in
theorem val3_2_main_v186 (V0 : Valuation τ sig (Elt F)) : val3_2 V0 (no_index (Proc.devRef .tc main_v186)) = Host.reduceAdd (mulf (select (cmpf .olt (res_main_v173 V0) (broadcastInDim S32x8732x4 ![] bcast_S_S32x8732x4 (constant S_ .f32 0x3F800000#32))) (mulf (mulf (broadcastInDim S32x8732x4 ![] bcast_S_S32x8732x4 (constant S_ .f32 0x3F000000#32)) (res_main_v172 V0)) (res_main_v172 V0)) (subf (res_main_v173 V0) (broadcastInDim S32x8732x4 ![] bcast_S_S32x8732x4 (constant S_ .f32 0x3F000000#32)))) (broadcastInDim S32x8732x4 ![0, 1, 2] bcast_S32x8732x1_S32x8732x4_0_1_2 (uitofp .f32 (broadcastInDim S32x8732x1 ![0, 1] bcast_S32x8732_S32x8732x1_0_1 (res_main_v171 V0))))) (constant S_ .f32 0x00000000#32) reducesTo_S32x8732x4_S32_d1_2 h_S_ := by
  unfold val3_2
  simp only [ops_part3_1, TRef.binary, TRef.nullary, TRef.reshape, TRef.ternary, TRef.unary, TRef.toBuf, TRef.ofBuf, cast_eq]
  after_results_simp
  simp only [val3_1_main_v171, val3_1_main_v173, val3_1_main_v172, val3_1_main_v177, val3_1_main_v175] <;> rfl
set_option maxRecDepth 8192 in
set_option maxHeartbeats 2000000 in
theorem val3_2_main_v194 (V0 : Valuation τ sig (Elt F)) : val3_2 V0 (no_index (Proc.devRef .tc main_v194)) = addf (Host.log (Host.reduceAdd (Host.exp (subf (V0 (Proc.devRef .tc main_arg1)) (broadcastInDim S32x8732x81 ![0, 1, 2] bcast_S32x8732x1_S32x8732x81_0_1_2 (broadcastInDim S32x8732x1 ![0, 1] bcast_S32x8732_S32x8732x1_0_1 (res_main_v187 V0))))) (constant S_ .f32 0x00000000#32) reducesTo_S32x8732x81_S32x8732_d2 h_S_)) (res_main_v187 V0) := by
  unfold val3_2
  simp only [ops_part3_1, TRef.binary, TRef.nullary, TRef.reshape, TRef.ternary, TRef.unary, TRef.toBuf, TRef.ofBuf, cast_eq]
  after_results_simp
  simp only [val3_1_main_arg1] <;> rfl
set_option maxRecDepth 8192 in
set_option maxHeartbeats 2000000 in
theorem val3_2_main_call5_v5 (V0 : Valuation τ sig (Elt F)) : val3_2 V0 (no_index (Proc.devRef .tc main_call5_v5)) = res_main_call5_v5 V0 := by
  unfold val3_2
  simp only [ops_part3_1, TRef.binary, TRef.nullary, TRef.reshape, TRef.ternary, TRef.unary, TRef.toBuf, TRef.ofBuf, cast_eq]
  after_results_simp
  simp only [val3_1_main_v141] <;> rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_call5_c_1, main_call5_c_2, main_call5_v6, main_call5_v7, main_call5_v8, main_call5_v9, main_call5_v10, main_call5_v11, main_call5_c_3, main_call5_v12, main_call5_v13, main_call5_cst, main_call5_v14, main_v196, main_v197, main_v198, main_cst_34, main_call6_v0, main_call6_v1, main_v199, main_cst_35, main_call7_v0, main_call7_v1, main_v200, main_cst_36]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_arg2 (V0 : Valuation τ sig (Elt F)) : val4 V0 (no_index (Proc.devRef .tc main_arg2)) = V0 (Proc.devRef .tc main_arg2) :=
  (val4_keep V0 main_arg2 (by decide)).trans (val3_2_main_arg2 V0)
theorem val4_main_arg3 (V0 : Valuation τ sig (Elt F)) : val4 V0 (no_index (Proc.devRef .tc main_arg3)) = V0 (Proc.devRef .tc main_arg3) :=
  (val4_keep V0 main_arg3 (by decide)).trans (val3_2_main_arg3 V0)
theorem val4_main_v171 (V0 : Valuation τ sig (Elt F)) : val4 V0 (no_index (Proc.devRef .tc main_v171)) = res_main_v171 V0 :=
  (val4_keep V0 main_v171 (by decide)).trans (val3_2_main_v171 V0)
theorem val4_main_v186 (V0 : Valuation τ sig (Elt F)) : val4 V0 (no_index (Proc.devRef .tc main_v186)) = Host.reduceAdd (mulf (select (cmpf .olt (res_main_v173 V0) (broadcastInDim S32x8732x4 ![] bcast_S_S32x8732x4 (constant S_ .f32 0x3F800000#32))) (mulf (mulf (broadcastInDim S32x8732x4 ![] bcast_S_S32x8732x4 (constant S_ .f32 0x3F000000#32)) (res_main_v172 V0)) (res_main_v172 V0)) (subf (res_main_v173 V0) (broadcastInDim S32x8732x4 ![] bcast_S_S32x8732x4 (constant S_ .f32 0x3F000000#32)))) (broadcastInDim S32x8732x4 ![0, 1, 2] bcast_S32x8732x1_S32x8732x4_0_1_2 (uitofp .f32 (broadcastInDim S32x8732x1 ![0, 1] bcast_S32x8732_S32x8732x1_0_1 (res_main_v171 V0))))) (constant S_ .f32 0x00000000#32) reducesTo_S32x8732x4_S32_d1_2 h_S_ :=
  (val4_keep V0 main_v186 (by decide)).trans (val3_2_main_v186 V0)
set_option maxRecDepth 8192 in
set_option maxHeartbeats 2000000 in
theorem val4_main_v199 (V0 : Valuation τ sig (Elt F)) : val4 V0 (no_index (Proc.devRef .tc main_v199)) = select (res_main_v171 V0) (broadcastInDim S32x8732 ![] bcast_S_S32x8732 (id (constant S_ .f32 0x00000000#32))) (res_main_v198 V0) := by
  unfold val4
  simp only [ops_part3_2, TRef.binary, TRef.nullary, TRef.ternary, TRef.unary, TRef.toBuf, TRef.ofBuf, cast_eq]
  after_results_simp
  simp only [val3_2_main_call5_v5, val3_2_main_arg1, val3_2_main_v194, val3_2_main_v171] <;> rfl
set_option maxRecDepth 8192 in
set_option maxHeartbeats 2000000 in
theorem val4_main_v200 (V0 : Valuation τ sig (Elt F)) : val4 V0 (no_index (Proc.devRef .tc main_v200)) = select (res_main_v171 V0) (res_main_v198 V0) (broadcastInDim S32x8732 ![] bcast_S_S32x8732 (id (constant S_ .f32 0x00000000#32))) := by
  unfold val4
  simp only [ops_part3_2, TRef.binary, TRef.nullary, TRef.ternary, TRef.unary, TRef.toBuf, TRef.ofBuf, cast_eq]
  after_results_simp
  simp only [val3_2_main_call5_v5, val3_2_main_arg1, val3_2_main_v194, val3_2_main_v171] <;> rfl
set_option maxRecDepth 8192 in
set_option maxHeartbeats 2000000 in
theorem val4_main_cst_36 (V0 : Valuation τ sig (Elt F)) : val4 V0 (no_index (Proc.devRef .tc main_cst_36)) = constant S_ .f32 0x00000000#32 := by
  unfold val4
  simp only [ops_part3_2, TRef.binary, TRef.nullary, TRef.ternary, TRef.unary, TRef.toBuf, TRef.ofBuf, cast_eq]
  after_results_simp
  all_goals rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v201, main_v202, main_cst_37, main_v203, main_v204, main_v205, main_v206, main_v207, main_c_38, main_call8_v0, main_v208, main_v209, main_v210]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
set_option maxRecDepth 8192 in
set_option maxHeartbeats 1300000 in
theorem val5_main_v209 (V0 : Valuation τ sig (Elt F)) : val5 V0 (no_index (Proc.devRef .tc main_v209)) = broadcastInDim S32x1x8732 ![0, 2] bcast_S32x8732_S32x1x8732_0_2 (select (res_main_v171 V0) (broadcastInDim S32x8732 ![] bcast_S_S32x8732 (id (constant S_ .f32 0x00000000#32))) (res_main_v198 V0)) := by
  unfold val5
  simp only [ops_part4, TRef.binary, TRef.unary, TRef.toBuf, TRef.ofBuf, cast_eq]
  after_results_simp
  try dsimp only [Matrix.cons_val]
  try after_results_simp
  simp only [val4_main_v199] <;> rfl
set_option maxRecDepth 8192 in
set_option maxHeartbeats 1300000 in
theorem val5_main_v210 (V0 : Valuation τ sig (Elt F)) : val5 V0 (no_index (Proc.devRef .tc main_v210)) = broadcastInDim S32x1x128 ![0, 2] bcast_S32x128_S32x1x128_0_2 (pad S32x128 ![0, 0] ![0, 125] ![0, 0] ((concatenate S32x3 1 [⟨S32x1, ((broadcastInDim S32x1 ![0] bcast_S32_S32x1_0 (Host.reduceAdd (mulf (select (cmpf .olt (res_main_v173 V0) (broadcastInDim S32x8732x4 ![] bcast_S_S32x8732x4 (constant S_ .f32 0x3F800000#32))) (mulf (mulf (broadcastInDim S32x8732x4 ![] bcast_S_S32x8732x4 (constant S_ .f32 0x3F000000#32)) (res_main_v172 V0)) (res_main_v172 V0)) (subf (res_main_v173 V0) (broadcastInDim S32x8732x4 ![] bcast_S_S32x8732x4 (constant S_ .f32 0x3F000000#32)))) (broadcastInDim S32x8732x4 ![0, 1, 2] bcast_S32x8732x1_S32x8732x4_0_1_2 (uitofp .f32 (broadcastInDim S32x8732x1 ![0, 1] bcast_S32x8732_S32x8732x1_0_1 (res_main_v171 V0))))) (constant S_ .f32 0x00000000#32) reducesTo_S32x8732x4_S32_d1_2 h_S_)) : (⟨S32x1, .f32⟩ : BufTy).Contents (Elt F))⟩, ⟨S32x1, ((broadcastInDim S32x1 ![0] bcast_S32_S32x1_0 (Host.reduceAdd (select (res_main_v171 V0) (res_main_v198 V0) (broadcastInDim S32x8732 ![] bcast_S_S32x8732 (id (constant S_ .f32 0x00000000#32)))) (constant S_ .f32 0x00000000#32) reducesTo_S32x8732_S32_d1 h_S_)) : (⟨S32x1, .f32⟩ : BufTy).Contents (Elt F))⟩, ⟨S32x1, ((broadcastInDim S32x1 ![0] bcast_S32_S32x1_0 (Host.reduceAdd (uitofp .f32 (res_main_v171 V0)) (constant S_ .f32 0x00000000#32) reducesTo_S32x8732_S32_d1 h_S_)) : (⟨S32x1, .f32⟩ : BufTy).Contents (Elt F))⟩] concatenates_S32x1_S32x1_S32x1_S32x3_d1 : (⟨S32x3, .f32⟩ : BufTy).Contents (Elt F))) (sitofp .f32 (constantI S_ 32 0#32)) pads_S32x3_S32x128_000_01250 h_S_) := by
  unfold val5
  simp only [ops_part4, TRef.binary, TRef.unary, TRef.toBuf, TRef.ofBuf, cast_eq]
  after_results_simp
  try dsimp only [Matrix.cons_val]
  try after_results_simp
  simp only [val4_main_v171, val4_main_cst_36, val4_main_v200, val4_main_v186] <;> rfl

theorem after_ops (V0 : Valuation τ sig (Elt F)) : after ops V0 = val5 V0 := by
  simp only [ops, ops_part0, ops_part1, ops_part2, ops_part3, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v209) = broadcastInDim S32x1x8732 ![0, 2] bcast_S32x8732_S32x1x8732_0_2 (select (res_main_v171 (launchContents m c)) (broadcastInDim S32x8732 ![] bcast_S_S32x8732 (id (constant S_ .f32 0x00000000#32))) (res_main_v198 (launchContents m c)))
      ∧ r.2.mem ((c.tc : Thread nD τ).loc main_v210) = broadcastInDim S32x1x128 ![0, 2] bcast_S32x128_S32x1x128_0_2 (pad S32x128 ![0, 0] ![0, 125] ![0, 0] ((concatenate S32x3 1 [⟨S32x1, ((broadcastInDim S32x1 ![0] bcast_S32_S32x1_0 (Host.reduceAdd (mulf (select (cmpf .olt (res_main_v173 (launchContents m c)) (broadcastInDim S32x8732x4 ![] bcast_S_S32x8732x4 (constant S_ .f32 0x3F800000#32))) (mulf (mulf (broadcastInDim S32x8732x4 ![] bcast_S_S32x8732x4 (constant S_ .f32 0x3F000000#32)) (res_main_v172 (launchContents m c))) (res_main_v172 (launchContents m c))) (subf (res_main_v173 (launchContents m c)) (broadcastInDim S32x8732x4 ![] bcast_S_S32x8732x4 (constant S_ .f32 0x3F000000#32)))) (broadcastInDim S32x8732x4 ![0, 1, 2] bcast_S32x8732x1_S32x8732x4_0_1_2 (uitofp .f32 (broadcastInDim S32x8732x1 ![0, 1] bcast_S32x8732_S32x8732x1_0_1 (res_main_v171 (launchContents m c)))))) (constant S_ .f32 0x00000000#32) reducesTo_S32x8732x4_S32_d1_2 h_S_)) : (⟨S32x1, .f32⟩ : BufTy).Contents (Elt F))⟩, ⟨S32x1, ((broadcastInDim S32x1 ![0] bcast_S32_S32x1_0 (Host.reduceAdd (select (res_main_v171 (launchContents m c)) (res_main_v198 (launchContents m c)) (broadcastInDim S32x8732 ![] bcast_S_S32x8732 (id (constant S_ .f32 0x00000000#32)))) (constant S_ .f32 0x00000000#32) reducesTo_S32x8732_S32_d1 h_S_)) : (⟨S32x1, .f32⟩ : BufTy).Contents (Elt F))⟩, ⟨S32x1, ((broadcastInDim S32x1 ![0] bcast_S32_S32x1_0 (Host.reduceAdd (uitofp .f32 (res_main_v171 (launchContents m c))) (constant S_ .f32 0x00000000#32) reducesTo_S32x8732_S32_d1 h_S_)) : (⟨S32x1, .f32⟩ : BufTy).Contents (Elt F))⟩] concatenates_S32x1_S32x1_S32x1_S32x3_d1 : (⟨S32x3, .f32⟩ : BufTy).Contents (Elt F))) (sitofp .f32 (constantI S_ 32 0#32)) pads_S32x3_S32x128_000_01250 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v209).trans ((congrFun (after_ops (launchContents m c)) (Proc.devRef .tc main_v209)).trans (val5_main_v209 (launchContents m c))),
      (h c main_v210).trans ((congrFun (after_ops (launchContents m c)) (Proc.devRef .tc main_v210)).trans (val5_main_v210 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c))),
      (h c main_arg3).trans ((congrFun (after_ops (launchContents m c)) (Proc.devRef .tc main_arg3)).trans (val5_main_arg3 (launchContents m c)))⟩)
    (run_seq scopedRefs_eq scopedSems_eq defs main (fun _ => ops) main_eq (fun _ => ops_sub) m ρ fun _ => ops_fresh)

end Cert.ReferenceIdeal.Value

end
-- ==== Proof.RefValue.Results.lean ====
/- The reference's two results: at each image, what Spec.lean says of that image's rows of the arguments. -/
module

public import proofs.«01_k».proof.Proof.RefValue.Losses
public import proofs.«01_k».proof.Proof.RefRun.Values

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Match

/-- A select on a clear bit. -/
theorem select_zero {α : Type} (x y : α) : Scalar.select 0#1 x y = y := rfl

/-- A select on a set bit. -/
theorem select_one {α : Type} (x y : α) : Scalar.select 1#1 x y = x := rfl

/-- The constant zero. -/
theorem zero_const : id (constant (F := Ideal) S_ FTy.f32 0#32) ix0 = 0 := Ideal.ofBits_zero FTy.f32

/-- The bit that says that a prior has a class, as a number. -/
theorem pos_float (T : Fin 20 → Fin 5 → EReal) (Q : Fin 8732 → Fin 4 → EReal) (L : Fin 20 → Fin 80) (p : Fin 8732) :
    FloatOps.uitofp (F := Ideal) FTy.f32 (if cls T Q L p = 0 then 0#1 else 1#1 : BitVec 1) = posf T Q L p := by
  unfold posf
  by_cases h : cls T Q L p = 0
  · rw [if_pos h, if_pos h]
    show (((0#1 : BitVec 1).toNat : ℝ) : EReal) = 0
    simp
  · rw [if_neg h, if_neg h]
    show (((1#1 : BitVec 1).toNat : ℝ) : EReal) = 1
    simp

section values
variable (T : Fin 32 → Fin 20 → Fin 5 → EReal) (Q : Fin 8732 → Fin 4 → EReal) (L : Fin 32 → Fin 20 → Fin 80)
  (X : Fin 32 → Fin 8732 → Fin 81 → EReal) (pos : IVec S32x8732 1) (d e : FVec Ideal S32x8732x4 .f32) (w : FVec Ideal S32x8732 .f32)
  (hX : ∀ b p c, ∃ r : ℝ, X b p c = r) (hpos : ∀ b p, pos (ix2 b p) = if cls (T b) Q (L b) p = 0 then 0#1 else 1#1)
  (hd : ∀ b p k, d (ix3 b p k) = 0 - enc (T b) Q p k) (he : e = Host.absf d) (hw : ∀ b p, w (ix2 b p) = ce (T b) Q (L b) (X b) p)

/-- The reference's first result, of what is computed before it. -/
def res0 (pos : IVec S32x8732 1) (w : FVec Ideal S32x8732 .f32) : FVec Ideal S32x1x8732 .f32 :=
  broadcastInDim S32x1x8732 ![0, 2] bcast_S32x8732_S32x1x8732_0_2 (select pos (broadcastInDim S32x8732 ![] bcast_S_S32x8732 (id (constant S_ .f32 0x00000000#32))) w)

include hX hpos hw in
/-- The mined cross-entropies. -/
theorem res0_eq (b : Fin 32) (p : Fin 8732) : res0 pos w (ix3 b 0 p) = max (mined (T b) Q (L b) (X b) p) 0 := by
  unfold res0
  pointwise []
  rw [hpos, hw]
  obtain ⟨r, h0, hr⟩ := ce_real (T b) Q (L b) (X b) (hX b) p
  unfold mined
  by_cases h : cls (T b) Q (L b) p = 0
  · rw [if_pos h, if_pos h, select_zero, hr, max_eq_left (by exact_mod_cast h0)]
  · rw [if_neg h, if_neg h, select_one, zero_const, max_self]

/-- The localization losses of the images. -/
def sumL (pos : IVec S32x8732 1) (d e : FVec Ideal S32x8732x4 .f32) : FVec Ideal S32 .f32 :=
  Host.reduceAdd (mulf (select (cmpf .olt e (broadcastInDim S32x8732x4 ![] bcast_S_S32x8732x4 (constant S_ .f32 0x3F800000#32))) (mulf (mulf (broadcastInDim S32x8732x4 ![] bcast_S_S32x8732x4 (constant S_ .f32 0x3F000000#32)) d) d) (subf e (broadcastInDim S32x8732x4 ![] bcast_S_S32x8732x4 (constant S_ .f32 0x3F000000#32)))) (broadcastInDim S32x8732x4 ![0, 1, 2] bcast_S32x8732x1_S32x8732x4_0_1_2 (uitofp .f32 (broadcastInDim S32x8732x1 ![0, 1] bcast_S32x8732_S32x8732x1_0_1 pos)))) (constant S_ .f32 0x00000000#32) reducesTo_S32x8732x4_S32_d1_2 h_S_

/-- The cross-entropies of the images' priors that have a class. -/
def sumC (pos : IVec S32x8732 1) (w : FVec Ideal S32x8732 .f32) : FVec Ideal S32 .f32 :=
  Host.reduceAdd (select pos w (broadcastInDim S32x8732 ![] bcast_S_S32x8732 (id (constant S_ .f32 0x00000000#32)))) (constant S_ .f32 0x00000000#32) reducesTo_S32x8732_S32_d1 h_S_

/-- How many of the images' priors have a class. -/
def sumN (pos : IVec S32x8732 1) : FVec Ideal S32 .f32 :=
  Host.reduceAdd (uitofp .f32 pos) (constant S_ .f32 0x00000000#32) reducesTo_S32x8732_S32_d1 h_S_

/-- The reference's second result, of what is computed before it. -/
def res1 (u v x : FVec Ideal S32 .f32) : FVec Ideal S32x1x128 .f32 :=
  broadcastInDim S32x1x128 ![0, 2] bcast_S32x128_S32x1x128_0_2 (pad S32x128 ![0, 0] ![0, 125] ![0, 0] (concatenate S32x3 1 [⟨S32x1, broadcastInDim S32x1 ![0] bcast_S32_S32x1_0 u⟩, ⟨S32x1, broadcastInDim S32x1 ![0] bcast_S32_S32x1_0 v⟩, ⟨S32x1, broadcastInDim S32x1 ![0] bcast_S32_S32x1_0 x⟩] concatenates_S32x1_S32x1_S32x1_S32x3_d1) (sitofp .f32 (constantI S_ 32 0#32)) pads_S32x3_S32x128_000_01250 h_S_)

include hpos in
/-- How many priors have a class. -/
theorem sumN_eq (b : Fin 32) : sumN pos (ix1 b) = numPos (T b) Q (L b) := by
  unfold sumN
  pointwise []
  exact Finset.sum_congr rfl fun p _ => by rw [hpos, pos_float]

include hX hpos hw in
/-- The cross-entropy summed over the priors that have a class. -/
theorem sumC_eq (b : Fin 32) : sumC pos w (ix1 b) = lossC (T b) Q (L b) (X b) := by
  unfold sumC
  pointwise []
  refine Finset.sum_congr rfl fun p _ => ?_
  rw [hpos, hw]
  unfold posf
  by_cases h : cls (T b) Q (L b) p = 0
  · rw [if_pos h, if_pos h, select_zero, zero_const, mul_zero]
  · rw [if_neg h, if_neg h, select_one, mul_one]

include hpos hd he in
/-- The localization loss. -/
theorem sumL_eq (b : Fin 32) : sumL pos d e (ix1 b) = lossL (T b) Q (L b) := by
  unfold sumL
  pointwise []
  refine Finset.sum_congr rfl fun p _ => Finset.sum_congr rfl fun k _ => ?_
  have ha : e (ix3 b p k) = max (d (ix3 b p k)) (-d (ix3 b p k)) := by rw [he]; exact absf_eq _
  rw [ha, hd, hpos, pos_float]
  rfl

/-- The three sums in their lanes. -/
theorem res1_eq (u v x : FVec Ideal S32 .f32) (b : Fin 32) (l : Fin 128) : res1 u v x (ix3 b 0 l)
    = if (l : ℕ) = 0 then u (ix1 b) else if (l : ℕ) = 1 then v (ix1 b) else if (l : ℕ) = 2 then x (ix1 b) else 0 := by
  unfold res1
  pointwise []
  have h0 : FloatOps.sitofp (F := Ideal) FTy.f32 (0#32) = 0 := by
    show (((0#32 : BitVec 32).toInt : ℝ) : EReal) = 0
    simp
  rw [h0]
  split_ifs <;> first | rfl | omega

end values

end Cert.RefValue

end
-- ==== Proof.RefValue.Drawn.lean ====
/- What the precondition says of the arguments: scores and priors are real numbers, labels are the numbers below 80. -/
module

public import proofs.«01_k».proof.Proof.Match.Array
public import proofs.«01_k».proof.Proof.Gen.Pre_drawn
public import proofs.«01_k».proof.Defs

@[expose] public section

set_option maxRecDepth 16384

noncomputable section

namespace Cert.Drawn

open Idealize.ShloMosaic Cert.Pre_drawn Cert.Match

attribute [local instance] Cert.Pre_drawn.Gen.facts

/-- Two bits are both set when their conjunction is. -/
theorem and_one (a b : BitVec 1) : IntOp.andi a b = 1#1 ↔ a = 1#1 ∧ b = 1#1 := by
  revert a b; decide

/-- The bit of a comparison. -/
theorem ofBool_one (q : Prop) [Decidable q] : BitVec.ofBool (decide q) = 1#1 ↔ q := by
  by_cases h : q <;> simp [h]

/-- The constant above every real number. -/
theorem ofBits_top : Ideal.ofBits .f32 0x7F800000#32 = ⊤ := by
  simp [Ideal.ofBits, Ideal.ieee]

/-- The constant eighty. -/
theorem ofBits_eighty : Ideal.ofBits .f32 0x42A00000#32 = ((80 : ℝ) : EReal) := by
  simp [Ideal.ofBits, Ideal.ieee]
  rw [← EReal.coe_mul]
  norm_num

/-- A value strictly between the infinities is a real number. -/
theorem real_of_between (x : EReal) (ha : ⊥ < x) (hb : x < ⊤) : ∃ r : ℝ, x = r :=
  ⟨x.toReal, (EReal.coe_toReal hb.ne ha.ne').symm⟩

/-- A value that is its own floor, not negative and below 80, is one of the numbers below 80. -/
theorem nat_of_floor (x : EReal) (hf : Ideal.liftRound Int.floor x = x) (ha : 0 ≤ x) (hb : x < ((80 : ℝ) : EReal)) :
    ∃ n : Fin 80, x = (((n : ℕ) : ℝ) : EReal) := by
  obtain ⟨r, rfl⟩ := real_of_between x (lt_of_lt_of_le EReal.bot_lt_zero ha) (hb.trans (EReal.coe_lt_top _))
  have h0 : (0 : ℝ) ≤ r := by exact_mod_cast ha
  have h8 : r < 80 := by exact_mod_cast hb
  obtain ⟨n, hn⟩ := Int.eq_ofNat_of_zero_le (Int.floor_nonneg.2 h0)
  have hr : ((⌊r⌋ : ℤ) : ℝ) = r := EReal.coe_eq_coe_iff.1 hf
  rw [hn] at hr
  have hr' : (n : ℝ) = r := by exact_mod_cast hr
  subst hr'
  exact ⟨⟨n, by exact_mod_cast h8⟩, rfl⟩

variable (A0 : FVec Ideal S32x8732x4 .f32) (A1 : FVec Ideal S32x8732x81 .f32) (A2 : FVec Ideal S8732x4 .f32) (A3 : FVec Ideal S32x20x5 .f32)

/-- The scores are real numbers. -/
theorem scores_real (h : (fn (F := Ideal) A0 A1 A2 A3).1 = fun _ => 1#1) (b : Fin 32) (p : Fin 8732) (c : Fin 81) :
    ∃ r : ℝ, scores A1 b p c = r := by
  have := congrFun h (ix3 b p c)
  unfold fn fn_part1 at this
  simp only at this
  pointwise [] at this
  obtain ⟨ha, hb⟩ := (and_one _ _).1 this
  rw [ofBool_one] at ha hb
  exact real_of_between _ (ofBits_bot ▸ ha) (ofBits_top ▸ hb)

/-- The priors are real numbers. -/
theorem priors_real (h : (fn (F := Ideal) A0 A1 A2 A3).2.1 = fun _ => 1#1) (p : Fin 8732) (k : Fin 4) :
    ∃ r : ℝ, priors A2 p k = r := by
  have := congrFun h (ix2 p k)
  unfold fn fn_part1 at this
  simp only at this
  pointwise [] at this
  obtain ⟨ha, hb⟩ := (and_one _ _).1 this
  rw [ofBool_one] at ha hb
  exact real_of_between _ (ofBits_bot ▸ ha) (ofBits_top ▸ hb)

/-- The labels are the numbers below 80. -/
theorem label_nat (h : (fn (F := Ideal) A0 A1 A2 A3).2.2 = fun _ => 1#1) (b : Fin 32) (o : Fin 20) :
    ∃ n : Fin 80, boxes A3 b o 4 = (((n : ℕ) : ℝ) : EReal) := by
  have := congrFun h (ix2 b o)
  unfold fn fn_part1 at this
  simp only at this
  pointwise [] at this
  obtain ⟨hc, hb⟩ := (and_one _ _).1 this
  obtain ⟨hf, ha⟩ := (and_one _ _).1 hc
  rw [ofBool_one] at hf ha hb
  rw [ofBits_eighty] at hb
  exact nat_of_floor _ hf ha hb

end Cert.Drawn

end
-- ==== Proof.Equation.lean ====
/- The two programs end with equal results. -/
module

public import proofs.«01_k».proof.Proof.RefValue.Results
public import proofs.«01_k».proof.Proof.RefValue.Drawn

@[expose] public section

set_option maxRecDepth 16384

noncomputable section

namespace Cert.RefValue

open Idealize.ShloMosaic Idealize.ShloMosaic.TcCoe Idealize.SL.Sem Idealize.ShloMosaic.StableHlo
open Cert.ReferenceIdeal Cert.ReferenceIdeal.Gen Cert.ReferenceIdeal.Value Cert.Match

/-- The array of mined cross-entropies. -/
def out0 (A1 : FVec Ideal KernelIdeal.S32x8732x81 .f32) (A2 : FVec Ideal KernelIdeal.S8732x4 .f32) (A3 : FVec Ideal KernelIdeal.S32x20x5 .f32)
    (L : Fin 32 → Fin 20 → Fin 80) : FVec Ideal KernelIdeal.S32x1x8732 .f32 :=
  fun i => max (mined (boxes A3 (i 0)) (priors A2) (L (i 0)) (scores A1 (i 0)) (i 2)) 0

/-- The array of sums. -/
def out1 (A1 : FVec Ideal KernelIdeal.S32x8732x81 .f32) (A2 : FVec Ideal KernelIdeal.S8732x4 .f32) (A3 : FVec Ideal KernelIdeal.S32x20x5 .f32)
    (L : Fin 32 → Fin 20 → Fin 80) : FVec Ideal KernelIdeal.S32x1x128 .f32 :=
  fun i => stats (boxes A3 (i 0)) (priors A2) (L (i 0)) (scores A1 (i 0)) (i 2)

section
variable (V0 : Valuation τ sig (Elt Ideal)) (A1 : FVec Ideal KernelIdeal.S32x8732x81 .f32)
  (A2 : FVec Ideal KernelIdeal.S8732x4 .f32) (A3 : FVec Ideal KernelIdeal.S32x20x5 .f32)
  (h1 : V0 (Proc.devRef .tc main_arg1) = A1) (h2 : V0 (Proc.devRef .tc main_arg2) = A2) (h3 : V0 (Proc.devRef .tc main_arg3) = A3)
  (hQ : ∀ p k, ∃ r : ℝ, priors A2 p k = r) (hX : ∀ b p c, ∃ r : ℝ, scores A1 b p c = r)
  (L : Fin 32 → Fin 20 → Fin 80) (hL : ∀ b o, boxes A3 b o 4 = (((L b o : ℕ) : ℝ) : EReal))

include h1 h2 h3 hQ hX hL

/-- The reference's first result. -/
theorem first_eq : res0 (res_main_v171 V0) (res_main_v198 V0) = out0 A1 A2 A3 L := by
  funext i
  idx_vars i
  obtain rfl : i1 = 0 := Subsingleton.elim _ _
  exact res0_eq (boxes A3) (priors A2) L (scores A1) _ _ hX (v171_eq V0 A2 A3 h2 h3 hQ L hL)
    (v198_eq V0 A1 A2 A3 h1 h2 h3 hQ L hL hX) i0 i2

/-- The reference's second result. -/
theorem second_eq : res1 (sumL (res_main_v171 V0) (res_main_v172 V0) (res_main_v173 V0)) (sumC (res_main_v171 V0) (res_main_v198 V0)) (sumN (res_main_v171 V0)) = out1 A1 A2 A3 L := by
  funext i
  idx_vars i
  obtain rfl : i1 = 0 := Subsingleton.elim _ _
  have hpos := v171_eq V0 A2 A3 h2 h3 hQ L hL
  have hw := v198_eq V0 A1 A2 A3 h1 h2 h3 hQ L hL hX
  have hd := v172_eq V0 A2 A3 h2 h3 hQ
  refine (res1_eq _ _ _ i0 i2).trans ?_
  rw [sumL_eq (boxes A3) (priors A2) L _ _ (res_main_v173 V0) hpos hd rfl, sumC_eq (boxes A3) (priors A2) L (scores A1) _ _ hX hpos hw,
    sumN_eq (boxes A3) (priors A2) L _ hpos]
  rfl

end

/-- Call 1 and the reference compute equal arrays. -/
theorem algebraic : Cert.algebraic_KernelIdeal_ReferenceIdeal_pre_drawn (hPre_drawn := Cert.Pre_drawn.Gen.facts)
    (hKernelIdeal := Cert.KernelIdeal.Gen.facts) (hReferenceIdeal := Cert.ReferenceIdeal.Gen.facts) := by
  intro m g m' g' hpre hagree
  have hX := fun c => Cert.Drawn.scores_real _ _ _ _ (hpre c).1
  have hQ := fun c => Cert.Drawn.priors_real _ _ _ _ (hpre c).2.1
  choose L hL using fun c => Cert.Drawn.label_nat _ _ _ _ (hpre c).2.2
  refine ⟨fun c => out0 (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (L c),
    fun c => out1 (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (L c), ?_, ?_⟩
  · run_from Cert.KernelIdeal.Gen.run_main m g
    · exact final4 m c (L c) (hL c)
    · exact final5 m c (L c) (hL c)
  · refine (θ_run _ _ _).mono (fun r h c => ?_) (Cert.ReferenceIdeal.Value.run m' g')
    obtain ⟨e0, e1, k0, k1, k2, k3⟩ := h c
    obtain ⟨a0, a1, a2, a3⟩ := hagree c
    have b1 : launchContents m' c (Proc.devRef .tc main_arg1) = _ := a1
    have b2 : launchContents m' c (Proc.devRef .tc main_arg2) = _ := a2
    have b3 : launchContents m' c (Proc.devRef .tc main_arg3) = _ := a3
    refine ⟨e0.trans ?_, e1.trans ?_, k0, k1, k2, k3⟩
    · exact first_eq (launchContents m' c) _ _ _ b1 b2 b3 (hQ c) (hX c) (L c) (hL c)
    · exact second_eq (launchContents m' c) _ _ _ b1 b2 b3 (hQ c) (hX c) (L c) (hL c)

end Cert.RefValue

end
-- ==== Proof.Mining.Search.lean ====
/- Finding the k-th greatest of a row of words by halving an interval, and the same word read out of the row in
   ascending order: words read as signed integers, with no kernel in sight. -/
module

public import Idealize.ShloMosaic.Lib.SortFacts
public import Mathlib.Tactic.Linarith
public import Mathlib.Tactic.Ring
public import Mathlib.Order.Interval.Finset.Fin

@[expose] public section

noncomputable section

namespace Cert.Mine

open Idealize.ShloMosaic

/-- How many words of the row are at least `v`. -/
def count {n : ℕ} (w : Fin n → BitVec 32) (v : ℤ) : ℕ := (Finset.univ.filter fun j => v ≤ (w j).toInt).card

theorem count_le {n : ℕ} (w : Fin n → BitVec 32) (v : ℤ) : count w v ≤ n := by
  unfold count
  exact (Finset.card_le_univ _).trans (by simp)

/-- The higher the bound, the fewer the words. -/
theorem count_anti {n : ℕ} (w : Fin n → BitVec 32) {a b : ℤ} (h : a ≤ b) : count w b ≤ count w a := by
  unfold count
  exact Finset.card_le_card fun j hj => by
    simp only [Finset.mem_filter, Finset.mem_univ, true_and] at hj ⊢
    omega

/-- The search's state after `t` steps: at least `k` words reach the lower end, fewer reach the upper end, and the
    interval's length is within `2 ^ (31 - t)`. -/
structure Inv {n : ℕ} (w : Fin n → BitVec 32) (k : ℕ) (t : ℕ) (lo hi : BitVec 32) : Prop where
  nonneg : 0 ≤ lo.toInt
  lt : lo.toInt < hi.toInt
  gap : hi.toInt - lo.toInt ≤ 2 ^ (31 - t)
  low : k ≤ count w lo.toInt
  high : count w hi.toInt < k

/-- The middle of the interval, as the words compute it. -/
theorem toInt_mid (lo hi : BitVec 32) (h0 : 0 ≤ lo.toInt) (h1 : lo.toInt < hi.toInt) :
    (IntOp.addi lo (IntOp.divsi .vector (IntOp.subi hi lo) 2#32)).toInt = lo.toInt + (hi.toInt - lo.toInt) / 2 := by
  have hhi := @BitVec.toInt_lt 32 hi
  have hs : (hi - lo).toInt = hi.toInt - lo.toInt := by
    rw [BitVec.toInt_sub, Int.bmod_eq_of_le] <;> omega
  have hc : ¬ IntOp.SDivCorner (hi - lo) 2#32 := by
    unfold IntOp.SDivCorner
    rintro (h | ⟨_, h⟩) <;> exact absurd h (by decide)
  unfold IntOp.addi IntOp.divsi IntOp.subi
  rw [if_neg hc]
  have hd : ((hi - lo).sdiv 2#32).toInt = (hi.toInt - lo.toInt) / 2 := by
    rw [BitVec.toInt_sdiv_of_ne_or_ne _ _ (Or.inr (by decide)), hs, show (2#32 : BitVec 32).toInt = 2 from by decide,
      Int.tdiv_eq_ediv_of_nonneg (by omega)]
  rw [BitVec.toInt_add, hd, Int.bmod_eq_of_le] <;> omega

/-- One step keeps the state. -/
theorem Inv.step {n : ℕ} {w : Fin n → BitVec 32} {k t : ℕ} {lo hi : BitVec 32} (h : Inv w k t lo hi) (ht : t < 31) (mid : BitVec 32)
    (hm : mid.toInt = lo.toInt + (hi.toInt - lo.toInt) / 2) :
    Inv w k (t + 1) (if k ≤ count w mid.toInt then mid else lo) (if k ≤ count w mid.toInt then hi else mid) := by
  obtain ⟨h0, h1, h2, h3, h4⟩ := h
  have e : (2 : ℤ) ^ (31 - t) = 2 * 2 ^ (31 - (t + 1)) := by
    rw [show 31 - t = (31 - (t + 1)) + 1 from by omega, pow_succ]; ring
  rw [e] at h2
  have hp : (1 : ℤ) ≤ 2 ^ (31 - (t + 1)) := one_le_pow₀ (by norm_num)
  by_cases hk : k ≤ count w mid.toInt
  · rw [if_pos hk, if_pos hk]
    exact ⟨by omega, by omega, by omega, hk, h4⟩
  · rw [if_neg hk, if_neg hk]
    have hne : lo.toInt ≠ mid.toInt := fun e => hk (e ▸ h3)
    exact ⟨h0, by omega, by omega, h3, by omega⟩

/-- After 31 steps the lower end is the greatest bound that `k` words reach. -/
theorem Inv.last {n : ℕ} {w : Fin n → BitVec 32} {k : ℕ} {lo hi : BitVec 32} (h : Inv w k 31 lo hi) :
    k ≤ count w lo.toInt ∧ count w (lo.toInt + 1) < k := by
  obtain ⟨h0, h1, h2, h3, h4⟩ := h
  have e : hi.toInt = lo.toInt + 1 := by
    have : (2 : ℤ) ^ (31 - 31) = 1 := by norm_num
    omega
  exact ⟨h3, e ▸ h4⟩

/-- The search's state after `t` steps where every bound is reached: the upper end never moves. -/
structure Top (t : ℕ) (lo hi : BitVec 32) : Prop where
  nonneg : 0 ≤ lo.toInt
  lt : lo.toInt < hi.toInt
  gap : hi.toInt - lo.toInt ≤ 2 ^ (31 - t)
  high : hi.toInt = 2147483647

/-- One such step keeps the state. -/
theorem Top.step {t : ℕ} {lo hi : BitVec 32} (h : Top t lo hi) (ht : t < 31) (mid : BitVec 32)
    (hm : mid.toInt = lo.toInt + (hi.toInt - lo.toInt) / 2) : Top (t + 1) mid hi := by
  obtain ⟨h0, h1, h2, h3⟩ := h
  have e : (2 : ℤ) ^ (31 - t) = 2 * 2 ^ (31 - (t + 1)) := by
    rw [show 31 - t = (31 - (t + 1)) + 1 from by omega, pow_succ]; ring
  rw [e] at h2
  have hp : (1 : ℤ) ≤ 2 ^ (31 - (t + 1)) := one_le_pow₀ (by norm_num)
  exact ⟨by omega, by omega, by omega, h3⟩

/-- After 31 such steps the lower end is the greatest word but one. -/
theorem Top.last {lo hi : BitVec 32} (h : Top 31 lo hi) : lo.toInt = 2147483646 := by
  obtain ⟨h0, h1, h2, h3⟩ := h
  have : (2 : ℤ) ^ (31 - 31) = 1 := by norm_num
  omega

/-- The row rearranged so that it ascends. -/
structure Ascends {n : ℕ} (w s : Fin n → BitVec 32) : Prop where
  perm : ∃ σ : Fin n → Fin n, Function.Bijective σ ∧ ∀ i, s i = w (σ i)
  mono : ∀ i j, i ≤ j → (s i).toInt ≤ (s j).toInt

theorem Ascends.count_eq {n : ℕ} {w s : Fin n → BitVec 32} (h : Ascends w s) (v : ℤ) : count s v = count w v := by
  obtain ⟨σ, hσ, he⟩ := h.perm
  unfold count
  refine Finset.card_bij (fun j _ => σ j) ?_ (fun a _ b _ hab => hσ.1 hab) ?_
  · intro j hj
    simp only [Finset.mem_filter, Finset.mem_univ, true_and] at hj ⊢
    rw [← he]; exact hj
  · intro b hb
    obtain ⟨a, rfl⟩ := hσ.2 b
    simp only [Finset.mem_filter, Finset.mem_univ, true_and] at hb ⊢
    exact ⟨a, by rw [he]; exact hb, rfl⟩

/-- At least `k` words reach the word at place `n - k` of the ascending row. -/
theorem Ascends.reached {n : ℕ} {w s : Fin n → BitVec 32} (h : Ascends w s) (p : Fin n) : n - p ≤ count w (s p).toInt := by
  rw [← h.count_eq]
  unfold count
  have : (Finset.univ.filter fun j : Fin n => p ≤ j).card = n - p := by
    rw [Finset.filter_le_eq_Ici, Fin.card_Ici]
  rw [← this]
  exact Finset.card_le_card fun j hj => by
    simp only [Finset.mem_filter, Finset.mem_univ, true_and] at hj ⊢
    exact h.mono _ _ hj

/-- Fewer than `k` words are above it. -/
theorem Ascends.passed {n : ℕ} {w s : Fin n → BitVec 32} (h : Ascends w s) (p : Fin n) : count w ((s p).toInt + 1) < n - p := by
  rw [← h.count_eq]
  unfold count
  have hc : (Finset.univ.filter fun j : Fin n => p < j).card = n - 1 - p := by
    rw [Finset.filter_lt_eq_Ioi, Fin.card_Ioi]
  have hle : (Finset.univ.filter fun j : Fin n => (s p).toInt + 1 ≤ (s j).toInt).card ≤ (Finset.univ.filter fun j : Fin n => p < j).card :=
    Finset.card_le_card fun j hj => by
      simp only [Finset.mem_filter, Finset.mem_univ, true_and] at hj ⊢
      by_contra hn
      have := h.mono j p (not_lt.1 hn)
      omega
  have := p.isLt
  omega

/-- The search finds the word at place `n - k` of the ascending row. -/
theorem search_eq {n : ℕ} {w s : Fin n → BitVec 32} (h : Ascends w s) (p : Fin n) {lo hi : BitVec 32} (hi31 : Inv w (n - p) 31 lo hi) :
    lo = s p := by
  obtain ⟨h1, h2⟩ := hi31.last
  have h3 := h.reached p
  have h4 := h.passed p
  apply BitVec.eq_of_toInt_eq
  rcases lt_trichotomy lo.toInt (s p).toInt with hlt | heq | hgt
  · have := count_anti w (show lo.toInt + 1 ≤ (s p).toInt by omega)
    omega
  · exact heq
  · have := count_anti w (show (s p).toInt + 1 ≤ lo.toInt by omega)
    omega

/-- A stable sort by the signed `<` of words puts the row in ascending order. -/
theorem ascends_sorted {n : ℕ} (w : Fin n → BitVec 32) (B : Fin n → Fin n → Bool) (hB : ∀ a b, B a b = decide ((w a).toInt < (w b).toInt)) :
    Ascends w fun i => w (sortedFrom B i) := by
  refine ⟨⟨_, ⟨sortedFrom_injective B, sortedFrom_surjective B⟩, fun _ => rfl⟩, fun i j hij => ?_⟩
  rcases hij.eq_or_lt with rfl | hlt
  · exact le_rfl
  · have := sortedFrom_noInversion B B (fun a b h => by rw [hB] at h ⊢; simp only [decide_eq_true_eq, decide_eq_false_iff_not] at h ⊢; omega)
      (fun _ _ h => h) (fun a b c h1 h2 => by rw [hB] at h1 h2 ⊢; simp only [decide_eq_false_iff_not] at h1 h2 ⊢; omega) i j hlt
    rw [hB] at this
    simp only [decide_eq_false_iff_not] at this
    omega

end Cert.Mine

end
-- ==== Proof.Mining.Loop.lean ====
/- The kernel's loop, row by row: 31 halvings of an interval of words, so that its lower end is the k-th greatest word
   of the row. -/
module

public import proofs.«01_k».proof.Proof.Gen.Mining.Skeleton
public import proofs.«01_k».proof.Proof.Mining.Search
public import Idealize.ShloMosaic.Lib.Pointwise
public import Idealize.ShloMosaic.Lib.IndicatorCount
public import Idealize.ShloMosaic.Lib.Exec
public import Idealize.ShloMosaic.PureOps.BitExact

@[expose] public section

set_option maxRecDepth 16384

noncomputable section

namespace Cert.Mine

open Idealize.ShloMosaic Idealize.ShloMosaic.TcCoe
open Cert.Mining Cert.Mining.Gen

/-- A row of ones and zeros added up is the number of its ones. -/
theorem ones_eq (p : IVec S32x8732 1) (b : Fin 32) :
    shapeCast S32x1 (multiReductionI .add [1] S32 (extui 32 p natLt_1_32) 0#32 reduces_S32x8732_S32 rfl) shapeCasts_S32_S32x1 (ix2 b 0)
      = BitVec.ofNat 32 (Finset.univ.filter fun j : Fin 8732 => p (ix2 b j) = 1#1).card := by
  rw [← IndicatorCount.fold_addi_setWidth_eq_card (w := 32) (fun j : Fin 8732 => p (ix2 b j)) Finset.univ]
  pointwise [multiReductionI_eq_fold]

/-- The row's words. -/
def row (x0 : Vec Bits S32x1x8732 .f32) (b : Fin 32) : Fin 8732 → BitVec 32 := fun j => k0_pay6 x0 (ix2 b j)

/-- A one-bit word made of a truth value is one exactly when it is true. -/
theorem ofBool_eq_one (p : Bool) : BitVec.ofBool p = 1#1 ↔ p = true := by cases p <;> decide

/-- The loop's test on a row: as many of its words reach the middle as are to be mined. -/
theorem reaches_eq (x0 : Vec Bits S32x1x8732 .f32) (x1 : Vec Bits S32x1x128 .f32) (lo hi : IVec S32x1 32) (b : Fin 32) :
    k0_pay10 x0 x1 lo hi (ix2 b 0) = 1#1 ↔ (k0_pay5 x1 (ix2 b 0)).toInt ≤ (count (row x0 b) (k0_pay9 lo hi (ix2 b 0)).toInt : ℤ) := by
  have hf : k0_pay10 x0 x1 lo hi = cmpi .sge (shapeCast S32x1 (multiReductionI .add [1] S32 (extui 32
      (cmpi .sge (k0_pay6 x0) (broadcastTo S32x8732 (k0_pay9 lo hi) broadcasts_S32x1_S32x8732)) natLt_1_32) 0#32 reduces_S32x8732_S32 rfl) shapeCasts_S32_S32x1)
      (k0_pay5 x1) := rfl
  have hb : ∀ j : Fin 8732, broadcastTo S32x8732 (k0_pay9 lo hi) broadcasts_S32x1_S32x8732 (ix2 b j) = k0_pay9 lo hi (ix2 b 0) := by
    intro j
    generalize k0_pay9 lo hi = m
    pointwise
  have hc : (Finset.univ.filter fun j : Fin 8732 => (cmpi .sge (k0_pay6 x0) (broadcastTo S32x8732 (k0_pay9 lo hi) broadcasts_S32x1_S32x8732)) (ix2 b j) = 1#1).card
      = count (row x0 b) (k0_pay9 lo hi (ix2 b 0)).toInt := by
    unfold count
    congr 1
    refine Finset.filter_congr fun j _ => ?_
    show IntOp.cmpi .sge (k0_pay6 x0 (ix2 b j)) (broadcastTo S32x8732 (k0_pay9 lo hi) broadcasts_S32x1_S32x8732 (ix2 b j)) = 1#1 ↔ _
    rw [hb]
    unfold IntOp.cmpi
    rw [ofBool_eq_one]
    simp only [BitVec.sle, decide_eq_true_eq]
    rfl
  rw [hf]
  show IntOp.cmpi .sge (shapeCast S32x1 _ _ (ix2 b 0)) _ = 1#1 ↔ _
  rw [ones_eq, hc]
  unfold IntOp.cmpi
  rw [ofBool_eq_one]
  simp only [BitVec.sle, decide_eq_true_eq]
  have hl := count_le (row x0 b) (k0_pay9 lo hi (ix2 b 0)).toInt
  generalize (k0_pay5 x1 (ix2 b 0)).toInt = K
  rw [BitVec.toInt_eq_toNat_of_lt (by simp only [BitVec.toNat_ofNat]; omega)]
  simp only [BitVec.toNat_ofNat]
  omega

/-- The middle, on a row. -/
theorem mid_eq (lo hi : IVec S32x1 32) (i : S32x1.Idx) :
    k0_pay9 lo hi i = IntOp.addi (lo i) (IntOp.divsi .vector (IntOp.subi (hi i) (lo i)) 2#32) := rfl

/-- One step of the loop keeps every row's state. -/
theorem step_inv (x0 : Vec Bits S32x1x8732 .f32) (x1 : Vec Bits S32x1x128 .f32) (lo hi : IVec S32x1 32) (b : Fin 32) (k t : ℕ)
    (hk : (k0_pay5 x1 (ix2 b 0)).toInt = k) (ht : t < 31) (h : Inv (row x0 b) k t (lo (ix2 b 0)) (hi (ix2 b 0))) :
    Inv (row x0 b) k (t + 1) (k0_pay11 x0 x1 lo hi (ix2 b 0)) (k0_pay12 x0 x1 lo hi (ix2 b 0)) := by
  have hm := h.step ht (k0_pay9 lo hi (ix2 b 0)) (by rw [mid_eq]; exact toInt_mid _ _ h.nonneg h.lt)
  have e := reaches_eq x0 x1 lo hi b
  rw [hk, Nat.cast_le] at e
  have e11 : k0_pay11 x0 x1 lo hi (ix2 b 0) = if k0_pay10 x0 x1 lo hi (ix2 b 0) = 1#1 then k0_pay9 lo hi (ix2 b 0) else lo (ix2 b 0) := rfl
  have e12 : k0_pay12 x0 x1 lo hi (ix2 b 0) = if k0_pay10 x0 x1 lo hi (ix2 b 0) = 1#1 then hi (ix2 b 0) else k0_pay9 lo hi (ix2 b 0) := rfl
  rw [e11, e12]
  simp only [e]
  exact hm

/-- Steps taken one after another keep what each step keeps. -/
theorem foldl_keeps {σ ι : Type} (g : ι → σ → σ) (I : ℕ → σ → Prop) (n : ℕ) (hg : ∀ t i s, t < n → I t s → I (t + 1) (g i s)) :
    ∀ (l : List ι) (t : ℕ) (s : σ), t + l.length ≤ n → I t s → I (t + l.length) (l.foldl (fun acc i => g i acc) s)
  | [], t, s, _, h => h
  | i :: l, t, s, hl, h => by
    rw [List.length_cons] at hl
    have := foldl_keeps g I n hg l (t + 1) (g i s) (by omega) (hg t i s (by omega) h)
    rw [List.length_cons, show t + (l.length + 1) = t + 1 + l.length from by omega]
    exact this

/-- The step of the loop, on the pair of ends. -/
def step (x0 : Vec Bits S32x1x8732 .f32) (x1 : Vec Bits S32x1x128 .f32) (_ : Fin k0_t1_loop.trips) (s : IVec S32x1 32 × IVec S32x1 32) :
    IVec S32x1 32 × IVec S32x1 32 := (k0_pay11 x0 x1 s.1 s.2, k0_pay12 x0 x1 s.1 s.2)

/-- The state of row `b`'s search, of the pair of ends. -/
def RowInv (x0 : Vec Bits S32x1x8732 .f32) (b : Fin 32) (k t : ℕ) (s : IVec S32x1 32 × IVec S32x1 32) : Prop :=
  Inv (row x0 b) k t (s.1 (ix2 b 0)) (s.2 (ix2 b 0))

theorem step_keeps (x0 : Vec Bits S32x1x8732 .f32) (x1 : Vec Bits S32x1x128 .f32) (b : Fin 32) (k : ℕ)
    (hk : (k0_pay5 x1 (ix2 b 0)).toInt = k) (t : ℕ) (i : Fin k0_t1_loop.trips) (s : IVec S32x1 32 × IVec S32x1 32) (ht : t < 31)
    (h : RowInv x0 b k t s) : RowInv x0 b k (t + 1) (step x0 x1 i s) := by
  unfold RowInv step at *
  dsimp only
  exact step_inv x0 x1 s.1 s.2 b k t hk ht h

/-- The loop's state after its 31 steps. -/
def found (x0 : Vec Bits S32x1x8732 .f32) (x1 : Vec Bits S32x1x128 .f32) : IVec S32x1 32 × IVec S32x1 32 :=
  Scf.fold (step x0 x1) (k0_pay7, k0_pay8)

/-- So the loop ends with every row's interval one word long. -/
theorem found_inv (x0 : Vec Bits S32x1x8732 .f32) (x1 : Vec Bits S32x1x128 .f32) (b : Fin 32) (k : ℕ)
    (hk : (k0_pay5 x1 (ix2 b 0)).toInt = k) (h1 : 1 ≤ k) (h2 : k ≤ 8732) (hw : ∀ j, 0 ≤ (row x0 b j).toInt)
    (hu : ∀ j, (row x0 b j).toInt < 2147483647) :
    Inv (row x0 b) k 31 ((found x0 x1).1 (ix2 b 0)) ((found x0 x1).2 (ix2 b 0)) := by
  unfold found
  rw [Scf.fold_eq]
  have hlen : (List.finRange k0_t1_loop.trips).length = 31 := by rw [List.length_finRange]; decide
  have := foldl_keeps (step x0 x1) (RowInv x0 b k) 31 (step_keeps x0 x1 b k hk) (List.finRange k0_t1_loop.trips) 0 (k0_pay7, k0_pay8)
    (by rw [hlen]) ?_
  · rw [hlen] at this
    exact this
  · have e7 : (k0_pay7 (ix2 b 0)).toInt = 0 := by
      show (0#32 : BitVec 32).toInt = 0
      decide
    have e8 : (k0_pay8 (ix2 b 0)).toInt = 2147483647 := by
      show (2147483647#32 : BitVec 32).toInt = 2147483647
      decide
    unfold RowInv
    refine ⟨by rw [e7], by rw [e7, e8]; norm_num, by rw [e7, e8]; norm_num, ?_, ?_⟩
    · rw [e7]
      unfold count
      rw [Finset.filter_true_of_mem fun j _ => hw j, Finset.card_univ, Fintype.card_fin]
      exact h2
    · rw [e8]
      unfold count
      rw [Finset.filter_false_of_mem fun j _ => not_le.2 (hu j), Finset.card_empty]
      exact h1

/-- One step of the loop, on a row of which nothing is to be mined. -/
theorem step_top (x0 : Vec Bits S32x1x8732 .f32) (x1 : Vec Bits S32x1x128 .f32) (lo hi : IVec S32x1 32) (b : Fin 32) (t : ℕ)
    (hk : (k0_pay5 x1 (ix2 b 0)).toInt ≤ 0) (ht : t < 31) (h : Top t (lo (ix2 b 0)) (hi (ix2 b 0))) :
    Top (t + 1) (k0_pay11 x0 x1 lo hi (ix2 b 0)) (k0_pay12 x0 x1 lo hi (ix2 b 0)) := by
  have hm := h.step ht (k0_pay9 lo hi (ix2 b 0)) (by rw [mid_eq]; exact toInt_mid _ _ h.nonneg h.lt)
  have e : k0_pay10 x0 x1 lo hi (ix2 b 0) = 1#1 := (reaches_eq x0 x1 lo hi b).2 (hk.trans (Int.natCast_nonneg _))
  have e11 : k0_pay11 x0 x1 lo hi (ix2 b 0) = if k0_pay10 x0 x1 lo hi (ix2 b 0) = 1#1 then k0_pay9 lo hi (ix2 b 0) else lo (ix2 b 0) := rfl
  have e12 : k0_pay12 x0 x1 lo hi (ix2 b 0) = if k0_pay10 x0 x1 lo hi (ix2 b 0) = 1#1 then hi (ix2 b 0) else k0_pay9 lo hi (ix2 b 0) := rfl
  rw [e11, e12, if_pos e, if_pos e]
  exact hm

/-- That state, of the pair of ends. -/
def RowTop (b : Fin 32) (t : ℕ) (s : IVec S32x1 32 × IVec S32x1 32) : Prop := Top t (s.1 (ix2 b 0)) (s.2 (ix2 b 0))

theorem step_keeps_top (x0 : Vec Bits S32x1x8732 .f32) (x1 : Vec Bits S32x1x128 .f32) (b : Fin 32)
    (hk : (k0_pay5 x1 (ix2 b 0)).toInt ≤ 0) (t : ℕ) (i : Fin k0_t1_loop.trips) (s : IVec S32x1 32 × IVec S32x1 32) (ht : t < 31)
    (h : RowTop b t s) : RowTop b (t + 1) (step x0 x1 i s) := by
  unfold RowTop step at *
  dsimp only
  exact step_top x0 x1 s.1 s.2 b t hk ht h

/-- So on such a row the loop ends at the greatest word but one. -/
theorem found_top (x0 : Vec Bits S32x1x8732 .f32) (x1 : Vec Bits S32x1x128 .f32) (b : Fin 32)
    (hk : (k0_pay5 x1 (ix2 b 0)).toInt ≤ 0) : ((found x0 x1).1 (ix2 b 0)).toInt = 2147483646 := by
  refine Top.last (hi := (found x0 x1).2 (ix2 b 0)) ?_
  unfold found
  rw [Scf.fold_eq]
  have hlen : (List.finRange k0_t1_loop.trips).length = 31 := by rw [List.length_finRange]; decide
  have := foldl_keeps (step x0 x1) (RowTop b) 31 (step_keeps_top x0 x1 b hk) (List.finRange k0_t1_loop.trips) 0
    (k0_pay7, k0_pay8) (by rw [hlen]) ?_
  · rw [hlen] at this
    exact this
  · have e7 : (k0_pay7 (ix2 b 0)).toInt = 0 := by
      show (0#32 : BitVec 32).toInt = 0
      decide
    have e8 : (k0_pay8 (ix2 b 0)).toInt = 2147483647 := by
      show (2147483647#32 : BitVec 32).toInt = 2147483647
      decide
    unfold RowTop
    exact ⟨by rw [e7], by rw [e7, e8]; norm_num, by rw [e7, e8]; norm_num, e8⟩

end Cert.Mine

end
-- ==== Proof.Mining.KernelRun.lean ====
/- The array of totals the mining kernel leaves, of its two arguments. -/
module

public import proofs.«01_k».proof.Proof.Gen.Mining.Frame
public import proofs.«01_k».proof.Proof.Mining.Loop
public import Idealize.ShloMosaic.Lib.Pipeline.ValueKit

@[expose] public section

set_option maxRecDepth 16384

noncomputable section

namespace Cert.Mine

open Idealize.ShloMosaic Idealize.ShloMosaic.TcCoe Idealize.SL.Sem Idealize.ShloMosaic.StableHlo
open Idealize.ShloMosaic.Pipeline (Dat)
open Cert.Mining Cert.Mining.Gen

/-- The three totals, of the mined losses and the sums of each image. -/
def totals (x0 : Vec Bits S32x1x8732 .f32) (x1 : Vec Bits S32x1x128 .f32) : Vec Bits S1x128 .f32 :=
  k0_pay1 (k0_pay4 x1) (k0_pay13 x0 x1 (found x0 x1).1) (k0_pay14 x1) (k0_pay15 x1)

/-- What the body leaves in its output block. -/
theorem out_eq (c : Dev nD) (arg0 : Memref sig .tc .vmem S32x1x8732 .f32) (harg0 : arg0.IsWhole) (arg1 : Memref sig .tc .vmem S32x1x128 .f32) (harg1 : arg1.IsWhole) (arg2 : Memref sig .tc .vmem S1x128 .f32) (harg2 : arg2.IsWhole)
    (x0 : Vec Bits S32x1x8732 .f32) (x1 : Vec Bits S32x1x128 .f32) :
    out0_A_2 c arg0 harg0 arg1 harg1 arg2 harg2 x0 x1 = totals x0 x1 := by
  frame_out
  rfl

section
variable (m : (ℓ : Loc nD τ sig) → Buf (Elt Bits) ℓ) (c : Dev nD)

/-- The windows' index maps: one block each, the whole array. -/
theorem idx : ∀ t : Fin cfg0.N, win0_0.index t = ![0, 0, 0] ∧ win0_1.index t = ![0, 0, 0] ∧ win0_2.index t = ![0, 0] :=
  (by decide +kernel : ∀ t : Fin grid0.N, _)

theorem block0 : iblk m c 0 t0_0 = m ((c : Thread nD τ).loc main_arg0) := by
  funext y
  blk_point [iblk, V, V0, idx t0_0]

theorem block1 : iblk m c 1 t0_0 = m ((c : Thread nD τ).loc main_arg1) := by
  funext y
  blk_point [iblk, V, V0, idx t0_0]

/-- The array of totals after the run. -/
theorem final2 : (dats m 0 c).arrAt 2 (cfgs 0).N
    = totals (m ((c : Thread nD τ).loc main_arg0)) (m ((c : Thread nD τ).loc main_arg1)) := by
  refine (dats m 0 c).arrAt_eq_of_after_last 2 t0_0 (by decide +kernel) _ fun j => ?_
  rw [after0_2]
  unfold outsAt0
  rw [out_eq, block0, block1]
  blk_simp

end

/-- One total over the greater of the count and one. -/
def mean (T : FVec Bits S1x1 .f32) (N : FVec Bits S1x1 .f32) : FVec Bits S1 .f32 :=
  broadcastInDim S1 ![] bcast_S_S1 (Host.divf (shapeCast S_ T shapeCasts_S1x1_S_ : FVec Bits S_ .f32)
    (maximumf (shapeCast S_ N shapeCasts_S1x1_S_ : FVec Bits S_ .f32) (constant S_ .f32 0x3F800000#32)))

/-- The two losses, of the array of totals. -/
def tail (T : FVec Bits S1x128 .f32) : FVec Bits S2 .f32 :=
  concatenate S2 0
    [⟨S1, mean (extractStridedSlice S1x1 ![0, 0] T slices_S1x128_S1x1_0_0) (extractStridedSlice S1x1 ![0, 2] T slices_S1x128_S1x1_0_2)⟩,
     ⟨S1, mean (extractStridedSlice S1x1 ![0, 1] T slices_S1x128_S1x1_0_1) (extractStridedSlice S1x1 ![0, 2] T slices_S1x128_S1x1_0_2)⟩]
    concatenates_S1_S1_S2_d0

/-- The host lines after the call. -/
theorem after_tail (U : Valuation τ sig (Elt Bits)) :
    StableHlo.after (hostOps1 (F := Bits)) U (Proc.devRef .tc main_v12) = tail (U (Proc.devRef .tc main_v0)) := by
  simp only [hostOps1]
  after_results_simp
  rfl

section
variable (m : (ℓ : Loc nD τ sig) → Buf (Elt Bits) ℓ) (c : Dev nD)

/-- The kernel's result. -/
theorem result_eq : Pipeline.afterTail₀ cfgs (dats m) 0 (V0 m) [hostOps1] c main_v12
    = tail (totals (m ((c : Thread nD τ).loc main_arg0)) (m ((c : Thread nD τ).loc main_arg1))) := by
  have h := Pipeline.withArrays_arr (cfgs 0).spec (by decide) c (V0 m c) (fun w => (dats m 0 c).arrAt w (cfgs 0).N) 2
  rw [← final2 m c]
  exact (after_tail _).trans (congrArg tail h)

end

end Cert.Mine

end
-- ==== Proof.Mining.ReferenceRun.lean ====
/- The arrays the mining reference's host lines hand its last call, and what that call and the lines after it leave. -/
module

public import proofs.«01_k».proof.Proof.Gen.MiningReference.Frame
public import Idealize.ShloMosaic.Lib.Pipeline.ValueKit

@[expose] public section

set_option maxRecDepth 16384

noncomputable section

namespace Cert.MineRef

open Idealize.ShloMosaic Idealize.ShloMosaic.TcCoe Idealize.SL.Sem Idealize.ShloMosaic.StableHlo
open Idealize.ShloMosaic.Pipeline (Dat)
open Cert.MiningReference Cert.MiningReference.Gen

/-- How many priors to mine of each image. -/
def numNeg (s : FVec Bits S32x128 .f32) : IVec S32x1 32 :=
  minsi (muli (broadcastInDim S32x1 ![] bcast_S_S32x1 (constantI S_ 32 3#32)) (fptosi 32 (extractStridedSlice S32x1 ![0, 2] s slices_S32x128_S32x1_0_2)))
    (broadcastInDim S32x1 ![] bcast_S_S32x1 (constantI S_ 32 8731#32))

/-- The place, in a row sorted upwards, of the last prior mined, or of the greatest word where none is. -/
def place (k : IVec S32x1 32) : IVec S32x1 32 :=
  subi (broadcastInDim S32x1 ![] bcast_S_S32x1 (constantI S_ 32 8732#32))
    (maxsi k (broadcastInDim S32x1 ![] bcast_S_S32x1 (constantI S_ 32 1#32)))

/-- A place counted from the end, if it is negative. -/
def wrapped (p : IVec S32x1 32) : IVec S32x1x1 32 :=
  shapeCast S32x1x1 (select (cmpi .slt p (broadcastInDim S32x1 ![] bcast_S_S32x1 (constantI S_ 32 0#32)))
    (addi p (broadcastInDim S32x1 ![] bcast_S_S32x1 (constantI S_ 32 8732#32))) p) shapeCasts_S32x1_S32x1x1

/-- Whether each place is one of the row's. -/
def inRange (w : IVec S32x1x1 32) : IVec S32x1 1 :=
  Host.reduce IntOp.andi (andi (cmpi .sge w (broadcastInDim S32x1x1 ![] bcast_S_S32x1x1 (constantI S_ 32 0#32)))
    (cmpi .sle w (broadcastInDim S32x1x1 ![0, 1, 2] bcast_S1x1x1_S32x1x1_0_1_2 (broadcastInDim S1x1x1 ![2] bcast_S1_S1x1x1_2 (constantI S1 32 8731#32)))))
    (constantI S_ 1 1#1) reducesTo_S32x1x1_S32x1_d2 h_S_

/-- The words at the places, of the sorted rows. -/
def taken (ranked : IVec S32x8732 32) (p : IVec S32x1 32) : IVec S32x1 32 :=
  select (inRange (wrapped p)) (Host.gather gather_S32x8732_S32x1x1_S32x1_n_1_0_0_1_2_11 ranked (wrapped p))
    (broadcastInDim S32x1 ![] bcast_S_S32x1 (constantI S_ 32 2147483648#32))

/-- Each row's words in ascending order. -/
def ranked (w : IVec S32x8732 32) : IVec S32x8732 32 := Host.sort S32x8732 1 comparator_i32_d1 w

section
variable (U : Valuation τ sig (Elt Bits))

theorem at_v0 : StableHlo.after (List.flatten [hostOps0, hostOps0_1, hostOps0_2, hostOps0_3]) U (Proc.devRef .tc main_v0)
    = shapeCast S32x8732 (U (Proc.devRef .tc main_arg0)) shapeCasts_S32x1x8732_S32x8732 := by
  simp only [hostOps0, hostOps0_1, hostOps0_2, hostOps0_3, List.flatten_cons, List.flatten_nil, List.append_nil, List.cons_append, List.nil_append]
  after_results_simp
  rfl

theorem at_v1 : StableHlo.after (List.flatten [hostOps0, hostOps0_1, hostOps0_2, hostOps0_3]) U (Proc.devRef .tc main_v1)
    = shapeCast S32x128 (U (Proc.devRef .tc main_arg1)) shapeCasts_S32x1x128_S32x128 := by
  simp only [hostOps0, hostOps0_1, hostOps0_2, hostOps0_3, List.flatten_cons, List.flatten_nil, List.append_nil, List.cons_append, List.nil_append]
  after_results_simp
  rfl

theorem at_v7 : StableHlo.after (List.flatten [hostOps0, hostOps0_1, hostOps0_2, hostOps0_3]) U (Proc.devRef .tc main_v7)
    = numNeg (shapeCast S32x128 (U (Proc.devRef .tc main_arg1)) shapeCasts_S32x1x128_S32x128) := by
  simp only [hostOps0, hostOps0_1, hostOps0_2, hostOps0_3, List.flatten_cons, List.flatten_nil, List.append_nil, List.cons_append, List.nil_append]
  after_results_simp
  rfl

theorem at_v8 : StableHlo.after (List.flatten [hostOps0, hostOps0_1, hostOps0_2, hostOps0_3]) U (Proc.devRef .tc main_v8)
    = bitcastToInt (F := Bits) (φ := .f32) (shapeCast S32x8732 (U (Proc.devRef .tc main_arg0)) shapeCasts_S32x1x8732_S32x8732) := by
  simp only [hostOps0, hostOps0_1, hostOps0_2, hostOps0_3, List.flatten_cons, List.flatten_nil, List.append_nil, List.cons_append, List.nil_append]
  after_results_simp
  rfl

theorem take_line (W : Valuation τ sig (Elt Bits)) : StableHlo.after (hostOps0_3 (F := Bits)) W (Proc.devRef .tc main_v14)
    = taken (W (Proc.devRef .tc main_v9)) (W (Proc.devRef .tc main_v13)) := by
  simp only [hostOps0_3]
  after_results_simp
  rfl

theorem at_v9 : StableHlo.after (List.flatten [hostOps0, hostOps0_1, hostOps0_2]) U (Proc.devRef .tc main_v9)
    = ranked (bitcastToInt (F := Bits) (φ := .f32) (shapeCast S32x8732 (U (Proc.devRef .tc main_arg0)) shapeCasts_S32x1x8732_S32x8732)) := by
  simp only [hostOps0, hostOps0_1, hostOps0_2, List.flatten_cons, List.flatten_nil, List.append_nil, List.cons_append, List.nil_append]
  after_results_simp
  unfold ranked
  rfl

theorem at_v13 : StableHlo.after (List.flatten [hostOps0, hostOps0_1, hostOps0_2]) U (Proc.devRef .tc main_v13)
    = place (numNeg (shapeCast S32x128 (U (Proc.devRef .tc main_arg1)) shapeCasts_S32x1x128_S32x128)) := by
  simp only [hostOps0, hostOps0_1, hostOps0_2, List.flatten_cons, List.flatten_nil, List.append_nil, List.cons_append, List.nil_append]
  after_results_simp
  rfl

theorem at_v14 : StableHlo.after (List.flatten [hostOps0, hostOps0_1, hostOps0_2, hostOps0_3]) U (Proc.devRef .tc main_v14)
    = taken (ranked (bitcastToInt (F := Bits) (φ := .f32) (shapeCast S32x8732 (U (Proc.devRef .tc main_arg0)) shapeCasts_S32x1x8732_S32x8732)))
      (place (numNeg (shapeCast S32x128 (U (Proc.devRef .tc main_arg1)) shapeCasts_S32x1x128_S32x128))) := by
  have h : List.flatten [hostOps0 (F := Bits), hostOps0_1, hostOps0_2, hostOps0_3] = List.flatten [hostOps0, hostOps0_1, hostOps0_2] ++ hostOps0_3 := by
    simp only [List.flatten_cons, List.flatten_nil, List.append_nil, List.append_assoc]
  rw [h, StableHlo.after_append, take_line, at_v9, at_v13]

end

/-- The last call's array of totals, of its five arguments. -/
def totals (s : FVec Bits S32x128 .f32) (x : FVec Bits S32x8732 .f32) (w : IVec S32x8732 32) (k kth : IVec S32x1 32) : FVec Bits S1x128 .f32 :=
  k0_pay1 (k0_pay2 s) (k0_pay3 s) (k0_pay4 s) (k0_pay5 x w k kth)

theorem out_eq (s : Vec Bits S32x128 .f32) (x : Vec Bits S32x8732 .f32) (w : Vec Bits S32x8732 .i32) (k kth : Vec Bits S32x1 .i32) :
    out0_5 s x w k kth = totals s x w k kth := by
  frame_out
  rfl

/-- The windows' index maps: one block each, the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- One total over the greater of the count and one. -/
def mean (T : FVec Bits S1x1 .f32) (N : FVec Bits S1x1 .f32) : FVec Bits S1 .f32 :=
  broadcastInDim S1 ![] bcast_S_S1 (Host.divf (shapeCast S_ T shapeCasts_S1x1_S_ : FVec Bits S_ .f32)
    (maximumf (shapeCast S_ N shapeCasts_S1x1_S_ : FVec Bits S_ .f32) (constant S_ .f32 0x3F800000#32)))

/-- The two losses, of the array of totals. -/
def tail (T : FVec Bits S1x128 .f32) : FVec Bits S2 .f32 :=
  concatenate S2 0
    [⟨S1, mean (extractStridedSlice S1x1 ![0, 0] T slices_S1x128_S1x1_0_0) (extractStridedSlice S1x1 ![0, 2] T slices_S1x128_S1x1_0_2)⟩,
     ⟨S1, mean (extractStridedSlice S1x1 ![0, 1] T slices_S1x128_S1x1_0_1) (extractStridedSlice S1x1 ![0, 2] T slices_S1x128_S1x1_0_2)⟩]
    concatenates_S1_S1_S2_d0

/-- The host lines after the call. -/
theorem after_tail (U : Valuation τ sig (Elt Bits)) :
    StableHlo.after (hostOps1 (F := Bits)) U (Proc.devRef .tc main_v27) = tail (U (Proc.devRef .tc main_v15)) := by
  simp only [hostOps1]
  after_results_simp
  rfl

/-- The array of totals, of the two arguments. -/
def sums (a : FVec Bits S32x1x8732 .f32) (b : FVec Bits S32x1x128 .f32) : FVec Bits S1x128 .f32 :=
  let x : FVec Bits S32x8732 .f32 := shapeCast S32x8732 a shapeCasts_S32x1x8732_S32x8732
  let s : FVec Bits S32x128 .f32 := shapeCast S32x128 b shapeCasts_S32x1x128_S32x128
  totals s x (bitcastToInt x) (numNeg s) (taken (ranked (bitcastToInt x)) (place (numNeg s)))

section
variable (m : (ℓ : Loc nD τ sig) → Buf (Elt Bits) ℓ) (c : Dev nD)

theorem block0 : iblk m c 0 t0_0 = V m c main_v1 := by
  show _ = V m c (Pipeline.arrRef spec0 0)
  unfold iblk
  generalize hA : V m c (Pipeline.arrRef spec0 0) = A
  funext y
  blk_point [idx t0_0]

theorem block1 : iblk m c 1 t0_0 = V m c main_v0 := by
  show _ = V m c (Pipeline.arrRef spec0 1)
  unfold iblk
  generalize hA : V m c (Pipeline.arrRef spec0 1) = A
  funext y
  blk_point [idx t0_0]

theorem block2 : iblk m c 2 t0_0 = V m c main_v8 := by
  show _ = V m c (Pipeline.arrRef spec0 2)
  unfold iblk
  generalize hA : V m c (Pipeline.arrRef spec0 2) = A
  funext y
  blk_point [idx t0_0]

theorem block3 : iblk m c 3 t0_0 = V m c main_v7 := by
  show _ = V m c (Pipeline.arrRef spec0 3)
  unfold iblk
  generalize hA : V m c (Pipeline.arrRef spec0 3) = A
  funext y
  blk_point [idx t0_0]

theorem block4 : iblk m c 4 t0_0 = V m c main_v14 := by
  show _ = V m c (Pipeline.arrRef spec0 4)
  unfold iblk
  generalize hA : V m c (Pipeline.arrRef spec0 4) = A
  funext y
  blk_point [idx t0_0]

/-- The array of totals after the run. -/
theorem final5 : (dats m 0 c).arrAt 5 (cfgs 0).N
    = sums (m ((c : Thread nD τ).loc main_arg0)) (m ((c : Thread nD τ).loc main_arg1)) := by
  refine (dats m 0 c).arrAt_eq_of_after_last 5 t0_0 (by decide +kernel) _ fun j => ?_
  rw [after0_5, out_eq, block0, block1, block2, block3, block4]
  have e0 : V m c main_v0 = _ := at_v0 (fun b => m (c, b))
  have e1 : V m c main_v1 = _ := at_v1 (fun b => m (c, b))
  have e7 : V m c main_v7 = _ := at_v7 (fun b => m (c, b))
  have e8 : V m c main_v8 = _ := at_v8 (fun b => m (c, b))
  have e14 : V m c main_v14 = _ := at_v14 (fun b => m (c, b))
  rw [e0, e1, e7, e8, e14]
  blk_simp
  rfl

/-- The reference's result. -/
theorem result_eq : Pipeline.afterTail₀ cfgs (dats m) 0 (V0 m) [hostOps1] c main_v27
    = tail (sums (m ((c : Thread nD τ).loc main_arg0)) (m ((c : Thread nD τ).loc main_arg1))) := by
  have h := Pipeline.withArrays_arr (cfgs 0).spec (by decide) c (V0 m c) (fun w => (dats m 0 c).arrAt w (cfgs 0).N) 5
  rw [← final5 m c]
  exact (after_tail _).trans (congrArg tail h)

end

end Cert.MineRef

end
-- ==== Proof.Mining.Taken.lean ====
/- The mining reference's k-th greatest word of each row: the sorted row read at 8732 - k, a place within it,
   with one in the place of a k that is not positive. -/
module

public import proofs.«01_k».proof.Proof.Mining.ReferenceRun
public import proofs.«01_k».proof.Proof.Mining.Search
public import Idealize.ShloMosaic.Lib.Pointwise

@[expose] public section

set_option maxRecDepth 16384

noncomputable section

namespace Cert.MineRef

open Idealize.ShloMosaic Idealize.ShloMosaic.TcCoe Idealize.SL.Sem Idealize.ShloMosaic.StableHlo
open Cert.MiningReference Cert.MiningReference.Gen

/-- The gather of one word of each row. -/
theorem gather_row (x : IVec S32x8732 32) (i : IVec S32x1x1 32) (b : Fin 32) (p : Fin 8732)
    (h : i (ix3 b 0 0) = BitVec.ofNat 32 (p : ℕ)) :
    Host.gather gather_S32x8732_S32x1x1_S32x1_n_1_0_0_1_2_11 x i (ix2 b 0) = x (ix2 b p) := by
  have hsi : ∀ (q : ℕ) (hq : q < 1), gather_S32x8732_S32x1x1_S32x1_n_1_0_0_1_2_11.siIdx (ix2 b 0) ⟨q, hq⟩ = ix3 b 0 0 := by
    intro q hq
    obtain rfl : q = 0 := by omega
    funext a
    match a with
    | ⟨0, _⟩ => rfl
    | ⟨1, _⟩ => rfl
    | ⟨2, _⟩ => rfl
  unfold Host.gather
  congr 1
  funext a
  refine Fin.ext ?_
  show gather_S32x8732_S32x1x1_S32x1_n_1_0_0_1_2_11.start (ix2 b 0) i a
    + gather_S32x8732_S32x1x1_S32x1_n_1_0_0_1_2_11.batchCoord (ix2 b 0) a
    + gather_S32x8732_S32x1x1_S32x1_n_1_0_0_1_2_11.offCoord (ix2 b 0) a = _
  rw [GatherDims.offCoord_eq_zero _ _ _ (by decide +revert), Nat.add_zero]
  match a with
  | ⟨0, _⟩ =>
    unfold GatherDims.start
    rw [dif_neg (by decide +revert)]
    unfold GatherDims.batchCoord
    rw [dif_pos (by decide +revert), Nat.zero_add]
    rfl
  | ⟨1, _⟩ =>
    rw [GatherDims.batchCoord_eq_zero _ _ _ (by decide +revert), Nat.add_zero]
    unfold GatherDims.start
    rw [dif_pos (by decide +revert)]
    refine (congrArg (fun w : BitVec 32 => min w.toInt.toNat 8731) ((congrArg i (hsi 0 (by norm_num))).trans h)).trans ?_
    have := p.isLt
    show min (BitVec.ofNat 32 (p : ℕ)).toInt.toNat 8731 = (p : ℕ)
    rw [BitVec.toInt_ofNat']
    simp only [Int.bmod]
    omega

/-- A small natural's word, read signed. -/
theorem toInt_small (n : ℕ) (h : n < 2 ^ 31) : (BitVec.ofNat 32 n).toInt = n := by
  rw [BitVec.toInt_eq_toNat_of_lt (by simp only [BitVec.toNat_ofNat]; omega)]
  simp only [BitVec.toNat_ofNat]
  omega

/-- A place of the row stays where it is. -/
theorem wrapped_eq (q : IVec S32x1 32) (b : Fin 32) (p : Fin 8732) (h : q (ix2 b 0) = BitVec.ofNat 32 (p : ℕ)) :
    wrapped q (ix3 b 0 0) = BitVec.ofNat 32 (p : ℕ) := by
  unfold wrapped
  pointwise []
  rw [h]
  have hn : IntOp.cmpi .slt (BitVec.ofNat 32 (p : ℕ)) 0#32 = 0#1 := by
    unfold IntOp.cmpi
    have : (BitVec.ofNat 32 (p : ℕ)).slt 0#32 = false := by
      simp only [BitVec.slt, toInt_small _ (show (p : ℕ) < 2 ^ 31 by omega), decide_eq_false_iff_not]
      simp
    simp [this]
  rw [hn]
  rfl

/-- Such a place is found within the row. -/
theorem inRange_eq (q : IVec S32x1x1 32) (b : Fin 32) (p : Fin 8732) (h : q (ix3 b 0 0) = BitVec.ofNat 32 (p : ℕ)) :
    inRange q (ix2 b 0) = 1#1 := by
  unfold inRange
  pointwise []
  have e0 : IntOp.cmpi .sge (BitVec.ofNat 32 (p : ℕ)) 0#32 = 1#1 := by
    unfold IntOp.cmpi
    have : (0#32).sle (BitVec.ofNat 32 (p : ℕ)) = true := by
      simp only [BitVec.sle, toInt_small _ (show (p : ℕ) < 2 ^ 31 by omega), decide_eq_true_eq]
      simp
    simp [this]
  have e1 : IntOp.cmpi .sle (BitVec.ofNat 32 (p : ℕ)) 8731#32 = 1#1 := by
    unfold IntOp.cmpi
    have : (BitVec.ofNat 32 (p : ℕ)).sle 8731#32 = true := by
      simp only [BitVec.sle, toInt_small _ (show (p : ℕ) < 2 ^ 31 by omega), decide_eq_true_eq]
      have := p.isLt
      have e : (8731#32).toInt = 8731 := by decide
      omega
    simp [this]
  rw [show (Finset.univ : Finset (Fin 1)) = {0} from rfl, Finset.fold_singleton, h, e0, e1]
  decide

/-- An array's row. -/
def rowOf (w : IVec S32x8732 32) (b : Fin 32) : Fin 8732 → BitVec 32 := fun j => w (ix2 b j)

/-- The order the sort asks about two words of a row. -/
def before (w : Fin 8732 → BitVec 32) (k k' : Fin 8732) : Bool := comparator_i32_d1 (w k) (w k') == 1#1

theorem before_eq (w : Fin 8732 → BitVec 32) (k k' : Fin 8732) : before w k k' = decide ((w k).toInt < (w k').toInt) := by
  unfold before comparator_i32_d1 IntOp.cmpi
  generalize w k = u
  generalize w k' = v
  simp only [BitVec.slt]
  by_cases hlt : u.toInt < v.toInt
  · simp [hlt]
  · simp [hlt]

theorem along_eq (b : Fin 32) (p k : Fin 8732) : Shape.Idx.along (s := S32x8732) (ix2 b p) (1 : Fin 2) k = ix2 b k := by
  funext a
  match a with
  | ⟨0, _⟩ => rfl
  | ⟨1, _⟩ => rfl

/-- A sorted row, at a place. -/
theorem ranked_eq (w : IVec S32x8732 32) (b : Fin 32) (p : Fin 8732) :
    rowOf (ranked w) b p = rowOf w b (sortedFrom (before (rowOf w b)) p) := by
  have hB : (fun k k' : Fin 8732 => comparator_i32_d1 (w (Shape.Idx.along (s := S32x8732) (ix2 b p) (1 : Fin 2) k)) (w (Shape.Idx.along (s := S32x8732) (ix2 b p) (1 : Fin 2) k')) == 1#1)
      = before (rowOf w b) := by
    funext k k'
    rw [along_eq, along_eq]
    rfl
  have h : rowOf (ranked w) b p = w (Shape.Idx.along (s := S32x8732) (ix2 b p) (1 : Fin 2) (sortedFrom (fun k k' : Fin 8732 => comparator_i32_d1 (w (Shape.Idx.along (s := S32x8732) (ix2 b p) (1 : Fin 2) k)) (w (Shape.Idx.along (s := S32x8732) (ix2 b p) (1 : Fin 2) k')) == 1#1) p)) := by
    unfold rowOf ranked Host.sort
    rw [dif_pos (by decide)]
    rfl
  rw [h, hB]
  exact congrArg w (along_eq b p _)

/-- A row's words, sorted, ascend. -/
theorem ranked_ascends (w : IVec S32x8732 32) (b : Fin 32) : Mine.Ascends (rowOf w b) (rowOf (ranked w) b) := by
  have h := Mine.ascends_sorted (rowOf w b) (before (rowOf w b)) (before_eq _)
  have e : rowOf (ranked w) b = fun p => rowOf w b (sortedFrom (before (rowOf w b)) p) := funext fun p => ranked_eq w b p
  rw [e]
  exact h

/-- The greater of a word and one, read signed. -/
theorem toInt_atLeastOne (q : BitVec 32) : (IntOp.maxsi q 1#32).toInt = max q.toInt 1 := by
  have e1 : (1#32).toInt = 1 := by decide
  unfold IntOp.maxsi
  split
  · rename_i h
    simp only [BitVec.slt, e1, decide_eq_true_eq] at h
    omega
  · rename_i h
    simp only [BitVec.slt, e1, decide_eq_true_eq] at h
    omega

/-- The word taken of a row is the sorted row's at 8732 - k. -/
theorem taken_eq (w : IVec S32x8732 32) (q : IVec S32x1 32) (b : Fin 32) (k : ℕ) (h1 : 1 ≤ k) (h2 : k ≤ 8732)
    (hq : max (q (ix2 b 0)).toInt 1 = k) :
    taken (ranked w) (place q) (ix2 b 0) = rowOf (ranked w) b ⟨8732 - k, by omega⟩ := by
  have hq' : IntOp.maxsi (q (ix2 b 0)) 1#32 = BitVec.ofNat 32 k := by
    apply BitVec.eq_of_toInt_eq
    rw [toInt_atLeastOne, hq, toInt_small _ (by omega)]
  have hp : place q (ix2 b 0) = BitVec.ofNat 32 ((⟨8732 - k, by omega⟩ : Fin 8732) : ℕ) := by
    have e : place q (ix2 b 0) = 8732#32 - IntOp.maxsi (q (ix2 b 0)) 1#32 := rfl
    rw [e, hq']
    apply BitVec.eq_of_toNat_eq
    simp only [BitVec.toNat_sub, BitVec.toNat_ofNat]
    omega
  have hw := wrapped_eq (place q) b _ hp
  generalize ranked w = r
  show Scalar.select (inRange (wrapped (place q)) (ix2 b 0)) (Host.gather _ r (wrapped (place q)) (ix2 b 0)) _ = _
  rw [inRange_eq _ b _ hw, gather_row _ _ b _ hw]
  rfl

end Cert.MineRef

end
-- ==== Proof.Mining.Totals.lean ====
/- The two calls' arrays of totals agree, where no word of a row is negative or the greatest. -/
module

public import proofs.«01_k».proof.Proof.Mining.KernelRun
public import proofs.«01_k».proof.Proof.Mining.Taken
public import proofs.«01_k».proof.Pre_mineable
public import proofs.«01_k».proof.Proof.Gen.Pre_mineable

@[expose] public section

set_option maxRecDepth 16384

noncomputable section

namespace Cert.Mine

attribute [local instance] Cert.Pre_mineable.Gen.facts

open Idealize.ShloMosaic Idealize.ShloMosaic.TcCoe
open Cert.Mining Cert.Mining.Gen

section
variable (x0 : Vec Bits S32x1x8732 .f32) (x1 : Vec Bits S32x1x128 .f32)

/-- The words, as the reference reads them. -/
theorem words_eq : MineRef.rowOf (bitcastToInt (F := Bits) (φ := .f32) (shapeCast S32x8732 x0 MiningReference.Gen.shapeCasts_S32x1x8732_S32x8732)) = row x0 := rfl

/-- How many to mine, as the reference reads it. -/
theorem numNeg_eq : MineRef.numNeg (shapeCast S32x128 x1 MiningReference.Gen.shapeCasts_S32x1x128_S32x128) = k0_pay5 x1 := rfl

/-- The sum of the mined losses of each image: those above a bound, and the bound for the rest. -/
def mined (x : FVec Bits S32x8732 .f32) (above : IVec S32x8732 1) (k lo : IVec S32x1 32) : FVec Bits S32x1 .f32 :=
  select (cmpi .sgt k (broadcast S32x1 0#32))
    (addf (shapeCast S32x1 (multiReduction .add [1] S32 (select above x (broadcast S32x8732 (Scalar.ofBits .f32 0x00000000#32)))
        0x00000000#32 reduces_S32x8732_S32 (.inl rfl) rfl) shapeCasts_S32_S32x1)
      (mulf (bitcastToFloat .f32 lo) (sitofp .f32 (subi k (shapeCast S32x1 (multiReductionI .add [1] S32 (extui 32 above natLt_1_32) 0#32
        reduces_S32x8732_S32 rfl) shapeCasts_S32_S32x1)))))
    (broadcast S32x1 (Scalar.ofBits .f32 0x00000000#32))

/-- Which words are above a bound of their row. -/
def above (w : IVec S32x8732 32) (lo : IVec S32x1 32) : IVec S32x8732 1 :=
  cmpi .sgt w (broadcastTo S32x8732 lo broadcasts_S32x1_S32x8732)

/-- The bound of a row of which nothing is mined makes no difference but to which words are above it. -/
theorem mined_congr (x : FVec Bits S32x8732 .f32) (p : IVec S32x8732 1) (k lo lo' : IVec S32x1 32)
    (h : ∀ i, (k i).toInt ≤ 0 ∨ lo i = lo' i) : mined x p k lo = mined x p k lo' := by
  funext i
  unfold mined
  generalize (shapeCast S32x1 (multiReduction .add [1] S32 (select p x (broadcast S32x8732 (Scalar.ofBits .f32 0x00000000#32)))
        0x00000000#32 reduces_S32x8732_S32 (.inl rfl) rfl) shapeCasts_S32_S32x1 : FVec Bits S32x1 .f32) = a
  generalize (sitofp .f32 (subi k (shapeCast S32x1 (multiReductionI .add [1] S32 (extui 32 p natLt_1_32) 0#32
        reduces_S32x8732_S32 rfl) shapeCasts_S32_S32x1)) : FVec Bits S32x1 .f32) = r
  rcases h i with h | h
  · have e : IntOp.cmpi .sgt (k i) 0#32 = 0#1 := by
      unfold IntOp.cmpi
      have e0 : (0#32).toInt = 0 := by decide
      have : (0#32).slt (k i) = false := by
        simp only [BitVec.slt, e0, decide_eq_false_iff_not]
        omega
      simp [this]
    show Scalar.select (IntOp.cmpi .sgt (k i) 0#32) _ _ = Scalar.select (IntOp.cmpi .sgt (k i) 0#32) _ _
    rw [e]
    rfl
  · show Scalar.select _ (FloatOps.addf (a i) (FloatOps.mulf (FloatOps.ofBits .f32 (lo i)) (r i))) _
      = Scalar.select _ (FloatOps.addf (a i) (FloatOps.mulf (FloatOps.ofBits .f32 (lo' i)) (r i))) _
    rw [h]

/-- A word is not above a bound of its row that is at least as great, read signed. -/
theorem above_zero (w : IVec S32x8732 32) (lo : IVec S32x1 32) (b : Fin 32) (j : Fin 8732) (h : (w (ix2 b j)).toInt ≤ (lo (ix2 b 0)).toInt) :
    above w lo (ix2 b j) = 0#1 := by
  have hb : broadcastTo S32x8732 lo broadcasts_S32x1_S32x8732 (ix2 b j) = lo (ix2 b 0) := by
    pointwise
  show IntOp.cmpi .sgt (w (ix2 b j)) (broadcastTo S32x8732 lo broadcasts_S32x1_S32x8732 (ix2 b j)) = 0#1
  rw [hb]
  unfold IntOp.cmpi
  have : (lo (ix2 b 0)).slt (w (ix2 b j)) = false := by
    simp only [BitVec.slt, decide_eq_false_iff_not]
    omega
  simp [this]

theorem above_congr (w : IVec S32x8732 32) (lo lo' : IVec S32x1 32) (b : Fin 32) (j : Fin 8732) (h : lo (ix2 b 0) = lo' (ix2 b 0)) :
    above w lo (ix2 b j) = above w lo' (ix2 b j) := by
  have hb : ∀ l : IVec S32x1 32, broadcastTo S32x8732 l broadcasts_S32x1_S32x8732 (ix2 b j) = l (ix2 b 0) := by
    intro l
    pointwise
  show IntOp.cmpi .sgt (w (ix2 b j)) (broadcastTo S32x8732 lo broadcasts_S32x1_S32x8732 (ix2 b j))
    = IntOp.cmpi .sgt (w (ix2 b j)) (broadcastTo S32x8732 lo' broadcasts_S32x1_S32x8732 (ix2 b j))
  rw [hb, hb, h]

/-- Never more than 8731 are to be mined. -/
theorem few (b : Fin 32) : (k0_pay5 (F := Bits) x1 (ix2 b 0)).toInt ≤ 8731 := by
  have e1 : (8731#32).toInt = 8731 := by decide
  show (IntOp.minsi _ 8731#32).toInt ≤ 8731
  unfold IntOp.minsi
  split
  · rename_i hlt
    simp only [BitVec.slt, e1, decide_eq_true_eq] at hlt
    omega
  · rw [e1]

/-- The words, as the reference reads them. -/
abbrev words : IVec S32x8732 32 := bitcastToInt (F := Bits) (φ := .f32) (shapeCast S32x8732 x0 MiningReference.Gen.shapeCasts_S32x1x8732_S32x8732)

/-- The bounds that the reference finds. -/
abbrev bounds : IVec S32x1 32 := MineRef.taken (MineRef.ranked (words x0)) (MineRef.place (k0_pay5 x1))

section
variable (hw : ∀ b j, 0 ≤ (row x0 b j).toInt) (hu : ∀ b j, (row x0 b j).toInt < 2147483647)
include hw hu

/-- The kernel's search and the reference's sort find the same word of every row that is mined. -/
theorem found_eq (b : Fin 32) (h : 1 ≤ (k0_pay5 (F := Bits) x1 (ix2 b 0)).toInt) : (found x0 x1).1 (ix2 b 0) = bounds x0 x1 (ix2 b 0) := by
  obtain ⟨k, hk⟩ := Int.eq_ofNat_of_zero_le (show 0 ≤ (k0_pay5 (F := Bits) x1 (ix2 b 0)).toInt by omega)
  have h2 := few x1 b
  rw [hk] at h h2
  have h1 : 1 ≤ k := by exact_mod_cast h
  have h2' : k ≤ 8732 := by
    have : k ≤ 8731 := by exact_mod_cast h2
    omega
  unfold bounds words
  generalize hW : bitcastToInt (F := Bits) (φ := .f32) (shapeCast S32x8732 x0 MiningReference.Gen.shapeCasts_S32x1x8732_S32x8732) = W
  have hr : MineRef.rowOf W b = row x0 b := by rw [← hW]; exact congrFun (words_eq x0) b
  have e := MineRef.taken_eq W (k0_pay5 x1) b k h1 h2' (by rw [hk]; exact max_eq_left h)
  have a := MineRef.ranked_ascends W b
  rw [hr] at a
  have hi := found_inv x0 x1 b k hk h1 h2' (hw b) (hu b)
  have hp : 8732 - ((⟨8732 - k, by omega⟩ : Fin 8732) : ℕ) = k := by
    show 8732 - (8732 - k) = k
    omega
  have hi' : Inv (row x0 b) (8732 - ((⟨8732 - k, by omega⟩ : Fin 8732) : ℕ)) 31 ((found x0 x1).1 (ix2 b 0)) ((found x0 x1).2 (ix2 b 0)) := by
    rw [hp]
    exact hi
  exact (search_eq a ⟨8732 - k, by omega⟩ hi').trans e.symm

/-- Where nothing is mined, no word is above the kernel's bound, nor above the reference's. -/
theorem above_none (b : Fin 32) (h : (k0_pay5 (F := Bits) x1 (ix2 b 0)).toInt ≤ 0) (j : Fin 8732) :
    above (words x0) (found x0 x1).1 (ix2 b j) = 0#1 ∧ above (words x0) (bounds x0 x1) (ix2 b j) = 0#1 := by
  have hj := hu b j
  have hr : MineRef.rowOf (words x0) b = row x0 b := congrFun (words_eq x0) b
  have e : (words x0 (ix2 b j)).toInt = (row x0 b j).toInt := congrArg BitVec.toInt (congrFun hr j)
  refine ⟨above_zero _ _ b j ?_, above_zero _ _ b j ?_⟩
  · rw [found_top x0 x1 b h, e]
    omega
  · unfold bounds
    rw [MineRef.taken_eq _ (k0_pay5 x1) b 1 le_rfl (by norm_num) (max_eq_right (by omega)), e]
    have a := MineRef.ranked_ascends (words x0) b
    rw [hr] at a
    have hp := a.passed ⟨8732 - 1, by omega⟩
    have hz : count (row x0 b) ((MineRef.rowOf (MineRef.ranked (words x0)) b ⟨8732 - 1, by omega⟩).toInt + 1) = 0 := by
      have : 8732 - ((⟨8732 - 1, by omega⟩ : Fin 8732) : ℕ) = 1 := rfl
      omega
    by_contra hn
    unfold count at hz
    rw [Finset.card_eq_zero, Finset.filter_eq_empty_iff] at hz
    exact hz (Finset.mem_univ j) (by omega)

/-- The two arrays of totals. -/
theorem totals_eq : totals x0 x1 = MineRef.sums x0 x1 := by
  have ha : above (words x0) (found x0 x1).1 = above (words x0) (bounds x0 x1) := by
    funext i
    idx_vars i
    rcases le_or_gt (k0_pay5 (F := Bits) x1 (ix2 i0 0)).toInt 0 with h | h
    · obtain ⟨e1, e2⟩ := above_none x0 x1 hw hu i0 h i1
      exact e1.trans e2.symm
    · exact above_congr _ _ _ i0 i1 (found_eq x0 x1 hw hu i0 (by omega))
  have hm : mined (k0_pay2 x0) (above (words x0) (found x0 x1).1) (k0_pay5 x1) (found x0 x1).1
      = mined (k0_pay2 x0) (above (words x0) (bounds x0 x1)) (k0_pay5 x1) (bounds x0 x1) := by
    rw [ha]
    refine mined_congr _ _ _ _ _ fun i => ?_
    idx_vars i
    obtain rfl : i1 = 0 := Subsingleton.elim _ _
    rcases le_or_gt (k0_pay5 (F := Bits) x1 (ix2 i0 0)).toInt 0 with h | h
    · exact Or.inl h
    · exact Or.inr (found_eq x0 x1 hw hu i0 (by omega))
  have hk : k0_pay13 x0 x1 (found x0 x1).1 = mined (k0_pay2 x0) (above (words x0) (found x0 x1).1) (k0_pay5 x1) (found x0 x1).1 := rfl
  unfold totals MineRef.sums MineRef.totals
  dsimp only
  rw [hk, hm, numNeg_eq]
  show _ = MiningReference.Gen.k0_pay1 _ _ _ (MiningReference.Gen.k0_pay5 _ _ _ (bounds x0 x1))
  generalize bounds x0 x1 = lo
  simp only [MiningReference.Gen.k0_pay2, MiningReference.Gen.k0_pay3, MiningReference.Gen.k0_pay4, MiningReference.Gen.k0_pay5, shapeCast_id]
  rfl

end
end

/-- Two bits are both set when their conjunction is. -/
theorem and_one (a b : BitVec 1) : IntOp.andi a b = 1#1 ↔ a = 1#1 ∧ b = 1#1 := by
  revert a b; decide

/-- A word found not less than another, read signed. -/
theorem sge_one (a b : BitVec 32) (h : IntOp.cmpi .sge a b = 1#1) : b.toInt ≤ a.toInt := by
  unfold IntOp.cmpi at h
  rw [ofBool_eq_one] at h
  simpa only [BitVec.sle, decide_eq_true_eq] using h

/-- A word found less than another, read signed. -/
theorem slt_one (a b : BitVec 32) (h : IntOp.cmpi .slt a b = 1#1) : a.toInt < b.toInt := by
  unfold IntOp.cmpi at h
  rw [ofBool_eq_one] at h
  simpa only [BitVec.slt, decide_eq_true_eq] using h

/-- What the precondition says of a row's words. -/
theorem words_of_pre (x0 : FVec Bits S32x1x8732 .f32) (x1 : FVec Bits S32x1x128 .f32)
    (h : Pre_mineable.fn (F := Bits) x0 x1 = fun _ => 1#1) (b : Fin 32) (j : Fin 8732) :
    0 ≤ (row x0 b j).toInt ∧ (row x0 b j).toInt < 2147483647 := by
  have h' := congrFun h (ix3 b 0 j)
  unfold Pre_mineable.fn at h'
  have e : row x0 b j = bitcastToInt (F := Bits) (φ := .f32) x0 (ix3 b 0 j) := by
    unfold row k0_pay6 k0_pay2
    pointwise []
  have h2 : IntOp.andi (IntOp.cmpi .sge (bitcastToInt (F := Bits) (φ := .f32) x0 (ix3 b 0 j)) 0#32)
      (IntOp.cmpi .slt (bitcastToInt (F := Bits) (φ := .f32) x0 (ix3 b 0 j)) 2147483647#32) = 1#1 := h'
  rw [e]
  generalize bitcastToInt (F := Bits) (φ := .f32) x0 (ix3 b 0 j) = w at h2
  obtain ⟨ha, hb⟩ := (and_one _ _).1 h2
  have ha' := sge_one w _ ha
  have hb' := slt_one w _ hb
  have e0 : (0#32).toInt = 0 := by decide
  have e1 : (2147483647#32).toInt = 2147483647 := by decide
  rw [e0] at ha'
  rw [e1] at hb'
  exact ⟨ha', hb'⟩

/-- Under the precondition the two arrays of totals agree. -/
theorem totals_of_pre (x0 : FVec Bits S32x1x8732 .f32) (x1 : FVec Bits S32x1x128 .f32)
    (h : Pre_mineable.fn (F := Bits) x0 x1 = fun _ => 1#1) : totals x0 x1 = MineRef.sums x0 x1 :=
  totals_eq x0 x1 (fun b j => (words_of_pre x0 x1 h b j).1) (fun b j => (words_of_pre x0 x1 h b j).2)

/-- The two host tails are the same lines. -/
theorem tail_eq : tail = MineRef.tail := rfl

end Cert.Mine

end
-- ==== Proof.Mining.Equation.lean ====
/- The mining kernel and its reference end with the same two losses, bit for bit. -/
module

public import proofs.«01_k».proof.Proof.Mining.Totals
public import proofs.«01_k».proof.Defs

@[expose] public section

set_option maxRecDepth 16384

noncomputable section

namespace Cert.Mine

open Idealize.ShloMosaic Idealize.ShloMosaic.TcCoe Idealize.SL.Sem

/-- Call 2 with its host lines, and the reference. -/
theorem bitexact : Cert.bitexact_Mining_MiningReference_pre_mineable (hPre_mineable := Cert.Pre_mineable.Gen.facts)
    (hMining := Cert.Mining.Gen.facts) (hMiningReference := Cert.MiningReference.Gen.facts) := by
  intro m g m' g' hpre hagree
  refine ⟨fun c => tail (totals (m ((c.tc : Thread Mining.nD Mining.τ).loc Mining.main_arg0)) (m ((c.tc : Thread Mining.nD Mining.τ).loc Mining.main_arg1))), ?_, ?_⟩
  · run_from Cert.Mining.Gen.run_main m g
    exact result_eq m c
  · run_from Cert.MiningReference.Gen.run_main m' g'
    · refine (MineRef.result_eq m' c).trans ?_
      rw [(hagree c).1, (hagree c).2, tail_eq]
      exact congrArg MineRef.tail (totals_of_pre _ _ (hpre c)).symm
    · exact (MiningReference.Gen.W_main_arg0 m' _ c).trans (hagree c).1
    · exact (MiningReference.Gen.W_main_arg1 m' _ c).trans (hagree c).2

end Cert.Mine

end
-- ==== Proof.Alike.KernelRun.lean ====
/- The kernel on arguments whose rows are all alike: the sums it leaves, which do not depend on the localization predictions. -/
module

public import proofs.«01_k».proof.Proof.Gen.AlikeIdeal.Frame
public import proofs.«01_k».proof.Proof.Match.Array
public import Idealize.ShloMosaic.Lib.Pipeline.ValueKit

@[expose] public section

set_option maxRecDepth 16384

noncomputable section

namespace Cert.Alike

open Idealize.ShloMosaic Idealize.ShloMosaic.TcCoe Idealize.SL.Sem
open Idealize.ShloMosaic.Pipeline (Dat)
open Cert.AlikeIdeal Cert.AlikeIdeal.Gen
open Cert.Match (stats)

/-- What the body leaves in the block of sums is what it leaves in call 1 of the kernel: it is the same body. -/
theorem out5_same (x0 : Vec Ideal S1x20x5 .f32) (x1 : Vec Ideal S1x5x20 .f32) (x2 : Vec Ideal S4x8732 .f32) (x3 : Vec Ideal S1x8732x81 .f32) :
    out0_5 x0 x1 x2 x3 = KernelIdeal.Gen.out0_5 x0 x1 x2 x3 := rfl

/-- The windows' index maps. -/
theorem idx : ∀ t : Fin cfg0.N, win0_0.index t = ![t.val, 0, 0] ∧ win0_1.index t = ![t.val, 0, 0] ∧ win0_2.index t = ![0, 0]
    ∧ win0_3.index t = ![t.val, 0, 0] ∧ win0_4.index t = ![t.val, 0, 0] ∧ win0_5.index t = ![t.val, 0, 0] :=
  (by decide +kernel : ∀ t : Fin grid0.N, _)

variable (m : (ℓ : Loc nD τ sig) → Buf (Elt Ideal) ℓ) (c : Dev nD)

/-- The boxes, all alike. -/
def boxRows (A : FVec Ideal S5 .f32) : Fin 20 → Fin 5 → EReal := fun _ k => A (ix1 k)

/-- The priors, all alike. -/
def priorRows (A : FVec Ideal S4 .f32) : Fin 8732 → Fin 4 → EReal := fun _ k => A (ix1 k)

/-- The scores, all alike. -/
def scoreRows (A : FVec Ideal S81 .f32) : Fin 8732 → Fin 81 → EReal := fun _ k => A (ix1 k)

/-- A block of boxes. -/
theorem iblk0 (t : Fin cfg0.N) (o : Fin 20) (k : Fin 5) : iblk m c 0 t (ix3 0 o k)
    = boxRows (m ((c : Thread nD τ).loc main_arg3)) o k := by
  unfold boxRows
  blk_point [iblk, V, idx t]

/-- A block of transposed boxes. -/
theorem iblk1 (t : Fin cfg0.N) (o : Fin 20) (k : Fin 5) : iblk m c 1 t (ix3 0 k o)
    = boxRows (m ((c : Thread nD τ).loc main_arg3)) o k := by
  unfold boxRows
  blk_point [iblk, V, idx t]

/-- The block of transposed priors. -/
theorem iblk2 (t : Fin cfg0.N) (p : Fin 8732) (k : Fin 4) : iblk m c 2 t (ix2 k p)
    = priorRows (m ((c : Thread nD τ).loc main_arg2)) p k := by
  unfold priorRows
  blk_point [iblk, V, idx t]

/-- A block of scores. -/
theorem iblk3 (t : Fin cfg0.N) (p : Fin 8732) (k : Fin 81) : iblk m c 3 t (ix3 0 p k)
    = scoreRows (m ((c : Thread nD τ).loc main_arg1)) p k := by
  unfold scoreRows
  blk_point [iblk, V, idx t]

variable (L : Fin 20 → Fin 80)
  (hL : ∀ o, boxRows (m ((c : Thread nD τ).loc main_arg3)) o 4 = (((L o : ℕ) : ℝ) : EReal))

include hL

/-- The array of sums after the run. -/
theorem final5 : (dats m 0 c).arrAt 5 (cfgs 0).N = fun i : S32x1x128.Idx =>
    stats (boxRows (m ((c : Thread nD τ).loc main_arg3))) (priorRows (m ((c : Thread nD τ).loc main_arg2))) L
      (scoreRows (m ((c : Thread nD τ).loc main_arg1))) (i 2) := by
  refine (dats m 0 c).arrAt_eq_of_covers 5 _ (by decide +kernel) fun t _ y => ?_
  blk_simp [idx t]
  rw [after0_5]
  idx_vars y
  obtain rfl : y0 = 0 := Subsingleton.elim _ _
  obtain rfl : y1 = 0 := Subsingleton.elim _ _
  rw [out5_same]
  refine (Match.out5_eq _ _ L _ _ _ _ _ (iblk0 m c t) (fun k o => iblk1 m c t o k) (fun k p => iblk2 m c t p k)
    (iblk3 m c t) hL y2).trans ?_
  have h2 : ((((cfg0.win 5).blk t).view.emb (ix3 (0 : Fin 1) (0 : Fin 1) y2) : S32x1x128.Idx) 2) = y2 := by
    apply Fin.ext
    blk_simp [idx t]
  exact congrArg (fun (p : Fin 128) => stats (boxRows (m ((c : Thread nD τ).loc main_arg3))) (priorRows (m ((c : Thread nD τ).loc main_arg2))) L
    (scoreRows (m ((c : Thread nD τ).loc main_arg1))) p) h2.symm

end Cert.Alike

end
-- ==== Proof.Alike.Words.lean ====
/- Gathers and scatters at any positions: of a table whose rows are alike, every gather is a row; a scatter leaves an old
   value or a new one. And the constants of the localization loss. -/
module

public import proofs.«01_k».proof.Proof.Gen.Post_localizes
public import proofs.«01_k».proof.Proof.Match.Words
public import Idealize.ShloMosaic.Lib.Routing.OpsPair

@[expose] public section

set_option maxRecDepth 16384

noncomputable section

namespace Cert.Alike

open Idealize.ShloMosaic Idealize.ShloMosaic.TcCoe Idealize.SL.Sem
open Cert.Post_localizes Cert.Match

attribute [local instance] Cert.Post_localizes.Gen.facts

/-- A gather of rows from a table whose rows are alike. -/
theorem gather_alike {α : Type} (x : S32x20x4.Idx → α) (idx : IVec S32x8732x2 32) (f : Fin 4 → α)
    (h : ∀ b o k, x (ix3 b o k) = f k) (b : Fin 32) (p : Fin 8732) (k : Fin 4) :
    Host.gather gather_S32x20x4_S32x8732x2_S32x8732x4_2_01_n_n_01_2_114 x idx (ix3 b p k) = f k := by
  have hx : ∀ i : S32x20x4.Idx, x i = f (i 2) := fun i => by
    idx_vars i
    exact h _ _ _
  unfold Host.gather
  rw [hx]
  congr 1
  refine Fin.ext ?_
  show gather_S32x20x4_S32x8732x2_S32x8732x4_2_01_n_n_01_2_114.start (ix3 b p k) idx 2
    + gather_S32x20x4_S32x8732x2_S32x8732x4_2_01_n_n_01_2_114.batchCoord (ix3 b p k) 2
    + gather_S32x20x4_S32x8732x2_S32x8732x4_2_01_n_n_01_2_114.offCoord (ix3 b p k) 2 = _
  rw [GatherDims.batchCoord_eq_zero _ _ _ List.not_mem_nil, Nat.add_zero]
  unfold GatherDims.start
  rw [dif_neg (by decide +revert)]
  unfold GatherDims.offCoord
  rw [dif_pos (by decide +revert), Nat.zero_add]
  rfl

/-- A gather of numbers from a table of one number. -/
theorem gather_const {α : Type} (x : S32x20.Idx → α) (idx : IVec S32x8732x2 32) (a : α) (h : ∀ b o, x (ix2 b o) = a)
    (b : Fin 32) (p : Fin 8732) : Host.gather gather_S32x20_S32x8732x2_S32x8732_n_01_n_n_01_2_11 x idx (ix2 b p) = a := by
  have hx : ∀ i : S32x20.Idx, x i = a := fun i => by
    idx_vars i
    exact h _ _
  unfold Host.gather
  exact hx _

/-- A scatter of one number over a table of another leaves one of the two. -/
theorem scatter_const {α : Type} (x : S32x8732.Idx → α) (idx : IVec S32x20x2 32) (u : S32x20.Idx → α) (a a' : α)
    (h : ∀ b p, x (ix2 b p) = a) (h' : ∀ b o, u (ix2 b o) = a') (b : Fin 32) (p : Fin 8732) :
    Host.scatter scatter_S32x8732_S32x20x2_S32x20_n_01_01_2 (fun _ b => b) x idx u (ix2 b p) = a
      ∨ Host.scatter scatter_S32x8732_S32x20x2_S32x20_n_01_01_2 (fun _ b => b) x idx u (ix2 b p) = a' := by
  have hu : ∀ i : S32x20.Idx, u i = a' := fun i => by
    idx_vars i
    exact h' _ _
  rw [Routing.scatter_at, h]
  generalize List.finRange S32x20.numel = l
  have : ∀ y : α, y = a ∨ y = a' → (l.foldl (fun a n => if scatter_S32x8732_S32x20x2_S32x20_n_01_01_2.resultIdx? (S32x20.rowMajor.symm n) idx = some (ix2 b p) then u (S32x20.rowMajor.symm n) else a) y = a
      ∨ l.foldl (fun a n => if scatter_S32x8732_S32x20x2_S32x20_n_01_01_2.resultIdx? (S32x20.rowMajor.symm n) idx = some (ix2 b p) then u (S32x20.rowMajor.symm n) else a) y = a') := by
    induction l with
    | nil => exact fun y hy => hy
    | cons n l ih =>
      intro y hy
      rw [List.foldl_cons]
      refine ih _ ?_
      split_ifs
      · exact .inr (hu _)
      · exact hy
  exact this a (.inl rfl)

/-- Zero over anything but zero is zero. -/
theorem div_zero_left {y : EReal} (h : y ≠ 0) : Ideal.div 0 y = 0 := by
  rw [Ideal.div, if_neg h, zero_mul]

/-- Anything over one is itself. -/
theorem over_one (x : EReal) : Ideal.div x 1 = x := by
  rw [← EReal.coe_one, Ideal.div_coe one_ne_zero, div_one, EReal.coe_one, mul_one]

/-- The tenth is not zero. -/
theorem tenth_ne : Ideal.ofBits .f32 0x3DCCCCCD#32 ≠ 0 := by
  simp [Ideal.ofBits, Ideal.ieee]

/-- The fifth is not zero. -/
theorem fifth_ne : Ideal.ofBits .f32 0x3E4CCCCD#32 ≠ 0 := by
  simp [Ideal.ofBits, Ideal.ieee]

/-- The least ratio is below one. -/
theorem tiny_le : Ideal.ofBits .f32 0x322BCC77#32 ≤ 1 := by
  simp [Ideal.ofBits, Ideal.ieee]
  rw [← EReal.coe_mul, ← EReal.coe_one, EReal.coe_le_coe_iff]
  norm_num

/-- The logarithm of one is zero. -/
theorem log_one : Ideal.log 1 = 0 := by
  rw [← EReal.coe_one, Ideal.log_coe, if_neg (by norm_num), Real.log_one, EReal.coe_zero]

/-- The pattern of one. -/
theorem one_eq : Ideal.ofBits .f32 0x3F800000#32 = 1 := by
  simp [Ideal.ofBits, Ideal.ieee]
  rw [← EReal.coe_mul]
  norm_num

/-- The pattern of zero. -/
theorem zero_eq : Ideal.ofBits .f32 0x00000000#32 = 0 := by
  simp [Ideal.ofBits, Ideal.ieee]

/-- Half of one is one half. -/
theorem half_of_one : Ideal.div 1 two = half := by
  rw [two_eq, half_eq, Ideal.div_coe (by norm_num), one_mul]

/-- One half less one half. -/
theorem half_sub : half - half = 0 := by
  rw [half_eq, ← EReal.coe_sub, sub_self, EReal.coe_zero]

/-- One half and one half. -/
theorem half_add : half + half = 1 := by
  rw [half_eq, ← EReal.coe_add, ← EReal.coe_one]
  norm_num

/-- One less one half. -/
theorem one_sub_half : 1 - half = half := by
  rw [half_eq, ← EReal.coe_one, ← EReal.coe_sub]
  norm_num

/-- Two areas of one less what they share. -/
theorem union_one : (1 : EReal) + 1 - 1 = 1 := by
  rw [← EReal.coe_one, ← EReal.coe_add, ← EReal.coe_sub]
  norm_num

/-- The label zero, read as an integer. -/
theorem label_zero : FloatOps.fptosi (F := Ideal) (φ := .f32) 32 (0 : EReal) = 0#32 := by
  rw [← EReal.coe_zero]
  show BitVec.ofInt 32 (max _ (min _ (if 0 ≤ (0 : ℝ) then ⌊(0 : ℝ)⌋ else ⌈(0 : ℝ)⌉))) = _
  rw [if_pos le_rfl, Int.floor_zero, min_eq_right (by norm_num), max_eq_right (by norm_num)]
  rfl

/-- The middle of a side from zero to one lies where the prior's does. -/
theorem mid_zero : Ideal.div (Ideal.div ((0 : EReal) + 1) two - half) (Ideal.ofBits .f32 0x3DCCCCCD#32 * 1) = 0 := by
  rw [zero_add, half_of_one, half_sub, mul_one, div_zero_left tenth_ne]

/-- The absolute value of one. -/
theorem abs_one : FloatOps.absf (F := Ideal) (φ := .f32) (1 : EReal) = 1 := by
  show max (1 : EReal) (-1) = 1
  rw [← EReal.coe_one, ← EReal.coe_neg, max_eq_left]
  rw [EReal.coe_le_coe_iff]
  norm_num

/-- One half for every coordinate of every prior does not add up to zero. -/
theorem halves_ne : (0 : EReal) ≠ ∑ _p : Fin 8732, ∑ _k : Fin 4, half := by
  simp only [Finset.sum_const, Finset.card_univ, Fintype.card_fin, half_eq]
  rw [← EReal.coe_nsmul, ← EReal.coe_nsmul, ← EReal.coe_zero]
  intro h
  have := EReal.coe_injective h
  norm_num at this

end Cert.Alike

end
-- ==== Proof.Alike.Loss.lean ====
module

public import proofs.«01_k».proof.Proof.Alike.Words

@[expose] public section

set_option maxRecDepth 16384

noncomputable section

namespace Cert.Alike

open Idealize.ShloMosaic Idealize.ShloMosaic.TcCoe Idealize.SL.Sem
open Cert.Post_localizes Cert.Match

attribute [local instance] Cert.Post_localizes.Gen.facts

/-- The corners of every box, and of every prior. -/
def corners : Fin 4 → EReal := ![0, 0, 1, 1]

/-- The middle and the sides of every prior. -/
def middle : Fin 4 → EReal := ![half, half, 1, 1]

variable (s : FVec Ideal S32x1x128 .f32) (hs : s (ix3 0 0 0) = 0)

include hs

/-- The sum of one half over all the priors and coordinates is not the zero that the kernel leaves. -/
theorem part9 (v144 : IVec S32x8732 32) (v182 : FVec Ideal S32x8732x4 .f32) (v183 : IVec S32x8732 32)
    (h144 : ∀ b p, v144 (ix2 b p) = 1#32) (h182 : ∀ b p k, v182 (ix3 b p k) = half) (h183 : ∀ b p, v183 (ix2 b p) = 0#32) :
    fn_part9 (F := Ideal) s v144 v182 v183 (ix1 0) = 0#1 := by
  pointwise [fn_part9]
  simp only [hs, h144, h182, h183]
  have h1 : (FloatOps.uitofp (F := Ideal) .f32 (IntOp.cmpi .sgt 1#32 0#32) : EReal) = 1 := by
    show (((1#1).toNat : ℝ) : EReal) = 1
    simp
  simp only [h1, mul_one]
  rw [decide_eq_false halves_ne]
  rfl

/-- The distance of one from a target of zero is one half. -/
theorem part8 (v0 : FVec Ideal S32x8732x4 .f32) (v144 : IVec S32x8732 32) (v159 v162 v165 : FVec Ideal S32x8732x2 .f32)
    (h0 : ∀ b p k, v0 (ix3 b p k) = 1) (h144 : ∀ b p, v144 (ix2 b p) = 1#32) (h159 : ∀ b p k, v159 (ix3 b p k) = 0)
    (h162 : ∀ b p k, v162 (ix3 b p k) = 1) (h165 : ∀ b p k, v165 (ix3 b p k) = 1) :
    fn_part8 (F := Ideal) s v0 v144 v159 v162 v165 (ix1 0) = 0#1 := by
  unfold fn_part8
  refine part9 s hs _ _ _ h144 (fun b p k => ?_) (fun b p => by pointwise [])
  obtain rfl | rfl | rfl | rfl : k = 0 ∨ k = 1 ∨ k = 2 ∨ k = 3 := by revert k; decide
  all_goals
    pointwise [fn_where_1]
    simp only [h0, h159, h162, h165, over_one, max_eq_left tiny_le, log_one, div_zero_left fifth_ne, sub_zero, abs_one]
    exact (if_neg (lt_irrefl (1 : EReal))).trans one_sub_half

/-- The target of every prior is zero, since every prior is its box. -/
theorem part7 (v0 : FVec Ideal S32x8732x4 .f32) (v2 : FVec Ideal S8732x4 .f32) (v123 : FVec Ideal S32x8732x4 .f32)
    (v141 : IVec S32x8732 32) (v143 : IVec S32x8732 1) (c : IVec S_ 32)
    (h0 : ∀ b p k, v0 (ix3 b p k) = 1) (h2 : ∀ p k, v2 (ix2 p k) = middle k) (h123 : ∀ b p k, v123 (ix3 b p k) = corners k)
    (h141 : ∀ b p, v141 (ix2 b p) = 1#32) (h143 : ∀ b p, v143 (ix2 b p) = 0#1) :
    fn_part7 (F := Ideal) s v0 v2 v123 v141 v143 c (ix1 0) = 0#1 := by
  unfold fn_part7
  refine part8 s hs _ _ _ _ _ h0 (fun b p => ?_) (fun b p k => ?_) (fun b p k => ?_) (fun b p k => ?_)
  · pointwise [fn_where]
    rw [h141, h143]
    rfl
  all_goals
    obtain rfl | rfl : k = 0 ∨ k = 1 := by revert k; decide
    all_goals
      pointwise []
      simp only [h2, h123]
      first
        | exact mid_zero
        | exact sub_zero (1 : EReal)
        | rfl

/-- Every prior has the class one: its box's label is zero, and its overlap is one or two. -/
theorem part6 (v0 : FVec Ideal S32x8732x4 .f32) (v2 : FVec Ideal S8732x4 .f32) (v6 : FVec Ideal S32x20 .f32) (v8 : IVec S32x1 32)
    (v91 : FVec Ideal S32x8732 .f32) (v108 : IVec S32x8732 32) (v123 : FVec Ideal S32x8732x4 .f32) (v125 : IVec S32x1 1)
    (h0 : ∀ b p k, v0 (ix3 b p k) = 1) (h2 : ∀ p k, v2 (ix2 p k) = middle k) (h6 : ∀ b o, v6 (ix2 b o) = 0)
    (h91 : ∀ b p, v91 (ix2 b p) = 1 ∨ v91 (ix2 b p) = two) (h123 : ∀ b p k, v123 (ix3 b p k) = corners k) :
    fn_part6 (F := Ideal) s v0 v2 v6 v8 v91 v108 v123 v125 (ix1 0) = 0#1 := by
  unfold fn_part6
  refine part7 s hs _ _ _ _ _ _ h0 h2 h123 (fun b p => ?_) (fun b p => ?_)
  · pointwise []
    rw [gather_const v6 _ 0 h6 b p]
    exact congrArg (IntOp.addi · 1#32) label_zero
  · pointwise []
    have h1 : ¬ ((1 : EReal) < half) := by
      rw [half_eq, ← EReal.coe_one, EReal.coe_lt_coe_iff]
      norm_num
    have h2 : ¬ (two < half) := by
      rw [half_eq, two_eq, EReal.coe_lt_coe_iff]
      norm_num
    rcases h91 b p with h | h
    · rw [h, decide_eq_false h1]
      rfl
    · rw [h, decide_eq_false h2]
      rfl

/-- The matched box of every prior has the corners that every box has. -/
theorem part5 (v0 : FVec Ideal S32x8732x4 .f32) (v2 : FVec Ideal S8732x4 .f32) (v4 : FVec Ideal S32x20x4 .f32) (v6 : FVec Ideal S32x20 .f32) (v8 : IVec S32x1 32)
    (v75 : IVec S32x8732 32) (v91 : FVec Ideal S32x8732 .f32) (v93 : IVec S32x20 32) (v105 v106 : IVec S32x20x1 32)
    (h0 : ∀ b p k, v0 (ix3 b p k) = 1) (h2 : ∀ p k, v2 (ix2 p k) = middle k) (h4 : ∀ b o k, v4 (ix3 b o k) = corners k)
    (h6 : ∀ b o, v6 (ix2 b o) = 0) (h91 : ∀ b p, v91 (ix2 b p) = 1 ∨ v91 (ix2 b p) = two) :
    fn_part5 (F := Ideal) s v0 v2 v4 v6 v8 v75 v91 v93 v105 v106 (ix1 0) = 0#1 := by
  unfold fn_part5
  exact part6 s hs _ _ _ _ _ _ _ _ h0 h2 h6 h91 (gather_alike v4 _ corners h4)

/-- The overlap each prior is matched at is one, or two where a box claims it. -/
theorem part4 (v0 : FVec Ideal S32x8732x4 .f32) (v2 : FVec Ideal S8732x4 .f32) (v4 : FVec Ideal S32x20x4 .f32) (v6 : FVec Ideal S32x20 .f32) (v8 : IVec S32x1 32)
    (v73 : IVec S32x20 32) (v74 : FVec Ideal S32x8732 .f32) (v75 : IVec S32x8732 32) (v85 : IVec S32x20 32) (v87 : IVec S32x20x1 32)
    (h0 : ∀ b p k, v0 (ix3 b p k) = 1) (h2 : ∀ p k, v2 (ix2 p k) = middle k) (h4 : ∀ b o k, v4 (ix3 b o k) = corners k)
    (h6 : ∀ b o, v6 (ix2 b o) = 0) (h74 : ∀ b p, v74 (ix2 b p) = 1) :
    fn_part4 (F := Ideal) s v0 v2 v4 v6 v8 v73 v74 v75 v85 v87 (ix1 0) = 0#1 := by
  unfold fn_part4
  exact part5 s hs _ _ _ _ _ _ _ _ _ _ h0 h2 h4 h6 (scatter_const v74 _ _ 1 two h74 fun b o => by pointwise [])

/-- The best overlap of each prior is one. -/
theorem part3 (v0 : FVec Ideal S32x8732x4 .f32) (v2 : FVec Ideal S8732x4 .f32) (v4 : FVec Ideal S32x20x4 .f32) (v6 : FVec Ideal S32x20 .f32) (v8 : IVec S32x1 32)
    (v42 : FVec Ideal S32x20x8732 .f32) (v67 : FVec Ideal S1x1x8732 .f32) (v68 : FVec Ideal S32x20x8732 .f32)
    (h0 : ∀ b p k, v0 (ix3 b p k) = 1) (h2 : ∀ p k, v2 (ix2 p k) = middle k) (h4 : ∀ b o k, v4 (ix3 b o k) = corners k)
    (h6 : ∀ b o, v6 (ix2 b o) = 0) (h42 : ∀ b o p, v42 (ix3 b o p) = 1) (h67 : ∀ p, v67 (ix3 0 0 p) = 1) (h68 : ∀ b o p, v68 (ix3 b o p) = 1) :
    fn_part3 (F := Ideal) s v0 v2 v4 v6 v8 v42 v67 v68 (ix1 0) = 0#1 := by
  unfold fn_part3
  refine part4 s hs _ _ _ _ _ _ _ _ _ _ h0 h2 h4 h6 (fun b p => ?_)
  pointwise []
  simp only [h42, h67, h68, union_one, over_one]
  exact fold_max_eq fun _ : Fin 20 => (1 : EReal)

/-- The areas are one. -/
theorem part2 (v0 : FVec Ideal S32x8732x4 .f32) (v2 : FVec Ideal S8732x4 .f32) (v4 : FVec Ideal S32x20x4 .f32) (v6 : FVec Ideal S32x20 .f32) (v8 : IVec S32x1 32)
    (v19 : FVec Ideal S8732x4 .f32) (v42 : FVec Ideal S32x20x8732 .f32) (v44 : FVec Ideal S32x20 .f32)
    (h0 : ∀ b p k, v0 (ix3 b p k) = 1) (h2 : ∀ p k, v2 (ix2 p k) = middle k) (h4 : ∀ b o k, v4 (ix3 b o k) = corners k)
    (h6 : ∀ b o, v6 (ix2 b o) = 0) (h19 : ∀ p k, v19 (ix2 p k) = corners k) (h42 : ∀ b o p, v42 (ix3 b o p) = 1) (h44 : ∀ b o, v44 (ix2 b o) = 1) :
    fn_part2 (F := Ideal) s v0 v2 v4 v6 v8 v19 v42 v44 (ix1 0) = 0#1 := by
  unfold fn_part2
  refine part3 s hs _ _ _ _ _ _ _ _ h0 h2 h4 h6 h42 (fun p => ?_) (fun b o p => ?_)
  all_goals
    pointwise []
    simp only [h4, h19, h44]
    simp [corners]

/-- Every prior shares all its area with every box. -/
theorem part1 (v0 : FVec Ideal S32x8732x4 .f32) (v2 : FVec Ideal S8732x4 .f32) (v4 : FVec Ideal S32x20x4 .f32) (v6 : FVec Ideal S32x20 .f32) (v8 : IVec S32x1 32)
    (v19 : FVec Ideal S8732x4 .f32) (v21 : FVec Ideal S32x20x1x2 .f32)
    (h0 : ∀ b p k, v0 (ix3 b p k) = 1) (h2 : ∀ p k, v2 (ix2 p k) = middle k) (h4 : ∀ b o k, v4 (ix3 b o k) = corners k)
    (h6 : ∀ b o, v6 (ix2 b o) = 0) (h19 : ∀ p k, v19 (ix2 p k) = corners k) (h21 : ∀ b o k, v21 (ix4 b o 0 k) = 1) :
    fn_part1 (F := Ideal) s v0 v2 v4 v6 v8 v19 v21 (ix1 0) = 0#1 := by
  unfold fn_part1
  refine part2 s hs _ _ _ _ _ _ _ _ h0 h2 h4 h6 h19 (fun b o p => ?_) (fun b o => ?_)
  · pointwise [fn_clip]
    simp only [h4, h19, h21]
    have hz : (id (constant (F := Ideal) S_ FTy.f32 0#32) ix0 : EReal) = 0 := zero_eq
    simp [corners, hz]
  · pointwise []
    rw [h4]
    rfl

/-- At predictions of one, priors that are the unit square, and boxes that are it too with the label zero, the localization
    loss of reference.py is not zero. -/
theorem loss_ne (a0 a2 : FVec Ideal S4 .f32) (a1 : FVec Ideal S81 .f32) (a3 : FVec Ideal S5 .f32) (a4 : FVec Ideal S32x1x8732 .f32)
    (h0 : ∀ k, a0 (ix1 k) = 1) (h2 : ∀ k, a2 (ix1 k) = middle k) (h3 : ∀ k : Fin 4, a3 (ix1 k.castSucc) = corners k) (h3' : a3 (ix1 4) = 0) :
    fn (F := Ideal) a0 a1 a2 a3 a4 s (ix1 0) = 0#1 := by
  unfold fn
  refine part1 s hs _ _ _ _ _ _ _ (fun b p k => ?_) (fun p k => ?_) (fun b o k => ?_) (fun b o => ?_) (fun p k => ?_) (fun b o k => ?_)
  · pointwise []
    exact h0 k
  · pointwise []
    exact h2 k
  · pointwise []
    exact h3 k
  · pointwise []
    exact h3'
  · obtain rfl | rfl | rfl | rfl : k = 0 ∨ k = 1 ∨ k = 2 ∨ k = 3 := by revert k; decide
    all_goals
      pointwise []
      simp only [h2]
      first
        | exact (congrArg (half - ·) half_of_one).trans half_sub
        | exact (congrArg (half + ·) half_of_one).trans half_add
  · obtain rfl | rfl : k = 0 ∨ k = 1 := by revert k; decide
    · pointwise []
      exact h3 2
    · pointwise []
      exact h3 3

end Cert.Alike

end
-- ==== Proof.Alike.Disproof.lean ====
module

public import proofs.«01_k».proof.Proof.Alike.KernelRun
public import proofs.«01_k».proof.Proof.Alike.Loss
public import proofs.«01_k».proof.Defs

@[expose] public section

set_option maxRecDepth 16384

noncomputable section

namespace Cert.Alike

open Idealize.ShloMosaic Idealize.ShloMosaic.TcCoe Idealize.SL.Sem
open Cert.AlikeIdeal Cert.AlikeIdeal.Gen Cert.Match

/-- The boxes of the counterexample: the unit square, with the label zero. -/
theorem arg3_eq : ∀ k : Fin 5, Cx_AlikeIdeal.arg3 (F := Ideal) (ix1 k) = (![0, 0, 1, 1, 0] : Fin 5 → EReal) k := by
  intro k
  obtain rfl | rfl | rfl | rfl | rfl : k = 0 ∨ k = 1 ∨ k = 2 ∨ k = 3 ∨ k = 4 := by revert k; decide
  · exact zero_eq
  · exact zero_eq
  · exact one_eq
  · exact one_eq
  · exact zero_eq

/-- The priors of the counterexample: the unit square. -/
theorem arg2_eq : ∀ k : Fin 4, Cx_AlikeIdeal.arg2 (F := Ideal) (ix1 k) = middle k := by
  intro k
  obtain rfl | rfl | rfl | rfl : k = 0 ∨ k = 1 ∨ k = 2 ∨ k = 3 := by revert k; decide
  · rfl
  · rfl
  · exact one_eq
  · exact one_eq

/-- The predictions of the counterexample. -/
theorem arg0_eq : ∀ k : Fin 4, Cx_AlikeIdeal.arg0 (F := Ideal) (ix1 k) = 1 := by
  intro k
  obtain rfl | rfl | rfl | rfl : k = 0 ∨ k = 1 ∨ k = 2 ∨ k = 3 := by revert k; decide
  all_goals exact one_eq

/-- A box that is the prior has the regression target zero. -/
theorem enc_zero (T : Fin 20 → Fin 5 → EReal) (Q : Fin 8732 → Fin 4 → EReal)
    (hT : ∀ o k, T o k = (![0, 0, 1, 1, 0] : Fin 5 → EReal) k) (hQ : ∀ p k, Q p k = middle k) (p : Fin 8732) (k : Fin 4) :
    enc T Q p k = 0 := by
  have hm : encMid 0 1 half 1 = 0 := by
    unfold encMid
    rw [zero_add, one_mul, half_sub, mul_one, div_zero_left tenth_ne]
  have hs : encSide 0 1 1 = 0 := by
    unfold encSide
    rw [sub_zero, over_one, max_eq_left tiny_le, log_one, div_zero_left fifth_ne]
  unfold enc
  simp only [hT, hQ]
  obtain rfl | rfl | rfl | rfl : k = 0 ∨ k = 1 ∨ k = 2 ∨ k = 3 := by revert k; decide
  · exact hm
  · exact hm
  · exact hs
  · exact hs

/-- The sum that the kernel leaves is zero. -/
theorem lossL_zero (T : Fin 20 → Fin 5 → EReal) (Q : Fin 8732 → Fin 4 → EReal) (L : Fin 20 → Fin 80)
    (hT : ∀ o k, T o k = (![0, 0, 1, 1, 0] : Fin 5 → EReal) k) (hQ : ∀ p k, Q p k = middle k) : lossL T Q L = 0 := by
  have hz : sl1 0 = 0 := by
    unfold sl1
    rw [neg_zero, max_self, if_pos zero_lt_one, mul_zero]
  unfold lossL
  simp only [enc_zero T Q hT hQ, sub_zero, hz, zero_mul, Finset.sum_const_zero]

/-- The claim that the kernel leaves the localization loss is false at the counterexample. -/
theorem disproof : Cert.disproves_holds_AlikeIdeal_localizes (hAlikeIdeal := Cert.AlikeIdeal.Gen.facts) (hPost_localizes := Cert.Post_localizes.Gen.facts) := by
  intro m g hm
  refine ⟨trivial, (θ_run _ _ _).mono (fun r h hall => ?_) (run_main m g)⟩
  obtain ⟨e0, -, e2, e3⟩ := hm 0
  have hT : ∀ o k, boxRows (m (((0 : Dev nD).tc : Thread nD τ).loc main_arg3)) o k = (![0, 0, 1, 1, 0] : Fin 5 → EReal) k := fun o k => by
    unfold boxRows
    rw [e3]
    exact arg3_eq k
  have hQ : ∀ p k, priorRows (m (((0 : Dev nD).tc : Thread nD τ).loc main_arg2)) p k = middle k := fun p k => by
    unfold priorRows
    rw [e2]
    exact arg2_eq k
  have hf := ((h 0).1 5).trans (final5 m 0 (fun _ => 0) fun o => by rw [hT]; simp)
  have hs : r.2.mem (((0 : Dev nD).tc : Thread nD τ).loc main_v6_1) (ix3 0 0 0) = (0 : EReal) :=
    (congrFun hf (ix3 0 0 0)).trans (lossL_zero _ _ _ hT hQ)
  have hp := congrFun (hall 0) (ix1 0)
  rw [e0, e2, e3] at hp
  exact absurd ((loss_ne _ hs _ _ _ _ _ arg0_eq arg2_eq (fun k => by
    refine (arg3_eq k.castSucc).trans ?_
    obtain rfl | rfl | rfl | rfl : k = 0 ∨ k = 1 ∨ k = 2 ∨ k = 3 := by revert k; decide
    all_goals rfl) (arg3_eq 4)).symm.trans hp) (by decide)

end Cert.Alike

end
-- ==== Proof.lean ====
/- The certificate: the frames of the kernel's first call and of the reference, their equality over the extended reals,
the same for the second call bit for bit, and that the first call does not leave the localization loss. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_drawn
public import proofs.«01_k».proof.Proof.Gen.Mining
public import proofs.«01_k».proof.Proof.Gen.Mining.Skeleton
public import proofs.«01_k».proof.Proof.Gen.Mining.Launch
public import proofs.«01_k».proof.Proof.Gen.Mining.Points
public import proofs.«01_k».proof.Proof.Gen.Mining.Frame
public import proofs.«01_k».proof.Proof.Gen.MiningReference
public import proofs.«01_k».proof.Proof.Gen.MiningReference.Skeleton
public import proofs.«01_k».proof.Proof.Gen.MiningReference.Launch
public import proofs.«01_k».proof.Proof.Gen.MiningReference.Points
public import proofs.«01_k».proof.Proof.Gen.MiningReference.Frame
public import proofs.«01_k».proof.Proof.Gen.Pre_mineable
public import proofs.«01_k».proof.Proof.Gen.AlikeIdeal
public import proofs.«01_k».proof.Proof.Gen.AlikeIdeal.Skeleton
public import proofs.«01_k».proof.Proof.Gen.AlikeIdeal.Launch
public import proofs.«01_k».proof.Proof.Gen.AlikeIdeal.Points
public import proofs.«01_k».proof.Proof.Gen.AlikeIdeal.Frame
public import proofs.«01_k».proof.Proof.Gen.Post_localizes
public import proofs.«01_k».proof.Proof.Equation
public import proofs.«01_k».proof.Proof.Mining.Equation
public import proofs.«01_k».proof.Proof.Alike.Disproof
public import Idealize.ShloMosaic.Adequacy
public import Idealize.ShloMosaic.Init

@[expose] public section

noncomputable section

namespace Cert.Proof

open Idealize.ShloMosaic Idealize.SL.Sem Cert.Kernel

/-- The reference runs, leaves its arguments unchanged and uses no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2, sem_eq_zero_of_no_sems (by decide) r.2⟩) (Cert.ReferenceIdeal.Value.run m g)

/-- All the claims. -/
theorem claim : Cert.Claim :=
  ⟨Cert.Kernel.Gen.facts, Cert.KernelIdeal.Gen.facts, Cert.ReferenceIdeal.Gen.facts, Cert.Mining.Gen.facts, Cert.MiningReference.Gen.facts,
    Cert.AlikeIdeal.Gen.facts, Cert.Pre_drawn.Gen.facts, Cert.Pre_mineable.Gen.facts, Cert.Post_localizes.Gen.facts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Mining.Gen.frame m g, fun m g _ => Cert.Mining.Gen.frame m g, fun m g _ => Cert.MiningReference.Gen.frame m g,
    trivial, Cert.RefValue.algebraic, Cert.Mine.bitexact, Cert.Alike.disproof⟩

end Cert.Proof

end
